-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  IdealRules.named_const.Statement Cert.KernelIdeal.κ "floor_of_square" .f32 0x179ABE15#32 ((5316911940649 / 5316911983139663491615228241121378304 : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)) (v3 : (c : Dev Cert.Kernel6Ideal.nD) → Buf (Elt Ideal) ((c.tc : Thread Cert.Kernel6Ideal.nD Cert.Kernel6Ideal.τ).loc Cert.Kernel6Ideal.main_v27_3)) (v4 : (c : Dev Cert.Kernel6Ideal.nD) → Buf (Elt Ideal) ((c.tc : Thread Cert.Kernel6Ideal.nD Cert.Kernel6Ideal.τ).loc Cert.Kernel6Ideal.main_v27_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_v27_3) = v3 c
          ∧ r.2.mem ((c.tc : Thread Cert.Kernel6Ideal.nD Cert.Kernel6Ideal.τ).loc Cert.Kernel6Ideal.main_v27_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_v37) = v3 c
          ∧ r.2.mem ((c.tc : Thread Cert.Reference6Ideal.nD Cert.Reference6Ideal.τ).loc Cert.Reference6Ideal.main_v40) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "floor_of_square" .f32 0x179ABE15#32 ((5316911940649 / 5316911983139663491615228241121378304 : ℝ) : EReal)

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v17_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
-- ==== Pre_finite.lean ====
abbrev S16x1696 : Shape := ⟨2, ![16, 1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S16x1024 : Shape := ⟨2, ![16, 1024]⟩
abbrev S_ : Shape := ⟨0, ![]⟩

class Facts : Prop where
  slices_S16x1696_S16x1024_0_512 : S16x1696.Slices ![0, 512] S16x1024
  bcast_S_S16x1024 : S_.BroadcastsInDim S16x1024 (![] : Fin 0 → Fin S16x1024.rank)
  reducesTo_S16x1024_S_d0_1 : S16x1024.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S16x1696 .f32) (main_arg1 : FVec F S512 .f32) (main_arg2 : FVec F S32x512 .f32) (main_arg3 : FVec F S512 .f32) (main_arg4 : FVec F S32x512 .f32) (main_arg5 : FVec F S96x512 .f32) (main_arg6 : FVec F S512 .f32) (main_arg7 : FVec F S512 .f32) (main_arg8 : FVec F S8x64 .f32) (main_arg9 : FVec F S512 .f32) (main_arg10 : FVec F S512 .f32) : IVec S_ 1 :=
  let main_v0 : FVec F S16x1024 .f32 := (extractStridedSlice S16x1024 ![0, 512] · slices_S16x1696_S16x1024_0_512) main_arg0
  let main_v1 : FVec F S16x1024 .f32 := Host.absf main_v0
  let main_cst : FVec F S_ .f32 := constant S_ .f32 0x7F800000#32
  let main_v2 : FVec F S16x1024 .f32 := broadcastInDim S16x1024 ![] bcast_S_S16x1024 main_cst
  let main_v3 : IVec S16x1024 1 := cmpf .olt main_v1 main_v2
  let main_c : IVec S_ 1 := constantI S_ 1 1#1
  let main_v4 : IVec S_ 1 := (fun x v => Host.reduce IntOp.andi x v reducesTo_S16x1024_S_d0_1 h_S_) main_v3 main_c
  let main_v5 : FVec F S512 .f32 := Host.absf main_arg7
  let main_cst_0 : FVec F S_ .f32 := constant S_ .f32 0x7F800000#32
  let main_v6 : FVec F S512 .f32 := broadcastInDim S512 ![] bcast_S_S512 main_cst_0
  let main_v7 : IVec S512 1 := cmpf .olt main_v5 main_v6
  let main_c_1 : IVec S_ 1 := constantI S_ 1 1#1
  let main_v8 : IVec S_ 1 := (fun x v => Host.reduce IntOp.andi x v reducesTo_S512_S_d0 h_S_) main_v7 main_c_1
  let main_v9 : IVec S_ 1 := andi main_v4 main_v8
  main_v9
-- ==== Kernel.lean ====
abbrev S8x4096x1696 : Shape := ⟨3, ![8, 4096, 1696]⟩
abbrev S8x64x64 : Shape := ⟨3, ![8, 64, 64]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S8x4096x1536 : Shape := ⟨3, ![8, 4096, 1536]⟩
abbrev S8x4096x160 : Shape := ⟨3, ![8, 4096, 160]⟩
abbrev S_ : Shape := ⟨0, ![]⟩
abbrev S8x4096x256 : Shape := ⟨3, ![8, 4096, 256]⟩
abbrev S1x512 : Shape := ⟨2, ![1, 512]⟩
abbrev S256x512 : Shape := ⟨2, ![256, 512]⟩
abbrev S4x2x64x64 : Shape := ⟨4, ![4, 2, 64, 64]⟩
abbrev S4x64x64 : Shape := ⟨3, ![4, 64, 64]⟩
abbrev S4x1x64x64 : Shape := ⟨4, ![4, 1, 64, 64]⟩
abbrev S4x64x128 : Shape := ⟨3, ![4, 64, 128]⟩
abbrev S4x128x128 : Shape := ⟨3, ![4, 128, 128]⟩
abbrev S8x4096x512 : Shape := ⟨3, ![8, 4096, 512]⟩
abbrev S8x4x128x128 : Shape := ⟨4, ![8, 4, 128, 128]⟩
abbrev S1x512x1536 : Shape := ⟨3, ![1, 512, 1536]⟩
abbrev S1x512x256 : Shape := ⟨3, ![1, 512, 256]⟩
abbrev S1x512x512 : Shape := ⟨3, ![1, 512, 512]⟩
abbrev S1x4x128x128 : Shape := ⟨4, ![1, 4, 128, 128]⟩
abbrev S512x512 : Shape := ⟨2, ![512, 512]⟩
abbrev S128x128 : Shape := ⟨2, ![128, 128]⟩
abbrev S64x64 : Shape := ⟨2, ![64, 64]⟩
abbrev S1x256x1536 : Shape := ⟨3, ![1, 256, 1536]⟩
abbrev S256x1536 : Shape := ⟨2, ![256, 1536]⟩
abbrev S1x256x256 : Shape := ⟨3, ![1, 256, 256]⟩
abbrev S256x256 : Shape := ⟨2, ![256, 256]⟩
abbrev S256x128 : Shape := ⟨2, ![256, 128]⟩
abbrev S64x512 : Shape := ⟨2, ![64, 512]⟩
abbrev S64x128 : Shape := ⟨2, ![64, 128]⟩
abbrev S1x128 : Shape := ⟨2, ![1, 128]⟩
abbrev S128x256 : Shape := ⟨2, ![128, 256]⟩
abbrev S64x256 : Shape := ⟨2, ![64, 256]⟩
abbrev S192x128 : Shape := ⟨2, ![192, 128]⟩
abbrev S1x128x128 : Shape := ⟨3, ![1, 128, 128]⟩
abbrev S1x256x512 : Shape := ⟨3, ![1, 256, 512]⟩

abbrev nBuf : Space → Nat
  | .hbm => 46
  | .vmem => 27
  | .smem => 0
  | _ => 0

abbrev bufTy : (tb : Table) → Fin (tcTables nBuf tb) → BufTy
  | .hbm, ⟨0, _⟩ => ⟨S8x4096x1696, .f32⟩
  | .hbm, ⟨1, _⟩ => ⟨S8x64x64, .f32⟩
  | .hbm, ⟨2, _⟩ => ⟨S512, .f32⟩
  | .hbm, ⟨3, _⟩ => ⟨S32x512, .f32⟩
  | .hbm, ⟨4, _⟩ => ⟨S512, .f32⟩
  | .hbm, ⟨5, _⟩ => ⟨S32x512, .f32⟩
  | .hbm, ⟨6, _⟩ => ⟨S96x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S8x4096x1536, .f32⟩
  | .hbm, ⟨13, _⟩ => ⟨S8x4096x160, .f32⟩
  | .hbm, ⟨14, _⟩ => ⟨S_, .i32⟩
  | .hbm, ⟨15, _⟩ => ⟨S_, .f32⟩
  | .hbm, ⟨16, _⟩ => ⟨S8x4096x256, .f32⟩
  | .hbm, ⟨17, _⟩ => ⟨S1x512, .f32⟩
  | .hbm, ⟨18, _⟩ => ⟨S_, .i32⟩
  | .hbm, ⟨19, _⟩ => ⟨S_, .f32⟩
  | .hbm, ⟨20, _⟩ => ⟨S256x512, .f32⟩
  | .hbm, ⟨21, _⟩ => ⟨S1x512, .f32⟩
  | .hbm, ⟨22, _⟩ => ⟨S_, .i32⟩
  | .hbm, ⟨23, _⟩ => ⟨S_, .f32⟩
  | .hbm, ⟨24, _⟩ => ⟨S256x512, .f32⟩
  | .hbm, ⟨25, _⟩ => ⟨S_, .i32⟩
  | .hbm, ⟨26, _⟩ => ⟨S_, .f32⟩
  | .hbm, ⟨27, _⟩ => ⟨S256x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S8x64x64, .f32⟩
  | .hbm, ⟨34, _⟩ => ⟨S4x2x64x64, .f32⟩
  | .hbm, ⟨35, _⟩ => ⟨S_, .f32⟩
  | .hbm, ⟨36, _⟩ => ⟨S4x64x64, .f32⟩
  | .hbm, ⟨37, _⟩ => ⟨S4x1x64x64, .f32⟩
  | .hbm, ⟨38, _⟩ => ⟨S4x64x64, .f32⟩
  | .hbm, ⟨39, _⟩ => ⟨S4x64x128, .f32⟩
  | .hbm, ⟨40, _⟩ => ⟨S4x1x64x64, .f32⟩
  | .hbm, ⟨41, _⟩ => ⟨S4x64x64, .f32⟩
  | .hbm, ⟨42, _⟩ => ⟨S4x64x128, .f32⟩
  | .hbm, ⟨43, _⟩ => ⟨S4x128x128, .f32⟩
  | .hbm, ⟨44, _⟩ => ⟨S8x4096x512, .bf16⟩
  | .hbm, ⟨45, _⟩ => ⟨S8x4x128x128, .f32⟩
  | .local _ .vmem, ⟨0, _⟩ => ⟨S1x512x1536, .f32⟩
  | .local _ .vmem, ⟨1, _⟩ => ⟨S1x512x1536, .f32⟩
  | .local _ .vmem, ⟨2, _⟩ => ⟨S1x512x256, .f32⟩
  | .local _ .vmem, ⟨3, _⟩ => ⟨S1x512x256, .f32⟩
  | .local _ .vmem, ⟨4, _⟩ => ⟨S4x128x128, .f32⟩
  | .local _ .vmem, ⟨5, _⟩ => ⟨S1x512, .f32⟩
  | .local _ .vmem, ⟨6, _⟩ => ⟨S256x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512x512, .bf16⟩
  | .local _ .vmem, ⟨16, _⟩ => ⟨S1x512x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S8x4096x1696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_v6 : Ref sig .tc := ⟨.hbm, 24, rfl⟩
abbrev main_c_2 : Ref sig .tc := ⟨.hbm, 25, rfl⟩
abbrev main_call3_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "floor_of_square" => some ((5316911940649 / 5316911983139663491615228241121378304 : ℝ) : EReal)
  | _ => none
-- ==== ReferenceIdeal.lean ====
abbrev S8x4096x1696 : Shape := ⟨3, ![8, 4096, 1696]⟩
abbrev S8x64x64 : Shape := ⟨3, ![8, 64, 64]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S8x8x64x64 : Shape := ⟨4, ![8, 8, 64, 64]⟩
abbrev S4096x8x1696 : Shape := ⟨3, ![4096, 8, 1696]⟩
abbrev S_ : Shape := ⟨0, ![]⟩
abbrev S4096x8x512 : Shape := ⟨3, ![4096, 8, 512]⟩
abbrev S1x8x1696 : Shape := ⟨3, ![1, 8, 1696]⟩
abbrev S8x1696 : Shape := ⟨2, ![8, 1696]⟩
abbrev S8x512 : Shape := ⟨2, ![8, 512]⟩
abbrev S8x32 : Shape := ⟨2, ![8, 32]⟩
abbrev S8x96 : Shape := ⟨2, ![8, 96]⟩
abbrev S1x512 : Shape := ⟨2, ![1, 512]⟩
abbrev S8x8x64 : Shape := ⟨3, ![8, 8, 64]⟩
abbrev S8x8 : Shape := ⟨2, ![8, 8]⟩
abbrev S8x8x1 : Shape := ⟨3, ![8, 8, 1]⟩
abbrev S8x8x1x64 : Shape := ⟨4, ![8, 8, 1, 64]⟩
abbrev S8x8x64x1 : Shape := ⟨4, ![8, 8, 64, 1]⟩
abbrev S1x8x64 : Shape := ⟨3, ![1, 8, 64]⟩
abbrev S1x8x512 : Shape := ⟨3, ![1, 8, 512]⟩
abbrev S8x4x2x64x64 : Shape := ⟨5, ![8, 4, 2, 64, 64]⟩
abbrev S8x4x64x64 : Shape := ⟨4, ![8, 4, 64, 64]⟩
abbrev S8x4x1x64x64 : Shape := ⟨5, ![8, 4, 1, 64, 64]⟩
abbrev S8x4x64x128 : Shape := ⟨4, ![8, 4, 64, 128]⟩
abbrev S8x4x128x128 : Shape := ⟨4, ![8, 4, 128, 128]⟩
abbrev S8x4096x512 : Shape := ⟨3, ![8, 4096, 512]⟩

abbrev nBuf : Space → Nat
  | .hbm => 200
  | .vmem => 0
  | .smem => 0
  | _ => 0

abbrev hbmTy0_0 (i : Nat) : BufTy := match i % 128 with
  | 0 => ⟨S8x4096x1696, .f32⟩
  | 1 => ⟨S8x64x64, .f32⟩
  | 2 => ⟨S512, .f32⟩
  | 3 => ⟨S32x512, .f32⟩
  | 4 => ⟨S512, .f32⟩
  | 5 => ⟨S32x512, .f32⟩
  | 6 => ⟨S96x512, .f32⟩
  | 7 => ⟨S512, .f32⟩
  | 8 => ⟨S512, .f32⟩
  | 9 => ⟨S8x64, .f32⟩
  | 10 => ⟨S512, .f32⟩
  | 11 => ⟨S512, .f32⟩
  | 12 => ⟨S8x8x64x64, .f32⟩
  | 13 => ⟨S4096x8x1696, .f32⟩
  | 14 => ⟨S_, .f32⟩
  | 15 => ⟨S4096x8x512, .f32⟩
  | 16 => ⟨S_, .i32⟩
  | 17 => ⟨S4096x8x1696, .f32⟩
  | 18 => ⟨S32x512, .f32⟩
  | 19 => ⟨S512, .f32⟩
  | 20 => ⟨S32x512, .f32⟩
  | 21 => ⟨S512, .f32⟩
  | 22 => ⟨S96x512, .f32⟩
  | 23 => ⟨S512, .f32⟩
  | 24 => ⟨S512, .f32⟩
  | 25 => ⟨S512, .f32⟩
  | 26 => ⟨S512, .f32⟩
  | 27 => ⟨S8x64, .f32⟩
  | 28 => ⟨S_, .i32⟩
  | 29 => ⟨S8x8x64x64, .f32⟩
  | 30 => ⟨S4096x8x512, .f32⟩
  | 31 => ⟨S_, .i32⟩
  | 32 => ⟨S_, .i1⟩
  | 33 => ⟨S_, .i32⟩
  | 34 => ⟨S_, .i32⟩
  | 35 => ⟨S1x8x1696, .f32⟩
  | 36 => ⟨S8x1696, .f32⟩
  | 37 => ⟨S8x512, .f32⟩
  | 38 => ⟨S8x512, .f32⟩
  | 39 => ⟨S8x512, .f32⟩
  | 40 => ⟨S8x32, .f32⟩
  | 41 => ⟨S8x32, .f32⟩
  | 42 => ⟨S8x96, .f32⟩
  | 43 => ⟨S8x32, .f32⟩
  | 44 => ⟨S8x512, .f32⟩
  | 45 => ⟨S1x512, .f32⟩
  | 46 => ⟨S8x512, .f32⟩
  | 47 => ⟨S8x512, .f32⟩
  | 48 => ⟨S8x512, .f32⟩
  | 49 => ⟨S_, .f32⟩
  | 50 => ⟨S8x512, .f32⟩
  | 51 => ⟨S8x512, .f32⟩
  | 52 => ⟨S8x512, .f32⟩
  | 53 => ⟨S8x512, .f32⟩
  | 54 => ⟨S8x512, .i1⟩
  | 55 => ⟨S8x512, .f32⟩
  | 56 => ⟨S8x512, .f32⟩
  | 57 => ⟨S8x512, .f32⟩
  | 58 => ⟨S8x512, .f32⟩
  | 59 => ⟨S8x512, .f32⟩
  | 60 => ⟨S8x512, .f32⟩
  | 61 => ⟨S8x512, .f32⟩
  | 62 => ⟨S8x512, .f32⟩
  | 63 => ⟨S8x512, .f32⟩
  | 64 => ⟨S_, .f32⟩
  | 65 => ⟨S8x512, .f32⟩
  | 66 => ⟨S8x512, .f32⟩
  | 67 => ⟨S8x512, .f32⟩
  | 68 => ⟨S8x512, .f32⟩
  | 69 => ⟨S8x512, .f32⟩
  | 70 => ⟨S8x512, .f32⟩
  | 71 => ⟨S1x512, .f32⟩
  | 72 => ⟨S8x512, .f32⟩
  | 73 => ⟨S8x512, .f32⟩
  | 74 => ⟨S8x512, .f32⟩
  | 75 => ⟨S8x512, .f32⟩
  | 76 => ⟨S_, .f32⟩
  | 77 => ⟨S8x512, .f32⟩
  | 78 => ⟨S8x512, .f32⟩
  | 79 => ⟨S_, .f32⟩
  | 80 => ⟨S8x512, .f32⟩
  | 81 => ⟨S8x512, .f32⟩
  | 82 => ⟨S8x96, .f32⟩
  | 83 => ⟨S8x96, .f32⟩
  | 84 => ⟨S_, .f32⟩
  | 85 => ⟨S8x96, .f32⟩
  | 86 => ⟨S8x96, .f32⟩
  | 87 => ⟨S_, .f32⟩
  | 88 => ⟨S8x96, .f32⟩
  | 89 => ⟨S8x96, .f32⟩
  | 90 => ⟨S8x512, .f32⟩
  | 91 => ⟨S1x512, .f32⟩
  | 92 => ⟨S8x512, .f32⟩
  | 93 => ⟨S8x512, .f32⟩
  | 94 => ⟨S8x8x64, .f32⟩
  | 95 => ⟨S8x8x64, .f32⟩
  | 96 => ⟨S_, .f32⟩
  | 97 => ⟨S8x8, .f32⟩
  | 98 => ⟨S8x8x1, .f32⟩
  | 99 => ⟨S8x8x1, .f32⟩
  | 100 => ⟨S_, .f32⟩
  | 101 => ⟨S8x8x1, .f32⟩
  | 102 => ⟨S8x8x1, .f32⟩
  | 103 => ⟨S8x8x64, .f32⟩
  | 104 => ⟨S8x8x64, .f32⟩
  | 105 => ⟨S_, .f32⟩
  | 106 => ⟨S8x512, .f32⟩
  | 107 => ⟨S8x512, .f32⟩
  | 108 => ⟨S1x512, .f32⟩
  | 109 => ⟨S8x512, .f32⟩
  | 110 => ⟨S8x512, .f32⟩
  | 111 => ⟨S_, .f32⟩
  | 112 => ⟨S8x512, .f32⟩
  | 113 => ⟨S8x512, .f32⟩
  | 114 => ⟨S8x512, .f32⟩
  | 115 => ⟨S8x8x64, .f32⟩
  | 116 => ⟨S8x8x64, .f32⟩
  | 117 => ⟨S8x8x64, .f32⟩
  | 118 => ⟨S8x8x64, .f32⟩
  | 119 => ⟨S8x8x64, .f32⟩
  | 120 => ⟨S8x8x64, .f32⟩
  | 121 => ⟨S8x8x64, .f32⟩
  | 122 => ⟨S8x8x1x64, .f32⟩
  | 123 => ⟨S8x8x64x64, .f32⟩
  | 124 => ⟨S8x8x64x64, .f32⟩
  | 125 => ⟨S8x8x64x1, .f32⟩
  | 126 => ⟨S8x8x64, .f32⟩
  | 127 => ⟨S8x8x1x64, .f32⟩
  | _ => ⟨S8x4096x1696, .f32⟩

abbrev hbmTy0_1 (i : Nat) : BufTy := match i % 128 with
  | 0 => ⟨S8x8x64x64, .f32⟩
  | 1 => ⟨S8x8x64x64, .f32⟩
  | 2 => ⟨S8x8x64x64, .f32⟩
  | 3 => ⟨S8x8x64x64, .f32⟩
  | 4 => ⟨S8x8x64x1, .f32⟩
  | 5 => ⟨S8x8x1x64, .f32⟩
  | 6 => ⟨S8x8x64x64, .f32⟩
  | 7 => ⟨S8x8x64x64, .f32⟩
  | 8 => ⟨S8x8x64x64, .f32⟩
  | 9 => ⟨S8x8x64x64, .f32⟩
  | 10 => ⟨S8x8x64, .f32⟩
  | 11 => ⟨S_, .f32⟩
  | 12 => ⟨S8x8, .f32⟩
  | 13 => ⟨S8x8x1, .f32⟩
  | 14 => ⟨S_, .f32⟩
  | 15 => ⟨S8x8x1, .f32⟩
  | 16 => ⟨S8x8x1, .f32⟩
  | 17 => ⟨S8x8x64, .f32⟩
  | 18 => ⟨S8x8x64, .f32⟩
  | 19 => ⟨S8x8x64, .f32⟩
  | 20 => ⟨S_, .f32⟩
  | 21 => ⟨S8x8, .f32⟩
  | 22 => ⟨S8x8x1, .f32⟩
  | 23 => ⟨S_, .f32⟩
  | 24 => ⟨S8x8x1, .f32⟩
  | 25 => ⟨S8x8x1, .f32⟩
  | 26 => ⟨S8x8x64, .f32⟩
  | 27 => ⟨S8x8x64, .f32⟩
  | 28 => ⟨S_, .f32⟩
  | 29 => ⟨S8x8x1, .f32⟩
  | 30 => ⟨S8x8x1, .f32⟩
  | 31 => ⟨S8x8x1, .f32⟩
  | 32 => ⟨S8x8x64, .f32⟩
  | 33 => ⟨S8x8x64, .f32⟩
  | 34 => ⟨S8x512, .f32⟩
  | 35 => ⟨S1x512, .f32⟩
  | 36 => ⟨S8x512, .f32⟩
  | 37 => ⟨S8x512, .f32⟩
  | 38 => ⟨S1x512, .f32⟩
  | 39 => ⟨S8x512, .f32⟩
  | 40 => ⟨S8x512, .f32⟩
  | 41 => ⟨S8x8x64, .f32⟩
  | 42 => ⟨S1x8x64, .f32⟩
  | 43 => ⟨S8x8x64, .f32⟩
  | 44 => ⟨S8x8x64, .f32⟩
  | 45 => ⟨S_, .f32⟩
  | 46 => ⟨S8x8, .f32⟩
  | 47 => ⟨S8x8x1, .f32⟩
  | 48 => ⟨S8x8x64, .f32⟩
  | 49 => ⟨S8x8x64, .f32⟩
  | 50 => ⟨S8x512, .f32⟩
  | 51 => ⟨S8x512, .f32⟩
  | 52 => ⟨S8x512, .f32⟩
  | 53 => ⟨S1x8x512, .f32⟩
  | 54 => ⟨S_, .i32⟩
  | 55 => ⟨S_, .i32⟩
  | 56 => ⟨S4096x8x512, .f32⟩
  | 57 => ⟨S_, .i32⟩
  | 58 => ⟨S_, .i32⟩
  | 59 => ⟨S8x8x64x64, .f32⟩
  | 60 => ⟨S8x4x2x64x64, .f32⟩
  | 61 => ⟨S_, .f32⟩
  | 62 => ⟨S8x4x64x64, .f32⟩
  | 63 => ⟨S8x4x1x64x64, .f32⟩
  | 64 => ⟨S8x4x64x64, .f32⟩
  | 65 => ⟨S8x4x64x128, .f32⟩
  | 66 => ⟨S8x4x1x64x64, .f32⟩
  | 67 => ⟨S8x4x64x64, .f32⟩
  | 68 => ⟨S8x4x64x128, .f32⟩
  | 69 => ⟨S8x4x128x128, .f32⟩
  | 70 => ⟨S8x4096x512, .f32⟩
  | 71 => ⟨S8x4096x512, .bf16⟩
  | _ => ⟨S8x4096x1696, .f32⟩

abbrev hbmTy (i : Nat) : BufTy := match i / 128 with
  | 0 => hbmTy0_0 i
  | 1 => hbmTy0_1 i
  | _ => ⟨S8x4096x1696, .f32⟩

abbrev bufTy : (tb : Table) → Fin (tcTables nBuf tb) → BufTy
  | .hbm, ⟨i, _⟩ => hbmTy i
  | _, _ => ⟨S8x4096x1696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev main_v3_10 : Ref sig .tc := ⟨.hbm, 27, rfl⟩
abbrev main_v3_11 : Ref sig .tc := ⟨.hbm, 28, rfl⟩
abbrev main_v3_12 : Ref sig .tc := ⟨.hbm, 29, rfl⟩
abbrev main_v3_13 : Ref sig .tc := ⟨.hbm, 30, rfl⟩
abbrev main_while0c_c_14 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_call1_cst : Ref sig .tc := ⟨.hbm, 49, rfl⟩
abbrev main_while0b_call1_v0 : Ref sig .tc := ⟨.hbm, 50, rfl⟩
abbrev main_while0b_call1_v1 : Ref sig .tc := ⟨.hbm, 51, rfl⟩
abbrev main_while0b_call1_v2 : Ref sig .tc := ⟨.hbm, 52, rfl⟩
abbrev main_while0b_call1_v3 : Ref sig .tc := ⟨.hbm, 53, rfl⟩
abbrev main_while0b_call1_v4 : Ref sig .tc := ⟨.hbm, 54, rfl⟩
abbrev main_while0b_call1_v5 : Ref sig .tc := ⟨.hbm, 55, rfl⟩
abbrev main_while0b_call1_v6 : Ref sig .tc := ⟨.hbm, 56, rfl⟩
abbrev main_while0b_call1_v7 : Ref sig .tc := ⟨.hbm, 57, rfl⟩
abbrev main_while0b_call1_v8 : Ref sig .tc := ⟨.hbm, 58, rfl⟩
abbrev main_while0b_call1_v9 : Ref sig .tc := ⟨.hbm, 59, rfl⟩
abbrev main_while0b_call1_v10 : Ref sig .tc := ⟨.hbm, 60, rfl⟩
abbrev main_while0b_call1_v11 : Ref sig .tc := ⟨.hbm, 61, rfl⟩
abbrev main_while0b_v29 : Ref sig .tc := ⟨.hbm, 62, rfl⟩
abbrev main_while0b_v30 : Ref sig .tc := ⟨.hbm, 63, rfl⟩
abbrev main_while0b_cst_14 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_v41 : Ref sig .tc := ⟨.hbm, 75, rfl⟩
abbrev main_while0b_cst_15 : Ref sig .tc := ⟨.hbm, 76, rfl⟩
abbrev main_while0b_v42 : Ref sig .tc := ⟨.hbm, 77, rfl⟩
abbrev main_while0b_v43 : Ref sig .tc := ⟨.hbm, 78, rfl⟩
abbrev main_while0b_cst_16 : Ref sig .tc := ⟨.hbm, 79, rfl⟩
abbrev main_while0b_v44 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_cst_17 : Ref sig .tc := ⟨.hbm, 84, rfl⟩
abbrev main_while0b_v48 : Ref sig .tc := ⟨.hbm, 85, rfl⟩
abbrev main_while0b_v49 : Ref sig .tc := ⟨.hbm, 86, rfl⟩
abbrev main_while0b_cst_18 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_v54 : Ref sig .tc := ⟨.hbm, 92, rfl⟩
abbrev main_while0b_v55 : Ref sig .tc := ⟨.hbm, 93, rfl⟩
abbrev main_while0b_v56 : Ref sig .tc := ⟨.hbm, 94, rfl⟩
abbrev main_while0b_v57 : Ref sig .tc := ⟨.hbm, 95, rfl⟩
abbrev main_while0b_cst_19 : Ref sig .tc := ⟨.hbm, 96, rfl⟩
abbrev main_while0b_v58 : Ref sig .tc := ⟨.hbm, 97, rfl⟩
abbrev main_while0b_v59 : Ref sig .tc := ⟨.hbm, 98, rfl⟩
abbrev main_while0b_v60 : Ref sig .tc := ⟨.hbm, 99, rfl⟩
abbrev main_while0b_cst_20 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_cst_21 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_cst_22 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_v86 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_cst_23 : Ref sig .tc := ⟨.hbm, 139, rfl⟩
abbrev main_while0b_v97 : Ref sig .tc := ⟨.hbm, 140, rfl⟩
abbrev main_while0b_v98 : Ref sig .tc := ⟨.hbm, 141, rfl⟩
abbrev main_while0b_cst_24 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_cst_25 : Ref sig .tc := ⟨.hbm, 148, rfl⟩
abbrev main_while0b_v104 : Ref sig .tc := ⟨.hbm, 149, rfl⟩
abbrev main_while0b_v105 : Ref sig .tc := ⟨.hbm, 150, rfl⟩
abbrev main_while0b_cst_26 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_cst_27 : Ref sig .tc := ⟨.hbm, 156, rfl⟩
abbrev main_while0b_v110 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_v115 : Ref sig .tc := ⟨.hbm, 162, rfl⟩
abbrev main_while0b_v116 : Ref sig .tc := ⟨.hbm, 163, rfl⟩
abbrev main_while0b_v117 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_cst_28 : Ref sig .tc := ⟨.hbm, 173, rfl⟩
abbrev main_while0b_v126 : Ref sig .tc := ⟨.hbm, 174, rfl⟩
abbrev main_while0b_v127 : Ref sig .tc := ⟨.hbm, 175, rfl⟩
abbrev main_while0b_v128 : Ref sig .tc := ⟨.hbm, 176, rfl⟩
abbrev main_while0b_v129 : Ref sig .tc := ⟨.hbm, 177, rfl⟩
abbrev main_while0b_v130 : Ref sig .tc := ⟨.hbm, 178, rfl⟩
abbrev main_while0b_v131 : Ref sig .tc := ⟨.hbm, 179, rfl⟩
abbrev main_while0b_v132 : Ref sig .tc := ⟨.hbm, 180, rfl⟩
abbrev main_while0b_call2_v0 : Ref sig .tc := ⟨.hbm, 181, rfl⟩
abbrev main_while0b_call2_c : Ref sig .tc := ⟨.hbm, 182, rfl⟩
abbrev main_while0b_call2_c_0 : Ref sig .tc := ⟨.hbm, 183, rfl⟩
abbrev main_while0b_v133 : Ref sig .tc := ⟨.hbm, 184, rfl⟩
abbrev main_while0b_c_29 : Ref sig .tc := ⟨.hbm, 185, rfl⟩
abbrev main_while0b_v134 : Ref sig .tc := ⟨.hbm, 186, rfl⟩
abbrev main_v4 : Ref sig .tc := ⟨.hbm, 187, rfl⟩
abbrev main_v5 : Ref sig .tc := ⟨.hbm, 188, rfl⟩
abbrev main_cst_0 : Ref sig .tc := ⟨.hbm, 189, rfl⟩
abbrev main_v6 : Ref sig .tc := ⟨.hbm, 190, rfl⟩
abbrev main_v7 : Ref sig .tc := ⟨.hbm, 191, rfl⟩
abbrev main_v8 : Ref sig .tc := ⟨.hbm, 192, rfl⟩
abbrev main_v9 : Ref sig .tc := ⟨.hbm, 193, rfl⟩
abbrev main_v10 : Ref sig .tc := ⟨.hbm, 194, rfl⟩
abbrev main_v11 : Ref sig .tc := ⟨.hbm, 195, rfl⟩
abbrev main_v12 : Ref sig .tc := ⟨.hbm, 196, rfl⟩
abbrev main_v13 : Ref sig .tc := ⟨.hbm, 197, rfl⟩
abbrev main_v14 : Ref sig .tc := ⟨.hbm, 198, rfl⟩
abbrev main_v15 : Ref sig .tc := ⟨.hbm, 199, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S_, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S512x1024 : Shape := ⟨2, ![512, 1024]⟩
abbrev S1024x2816 : Shape := ⟨2, ![1024, 2816]⟩
abbrev S2816x1024 : Shape := ⟨2, ![2816, 1024]⟩
abbrev S32768x1024 : Shape := ⟨2, ![32768, 1024]⟩
abbrev S32768x512 : Shape := ⟨2, ![32768, 512]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 30
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x1024, .f32⟩
  | .hbm, ⟨10, _⟩ => ⟨S512x1024, .f32⟩
  | .hbm, ⟨11, _⟩ => ⟨S512x1024, .bf16⟩
  | .hbm, ⟨12, _⟩ => ⟨S1024x1024, .f32⟩
  | .hbm, ⟨13, _⟩ => ⟨S512x1024, .f32⟩
  | .hbm, ⟨14, _⟩ => ⟨S512x1024, .bf16⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S32768x1024, .f32⟩
  | .hbm, ⟨24, _⟩ => ⟨S8x4096x512, .bf16⟩
  | .hbm, ⟨25, _⟩ => ⟨S32768x512, .bf16⟩
  | .hbm, ⟨26, _⟩ => ⟨S8x4096x512, .bf16⟩
  | .hbm, ⟨27, _⟩ => ⟨S32768x512, .bf16⟩
  | .hbm, ⟨28, _⟩ => ⟨S1x1024, .f32⟩
  | .hbm, ⟨29, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S8x4096x512 : Shape := ⟨3, ![8, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S8x4096x1024, .f32⟩
  | .hbm, ⟨10, _⟩ => ⟨S1024x1024, .f32⟩
  | .hbm, ⟨11, _⟩ => ⟨S8x4096x1024, .f32⟩
  | .hbm, ⟨12, _⟩ => ⟨S8x4096x1024, .f32⟩
  | .hbm, ⟨13, _⟩ => ⟨S1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1024x2816, .f32⟩
  | .hbm, ⟨31, _⟩ => ⟨S1024x2816, .f32⟩
  | .hbm, ⟨32, _⟩ => ⟨S2816x1024, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S_, .f32⟩
  | .hbm, ⟨37, _⟩ => ⟨S8x4096x2816, .f32⟩
  | .hbm, ⟨38, _⟩ => ⟨S8x4096x2816, .f32⟩
  | .hbm, ⟨39, _⟩ => ⟨S_, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | .hbm, ⟨66, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S1x1024x3232 : Shape := ⟨3, ![1, 1024, 3232]⟩
abbrev S1x1696 : Shape := ⟨2, ![1, 1696]⟩
abbrev S1024x3232 : Shape := ⟨2, ![1024, 3232]⟩
abbrev S1024x1536 : Shape := ⟨2, ![1024, 1536]⟩
abbrev S1024x512 : Shape := ⟨2, ![1024, 512]⟩
abbrev S_ : Shape := ⟨0, ![]⟩
abbrev S1024x1024 : Shape := ⟨2, ![1024, 1024]⟩
abbrev S1024x160 : Shape := ⟨2, ![1024, 160]⟩
abbrev S1024x256 : Shape := ⟨2, ![1024, 256]⟩
abbrev S1696 : Shape := ⟨1, ![1696]⟩
abbrev S1536 : Shape := ⟨1, ![1536]⟩
abbrev S1x1536 : Shape := ⟨2, ![1, 1536]⟩
abbrev S160 : Shape := ⟨1, ![160]⟩
abbrev S1x160 : Shape := ⟨2, ![1, 160]⟩
abbrev S1x256 : Shape := ⟨2, ![1, 256]⟩
abbrev S1024 : Shape := ⟨1, ![1024]⟩
abbrev S32768x1024 : Shape := ⟨2, ![32768, 1024]⟩
abbrev S32768x1536 : Shape := ⟨2, ![32768, 1536]⟩
abbrev S32768x256 : Shape := ⟨2, ![32768, 256]⟩
abbrev S512x1024 : Shape := ⟨2, ![512, 1024]⟩
abbrev S512x1536 : Shape := ⟨2, ![512, 1536]⟩
abbrev S512x256 : Shape := ⟨2, ![512, 256]⟩
abbrev S512 : Shape := ⟨1, ![512]⟩
abbrev S512x1 : Shape := ⟨2, ![512, 1]⟩

abbrev nBuf : Space → Nat
  | .hbm => 45
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3232, .f32⟩
  | .hbm, ⟨3, _⟩ => ⟨S1x1696, .f32⟩
  | .hbm, ⟨4, _⟩ => ⟨S1x1696, .f32⟩
  | .hbm, ⟨5, _⟩ => ⟨S1024x3232, .f32⟩
  | .hbm, ⟨6, _⟩ => ⟨S1024x1536, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1536, .f32⟩
  | .hbm, ⟨13, _⟩ => ⟨S1024x1536, .bf16⟩
  | .hbm, ⟨14, _⟩ => ⟨S1024x3232, .f32⟩
  | .hbm, ⟨15, _⟩ => ⟨S1024x1536, .f32⟩
  | .hbm, ⟨16, _⟩ => ⟨S1024x1536, .bf16⟩
  | .hbm, ⟨17, _⟩ => ⟨S1024x3232, .f32⟩
  | .hbm, ⟨18, _⟩ => ⟨S1024x160, .f32⟩
  | .hbm, ⟨19, _⟩ => ⟨S_, .i32⟩
  | .hbm, ⟨20, _⟩ => ⟨S_, .f32⟩
  | .hbm, ⟨21, _⟩ => ⟨S1024x256, .f32⟩
  | .hbm, ⟨22, _⟩ => ⟨S1024x256, .bf16⟩
  | .hbm, ⟨23, _⟩ => ⟨S1696, .f32⟩
  | .hbm, ⟨24, _⟩ => ⟨S1536, .f32⟩
  | .hbm, ⟨25, _⟩ => ⟨S1x1536, .f32⟩
  | .hbm, ⟨26, _⟩ => ⟨S1696, .f32⟩
  | .hbm, ⟨27, _⟩ => ⟨S160, .f32⟩
  | .hbm, ⟨28, _⟩ => ⟨S1x160, .f32⟩
  | .hbm, ⟨29, _⟩ => ⟨S_, .i32⟩
  | .hbm, ⟨30, _⟩ => ⟨S_, .f32⟩
  | .hbm, ⟨31, _⟩ => ⟨S1x256, .f32⟩
  | .hbm, ⟨32, _⟩ => ⟨S1024, .f32⟩
  | .hbm, ⟨33, _⟩ => ⟨S1x1024, .f32⟩
  | .hbm, ⟨34, _⟩ => ⟨S32768x1024, .f32⟩
  | .hbm, ⟨35, _⟩ => ⟨S1x1536, .f32⟩
  | .hbm, ⟨36, _⟩ => ⟨S1x160, .f32⟩
  | .hbm, ⟨37, _⟩ => ⟨S_, .i32⟩
  | .hbm, ⟨38, _⟩ => ⟨S_, .f32⟩
  | .hbm, ⟨39, _⟩ => ⟨S1x256, .f32⟩
  | .hbm, ⟨40, _⟩ => ⟨S32768x1536, .bf16⟩
  | .hbm, ⟨41, _⟩ => ⟨S32768x1536, .f32⟩
  | .hbm, ⟨42, _⟩ => ⟨S32768x256, .f32⟩
  | .hbm, ⟨43, _⟩ => ⟨S1x1536, .f32⟩
  | .hbm, ⟨44, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x256, .bf16⟩
  | .local _ .vmem, ⟨6, _⟩ => ⟨S1x1536, .f32⟩
  | .local _ .vmem, ⟨7, _⟩ => ⟨S1x256, .f32⟩
  | .local _ .vmem, ⟨8, _⟩ => ⟨S1x1536, .f32⟩
  | .local _ .vmem, ⟨9, _⟩ => ⟨S1x256, .f32⟩
  | .local _ .vmem, ⟨10, _⟩ => ⟨S512x1536, .bf16⟩
  | .local _ .vmem, ⟨11, _⟩ => ⟨S512x1536, .bf16⟩
  | .local _ .vmem, ⟨12, _⟩ => ⟨S512x1536, .f32⟩
  | .local _ .vmem, ⟨13, _⟩ => ⟨S512x1536, .f32⟩
  | .local _ .vmem, ⟨14, _⟩ => ⟨S512x256, .f32⟩
  | .local _ .vmem, ⟨15, _⟩ => ⟨S512x256, .f32⟩
  | .local _ .vmem, ⟨16, _⟩ => ⟨S1x1536, .f32⟩
  | .local _ .vmem, ⟨17, _⟩ => ⟨S1x256, .f32⟩
  | .local _ .vmem, ⟨18, _⟩ => ⟨S1x1536, .f32⟩
  | .local _ .vmem, ⟨19, _⟩ => ⟨S1x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_call2_v0 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8x4096x1024 : Shape := ⟨3, ![8, 4096, 1024]⟩
abbrev S1x1024 : Shape := ⟨2, ![1, 1024]⟩
abbrev S1x1024x3232 : Shape := ⟨3, ![1, 1024, 3232]⟩
abbrev S1x1696 : Shape := ⟨2, ![1, 1696]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3232 : Shape := ⟨2, ![1024, 3232]⟩
abbrev S8x4096x3232 : Shape := ⟨3, ![8, 4096, 3232]⟩
abbrev S8x4096x512 : Shape := ⟨3, ![8, 4096, 512]⟩
abbrev S8x4096x1696 : Shape := ⟨3, ![8, 4096, 1696]⟩
abbrev S8x1x1696 : Shape := ⟨3, ![8, 1, 1696]⟩
abbrev S8x4095x1696 : Shape := ⟨3, ![8, 4095, 1696]⟩
abbrev S1696 : Shape := ⟨1, ![1696]⟩
abbrev S1x1x1696 : Shape := ⟨3, ![1, 1, 1696]⟩
abbrev S8x4096x1536 : Shape := ⟨3, ![8, 4096, 1536]⟩
abbrev S32768x1536 : Shape := ⟨2, ![32768, 1536]⟩
abbrev S8x4096x160 : Shape := ⟨3, ![8, 4096, 160]⟩
abbrev S8x4096x256 : Shape := ⟨3, ![8, 4096, 256]⟩
abbrev S32768x256 : Shape := ⟨2, ![32768, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3232, .f32⟩
  | .hbm, ⟨3, _⟩ => ⟨S1x1696, .f32⟩
  | .hbm, ⟨4, _⟩ => ⟨S1x1696, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x3232, .f32⟩
  | .hbm, ⟨23, _⟩ => ⟨S8x4096x3232, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S8x4096x1696, .f32⟩
  | .hbm, ⟨29, _⟩ => ⟨S8x1x1696, .f32⟩
  | .hbm, ⟨30, _⟩ => ⟨S8x4095x1696, .f32⟩
  | .hbm, ⟨31, _⟩ => ⟨S8x4096x1696, .f32⟩
  | .hbm, ⟨32, _⟩ => ⟨S8x4096x1696, .f32⟩
  | .hbm, ⟨33, _⟩ => ⟨S1696, .f32⟩
  | .hbm, ⟨34, _⟩ => ⟨S1x1x1696, .f32⟩
  | .hbm, ⟨35, _⟩ => ⟨S8x4096x1696, .f32⟩
  | .hbm, ⟨36, _⟩ => ⟨S8x4096x1696, .f32⟩
  | .hbm, ⟨37, _⟩ => ⟨S8x4096x1696, .f32⟩
  | .hbm, ⟨38, _⟩ => ⟨S8x4096x1024, .f32⟩
  | .hbm, ⟨39, _⟩ => ⟨S8x4096x1536, .f32⟩
  | .hbm, ⟨40, _⟩ => ⟨S8x4096x1536, .bf16⟩
  | .hbm, ⟨41, _⟩ => ⟨S32768x1536, .bf16⟩
  | .hbm, ⟨42, _⟩ => ⟨S8x4096x1536, .f32⟩
  | .hbm, ⟨43, _⟩ => ⟨S32768x1536, .f32⟩
  | .hbm, ⟨44, _⟩ => ⟨S8x4096x160, .f32⟩
  | .hbm, ⟨45, _⟩ => ⟨S_, .i32⟩
  | .hbm, ⟨46, _⟩ => ⟨S_, .f32⟩
  | .hbm, ⟨47, _⟩ => ⟨S8x4096x256, .f32⟩
  | .hbm, ⟨48, _⟩ => ⟨S32768x256, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel5.lean ====
abbrev S16x1024 : Shape := ⟨2, ![16, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S128x1024 : Shape := ⟨2, ![128, 1024]⟩
abbrev S1024 : Shape := ⟨1, ![1024]⟩
abbrev S1024x2816 : Shape := ⟨2, ![1024, 2816]⟩
abbrev S2816x1024 : Shape := ⟨2, ![2816, 1024]⟩
abbrev S128 : Shape := ⟨1, ![128]⟩
abbrev S128x1 : Shape := ⟨2, ![128, 1]⟩
abbrev S128x2816 : Shape := ⟨2, ![128, 2816]⟩

abbrev nBuf : Space → Nat
  | .hbm => 17
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S1024, .f32⟩
  | .hbm, ⟨9, _⟩ => ⟨S1x1024, .f32⟩
  | .hbm, ⟨10, _⟩ => ⟨S1024x2816, .f32⟩
  | .hbm, ⟨11, _⟩ => ⟨S1024x2816, .bf16⟩
  | .hbm, ⟨12, _⟩ => ⟨S1024x2816, .f32⟩
  | .hbm, ⟨13, _⟩ => ⟨S1024x2816, .bf16⟩
  | .hbm, ⟨14, _⟩ => ⟨S2816x1024, .f32⟩
  | .hbm, ⟨15, _⟩ => ⟨S2816x1024, .bf16⟩
  | .hbm, ⟨16, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S128x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S16x1024 : Shape := ⟨2, ![16, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16 : Shape := ⟨1, ![16]⟩
abbrev S16x1 : Shape := ⟨2, ![16, 1]⟩
abbrev S1024x2816 : Shape := ⟨2, ![1024, 2816]⟩
abbrev S2816x1024 : Shape := ⟨2, ![2816, 1024]⟩
abbrev S16x2816 : Shape := ⟨2, ![16, 2816]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S16x1024, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S16x1, .f32⟩
  | .hbm, ⟨17, _⟩ => ⟨S16x1024, .f32⟩
  | .hbm, ⟨18, _⟩ => ⟨S16x1024, .f32⟩
  | .hbm, ⟨19, _⟩ => ⟨S1x1024, .f32⟩
  | .hbm, ⟨20, _⟩ => ⟨S16x1024, .f32⟩
  | .hbm, ⟨21, _⟩ => ⟨S16x1024, .f32⟩
  | .hbm, ⟨22, _⟩ => ⟨S1024x2816, .f32⟩
  | .hbm, ⟨23, _⟩ => ⟨S1024x2816, .f32⟩
  | .hbm, ⟨24, _⟩ => ⟨S2816x1024, .f32⟩
  | .hbm, ⟨25, _⟩ => ⟨S16x2816, .f32⟩
  | .hbm, ⟨26, _⟩ => ⟨S16x2816, .f32⟩
  | .hbm, ⟨27, _⟩ => ⟨S16x2816, .f32⟩
  | .hbm, ⟨28, _⟩ => ⟨S_, .f32⟩
  | .hbm, ⟨29, _⟩ => ⟨S16x2816, .f32⟩
  | .hbm, ⟨30, _⟩ => ⟨S16x2816, .f32⟩
  | .hbm, ⟨31, _⟩ => ⟨S_, .f32⟩
  | .hbm, ⟨32, _⟩ => ⟨S16x2816, .f32⟩
  | .hbm, ⟨33, _⟩ => ⟨S16x2816, .f32⟩
  | .hbm, ⟨34, _⟩ => ⟨S16x2816, .f32⟩
  | .hbm, ⟨35, _⟩ => ⟨S16x2816, .f32⟩
  | .hbm, ⟨36, _⟩ => ⟨S16x2816, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S16x1024, .f32⟩
  | .hbm, ⟨42, _⟩ => ⟨S_, .i32⟩
  | .hbm, ⟨43, _⟩ => ⟨S_, .f32⟩
  | .hbm, ⟨44, _⟩ => ⟨S128x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_call1_v0 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel6.lean ====
abbrev S16x1024 : Shape := ⟨2, ![16, 1024]⟩
abbrev S1x1024 : Shape := ⟨2, ![1, 1024]⟩
abbrev S1x1024x3232 : Shape := ⟨3, ![1, 1024, 3232]⟩
abbrev S1x1696 : Shape := ⟨2, ![1, 1696]⟩
abbrev S1024x3232 : Shape := ⟨2, ![1024, 3232]⟩
abbrev S1024x1536 : Shape := ⟨2, ![1024, 1536]⟩
abbrev S1024x512 : Shape := ⟨2, ![1024, 512]⟩
abbrev S_ : Shape := ⟨0, ![]⟩
abbrev S1024x1024 : Shape := ⟨2, ![1024, 1024]⟩
abbrev S1024x160 : Shape := ⟨2, ![1024, 160]⟩
abbrev S1024x256 : Shape := ⟨2, ![1024, 256]⟩
abbrev S1696 : Shape := ⟨1, ![1696]⟩
abbrev S1536 : Shape := ⟨1, ![1536]⟩
abbrev S1x1536 : Shape := ⟨2, ![1, 1536]⟩
abbrev S160 : Shape := ⟨1, ![160]⟩
abbrev S1x160 : Shape := ⟨2, ![1, 160]⟩
abbrev S1x256 : Shape := ⟨2, ![1, 256]⟩
abbrev S1024 : Shape := ⟨1, ![1024]⟩
abbrev S128x1024 : Shape := ⟨2, ![128, 1024]⟩
abbrev S128x1536 : Shape := ⟨2, ![128, 1536]⟩
abbrev S128x256 : Shape := ⟨2, ![128, 256]⟩
abbrev S128 : Shape := ⟨1, ![128]⟩
abbrev S128x1 : Shape := ⟨2, ![128, 1]⟩

abbrev nBuf : Space → Nat
  | .hbm => 45
  | .vmem => 16
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x3232, .f32⟩
  | .hbm, ⟨3, _⟩ => ⟨S1x1696, .f32⟩
  | .hbm, ⟨4, _⟩ => ⟨S1024x3232, .f32⟩
  | .hbm, ⟨5, _⟩ => ⟨S1024x1536, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x1536, .f32⟩
  | .hbm, ⟨12, _⟩ => ⟨S1024x1536, .bf16⟩
  | .hbm, ⟨13, _⟩ => ⟨S1024x3232, .f32⟩
  | .hbm, ⟨14, _⟩ => ⟨S1024x1536, .f32⟩
  | .hbm, ⟨15, _⟩ => ⟨S1024x1536, .bf16⟩
  | .hbm, ⟨16, _⟩ => ⟨S1024x3232, .f32⟩
  | .hbm, ⟨17, _⟩ => ⟨S1024x160, .f32⟩
  | .hbm, ⟨18, _⟩ => ⟨S_, .i32⟩
  | .hbm, ⟨19, _⟩ => ⟨S_, .f32⟩
  | .hbm, ⟨20, _⟩ => ⟨S1024x256, .f32⟩
  | .hbm, ⟨21, _⟩ => ⟨S1024x256, .bf16⟩
  | .hbm, ⟨22, _⟩ => ⟨S1696, .f32⟩
  | .hbm, ⟨23, _⟩ => ⟨S1536, .f32⟩
  | .hbm, ⟨24, _⟩ => ⟨S1x1536, .f32⟩
  | .hbm, ⟨25, _⟩ => ⟨S1696, .f32⟩
  | .hbm, ⟨26, _⟩ => ⟨S160, .f32⟩
  | .hbm, ⟨27, _⟩ => ⟨S1x160, .f32⟩
  | .hbm, ⟨28, _⟩ => ⟨S_, .i32⟩
  | .hbm, ⟨29, _⟩ => ⟨S_, .f32⟩
  | .hbm, ⟨30, _⟩ => ⟨S1x256, .f32⟩
  | .hbm, ⟨31, _⟩ => ⟨S1024, .f32⟩
  | .hbm, ⟨32, _⟩ => ⟨S1x1024, .f32⟩
  | .hbm, ⟨33, _⟩ => ⟨S_, .i32⟩
  | .hbm, ⟨34, _⟩ => ⟨S_, .f32⟩
  | .hbm, ⟨35, _⟩ => ⟨S128x1024, .f32⟩
  | .hbm, ⟨36, _⟩ => ⟨S_, .f32⟩
  | .hbm, ⟨37, _⟩ => ⟨S1x1536, .f32⟩
  | .hbm, ⟨38, _⟩ => ⟨S_, .f32⟩
  | .hbm, ⟨39, _⟩ => ⟨S1x256, .f32⟩
  | .hbm, ⟨40, _⟩ => ⟨S128x1536, .bf16⟩
  | .hbm, ⟨41, _⟩ => ⟨S128x1536, .f32⟩
  | .hbm, ⟨42, _⟩ => ⟨S128x256, .f32⟩
  | .hbm, ⟨43, _⟩ => ⟨S1x1536, .f32⟩
  | .hbm, ⟨44, _⟩ => ⟨S1x256, .f32⟩
  | .local _ .vmem, ⟨0, _⟩ => ⟨S128x1024, .f32⟩
  | .local _ .vmem, ⟨1, _⟩ => ⟨S1x1024, .f32⟩
  | .local _ .vmem, ⟨2, _⟩ => ⟨S1024x1536, .bf16⟩
  | .local _ .vmem, ⟨3, _⟩ => ⟨S1024x1536, .bf16⟩
  | .local _ .vmem, ⟨4, _⟩ => ⟨S1024x256, .bf16⟩
  | .local _ .vmem, ⟨5, _⟩ => ⟨S1x1536, .f32⟩
  | .local _ .vmem, ⟨6, _⟩ => ⟨S1x256, .f32⟩
  | .local _ .vmem, ⟨7, _⟩ => ⟨S1x1536, .f32⟩
  | .local _ .vmem, ⟨8, _⟩ => ⟨S1x256, .f32⟩
  | .local _ .vmem, ⟨9, _⟩ => ⟨S128x1536, .bf16⟩
  | .local _ .vmem, ⟨10, _⟩ => ⟨S128x1536, .f32⟩
  | .local _ .vmem, ⟨11, _⟩ => ⟨S128x256, .f32⟩
  | .local _ .vmem, ⟨12, _⟩ => ⟨S1x1536, .f32⟩
  | .local _ .vmem, ⟨13, _⟩ => ⟨S1x256, .f32⟩
  | .local _ .vmem, ⟨14, _⟩ => ⟨S1x1536, .f32⟩
  | .local _ .vmem, ⟨15, _⟩ => ⟨S1x256, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_call1_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_call2_v0 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S16x1024 : Shape := ⟨2, ![16, 1024]⟩
abbrev S1x1024 : Shape := ⟨2, ![1, 1024]⟩
abbrev S1x1024x3232 : Shape := ⟨3, ![1, 1024, 3232]⟩
abbrev S1x1696 : Shape := ⟨2, ![1, 1696]⟩
abbrev S1024 : Shape := ⟨1, ![1024]⟩
abbrev S_ : Shape := ⟨0, ![]⟩
abbrev S16 : Shape := ⟨1, ![16]⟩
abbrev S16x1 : Shape := ⟨2, ![16, 1]⟩
abbrev S1024x3232 : Shape := ⟨2, ![1024, 3232]⟩
abbrev S16x3232 : Shape := ⟨2, ![16, 3232]⟩
abbrev S16x512 : Shape := ⟨2, ![16, 512]⟩
abbrev S16x1696 : Shape := ⟨2, ![16, 1696]⟩
abbrev S17x1696 : Shape := ⟨2, ![17, 1696]⟩
abbrev S1696 : Shape := ⟨1, ![1696]⟩
abbrev S16x1536 : Shape := ⟨2, ![16, 1536]⟩
abbrev S128x1536 : Shape := ⟨2, ![128, 1536]⟩
abbrev S16x160 : Shape := ⟨2, ![16, 160]⟩
abbrev S16x256 : Shape := ⟨2, ![16, 256]⟩
abbrev S128x256 : Shape := ⟨2, ![128, 256]⟩
abbrev S1x1536 : Shape := ⟨2, ![1, 1536]⟩
abbrev S1x160 : Shape := ⟨2, ![1, 160]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1x1024x3232, .f32⟩
  | .hbm, ⟨3, _⟩ => ⟨S1x1696, .f32⟩
  | .hbm, ⟨4, _⟩ => ⟨S1024, .f32⟩
  | .hbm, ⟨5, _⟩ => ⟨S16x1024, .f32⟩
  | .hbm, ⟨6, _⟩ => ⟨S_, .f32⟩
  | .hbm, ⟨7, _⟩ => ⟨S16, .f32⟩
  | .hbm, ⟨8, _⟩ => ⟨S16x1, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S_, .f32⟩
  | .hbm, ⟨13, _⟩ => ⟨S16x1, .f32⟩
  | .hbm, ⟨14, _⟩ => ⟨S16x1, .f32⟩
  | .hbm, ⟨15, _⟩ => ⟨S16x1, .f32⟩
  | .hbm, ⟨16, _⟩ => ⟨S16x1024, .f32⟩
  | .hbm, ⟨17, _⟩ => ⟨S16x1024, .f32⟩
  | .hbm, ⟨18, _⟩ => ⟨S1x1024, .f32⟩
  | .hbm, ⟨19, _⟩ => ⟨S16x1024, .f32⟩
  | .hbm, ⟨20, _⟩ => ⟨S16x1024, .f32⟩
  | .hbm, ⟨21, _⟩ => ⟨S1024x3232, .f32⟩
  | .hbm, ⟨22, _⟩ => ⟨S16x3232, .f32⟩
  | .hbm, ⟨23, _⟩ => ⟨S16x512, .f32⟩
  | .hbm, ⟨24, _⟩ => ⟨S_, .f32⟩
  | .hbm, ⟨25, _⟩ => ⟨S16x512, .f32⟩
  | .hbm, ⟨26, _⟩ => ⟨S16x512, .f32⟩
  | .hbm, ⟨27, _⟩ => ⟨S16x1696, .f32⟩
  | .hbm, ⟨28, _⟩ => ⟨S_, .i32⟩
  | .hbm, ⟨29, _⟩ => ⟨S_, .f32⟩
  | .hbm, ⟨30, _⟩ => ⟨S17x1696, .f32⟩
  | .hbm, ⟨31, _⟩ => ⟨S16x1696, .f32⟩
  | .hbm, ⟨32, _⟩ => ⟨S16x1696, .f32⟩
  | .hbm, ⟨33, _⟩ => ⟨S1696, .f32⟩
  | .hbm, ⟨34, _⟩ => ⟨S1x1696, .f32⟩
  | .hbm, ⟨35, _⟩ => ⟨S16x1696, .f32⟩
  | .hbm, ⟨36, _⟩ => ⟨S16x1696, .f32⟩
  | .hbm, ⟨37, _⟩ => ⟨S16x1696, .f32⟩
  | .hbm, ⟨38, _⟩ => ⟨S16x1024, .f32⟩
  | .hbm, ⟨39, _⟩ => ⟨S16x1536, .f32⟩
  | .hbm, ⟨40, _⟩ => ⟨S16x1536, .bf16⟩
  | .hbm, ⟨41, _⟩ => ⟨S_, .i32⟩
  | .hbm, ⟨42, _⟩ => ⟨S_, .bf16⟩
  | .hbm, ⟨43, _⟩ => ⟨S128x1536, .bf16⟩
  | .hbm, ⟨44, _⟩ => ⟨S16x1536, .f32⟩
  | .hbm, ⟨45, _⟩ => ⟨S_, .i32⟩
  | .hbm, ⟨46, _⟩ => ⟨S_, .f32⟩
  | .hbm, ⟨47, _⟩ => ⟨S128x1536, .f32⟩
  | .hbm, ⟨48, _⟩ => ⟨S16x160, .f32⟩
  | .hbm, ⟨49, _⟩ => ⟨S_, .i32⟩
  | .hbm, ⟨50, _⟩ => ⟨S_, .f32⟩
  | .hbm, ⟨51, _⟩ => ⟨S16x256, .f32⟩
  | .hbm, ⟨52, _⟩ => ⟨S_, .i32⟩
  | .hbm, ⟨53, _⟩ => ⟨S_, .f32⟩
  | .hbm, ⟨54, _⟩ => ⟨S128x256, .f32⟩
  | .hbm, ⟨55, _⟩ => ⟨S1x1536, .f32⟩
  | .hbm, ⟨56, _⟩ => ⟨S1x1696, .f32⟩
  | .hbm, ⟨57, _⟩ => ⟨S1x160, .f32⟩
  | .hbm, ⟨58, _⟩ => ⟨S_, .i32⟩
  | .hbm, ⟨59, _⟩ => ⟨S_, .f32⟩
  | .hbm, ⟨60, _⟩ => ⟨S1x256, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_call1_v0 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_call2_v0 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_call3_v0 : Ref sig .tc := ⟨.hbm, 50, rfl⟩
abbrev main_v35 : Ref sig .tc := ⟨.hbm, 51, rfl⟩
abbrev main_c_6 : Ref sig .tc := ⟨.hbm, 52, rfl⟩
abbrev main_call4_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call5_v0 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel7.lean ====
abbrev S16x1696 : Shape := ⟨2, ![16, 1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S16x1536 : Shape := ⟨2, ![16, 1536]⟩
abbrev S_ : Shape := ⟨0, ![]⟩
abbrev S128x1536 : Shape := ⟨2, ![128, 1536]⟩
abbrev S16x160 : Shape := ⟨2, ![16, 160]⟩
abbrev S128x256 : Shape := ⟨2, ![128, 256]⟩
abbrev S1x512 : Shape := ⟨2, ![1, 512]⟩
abbrev S256x512 : Shape := ⟨2, ![256, 512]⟩
abbrev S1x128x1536 : Shape := ⟨3, ![1, 128, 1536]⟩
abbrev S1x128x256 : Shape := ⟨3, ![1, 128, 256]⟩
abbrev S4x128x128 : Shape := ⟨3, ![4, 128, 128]⟩
abbrev S1x128x512 : Shape := ⟨3, ![1, 128, 512]⟩
abbrev S1x4x128x128 : Shape := ⟨4, ![1, 4, 128, 128]⟩
abbrev S128x512 : Shape := ⟨2, ![128, 512]⟩
abbrev S128x128 : Shape := ⟨2, ![128, 128]⟩
abbrev S64x64 : Shape := ⟨2, ![64, 64]⟩
abbrev S1x64x1536 : Shape := ⟨3, ![1, 64, 1536]⟩
abbrev S64x1536 : Shape := ⟨2, ![64, 1536]⟩
abbrev S1x64x256 : Shape := ⟨3, ![1, 64, 256]⟩
abbrev S64x256 : Shape := ⟨2, ![64, 256]⟩
abbrev S64x512 : Shape := ⟨2, ![64, 512]⟩
abbrev S64x128 : Shape := ⟨2, ![64, 128]⟩
abbrev S1x128 : Shape := ⟨2, ![1, 128]⟩
abbrev S256x128 : Shape := ⟨2, ![256, 128]⟩
abbrev S256x256 : Shape := ⟨2, ![256, 256]⟩
abbrev S192x128 : Shape := ⟨2, ![192, 128]⟩
abbrev S1x128x128 : Shape := ⟨3, ![1, 128, 128]⟩
abbrev S1x64x512 : Shape := ⟨3, ![1, 64, 512]⟩

abbrev nBuf : Space → Nat
  | .hbm => 41
  | .vmem => 23
  | .smem => 0
  | _ => 0

abbrev bufTy : (tb : Table) → Fin (tcTables nBuf tb) → BufTy
  | .hbm, ⟨0, _⟩ => ⟨S16x1696, .f32⟩
  | .hbm, ⟨1, _⟩ => ⟨S512, .f32⟩
  | .hbm, ⟨2, _⟩ => ⟨S32x512, .f32⟩
  | .hbm, ⟨3, _⟩ => ⟨S512, .f32⟩
  | .hbm, ⟨4, _⟩ => ⟨S32x512, .f32⟩
  | .hbm, ⟨5, _⟩ => ⟨S96x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S16x1536, .f32⟩
  | .hbm, ⟨12, _⟩ => ⟨S_, .i32⟩
  | .hbm, ⟨13, _⟩ => ⟨S_, .f32⟩
  | .hbm, ⟨14, _⟩ => ⟨S128x1536, .f32⟩
  | .hbm, ⟨15, _⟩ => ⟨S16x160, .f32⟩
  | .hbm, ⟨16, _⟩ => ⟨S_, .i32⟩
  | .hbm, ⟨17, _⟩ => ⟨S_, .f32⟩
  | .hbm, ⟨18, _⟩ => ⟨S128x256, .f32⟩
  | .hbm, ⟨19, _⟩ => ⟨S1x512, .f32⟩
  | .hbm, ⟨20, _⟩ => ⟨S_, .i32⟩
  | .hbm, ⟨21, _⟩ => ⟨S_, .f32⟩
  | .hbm, ⟨22, _⟩ => ⟨S256x512, .f32⟩
  | .hbm, ⟨23, _⟩ => ⟨S1x512, .f32⟩
  | .hbm, ⟨24, _⟩ => ⟨S_, .i32⟩
  | .hbm, ⟨25, _⟩ => ⟨S_, .f32⟩
  | .hbm, ⟨26, _⟩ => ⟨S256x512, .f32⟩
  | .hbm, ⟨27, _⟩ => ⟨S_, .i32⟩
  | .hbm, ⟨28, _⟩ => ⟨S_, .f32⟩
  | .hbm, ⟨29, _⟩ => ⟨S256x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x128x1536, .f32⟩
  | .hbm, ⟨36, _⟩ => ⟨S1x128x256, .f32⟩
  | .hbm, ⟨37, _⟩ => ⟨S_, .f32⟩
  | .hbm, ⟨38, _⟩ => ⟨S4x128x128, .f32⟩
  | .hbm, ⟨39, _⟩ => ⟨S1x128x512, .bf16⟩
  | .hbm, ⟨40, _⟩ => ⟨S1x4x128x128, .f32⟩
  | .local _ .vmem, ⟨0, _⟩ => ⟨S1x128x1536, .f32⟩
  | .local _ .vmem, ⟨1, _⟩ => ⟨S1x128x256, .f32⟩
  | .local _ .vmem, ⟨2, _⟩ => ⟨S4x128x128, .f32⟩
  | .local _ .vmem, ⟨3, _⟩ => ⟨S1x512, .f32⟩
  | .local _ .vmem, ⟨4, _⟩ => ⟨S256x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x128x512, .bf16⟩
  | .local _ .vmem, ⟨14, _⟩ => ⟨S1x4x128x128, .f32⟩
  | .local _ .vmem, ⟨15, _⟩ => ⟨S4x128x128, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | _, _ => ⟨S16x1696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_c_3 : Ref sig .tc := ⟨.hbm, 27, rfl⟩
abbrev main_call4_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17_0 : Ref sig .tc := ⟨.hbm, 39, rfl⟩
abbrev main_v17_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x128x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== Kernel7Ideal.lean ====
variable {F : FTy → Type} [FloatOps F] [Named F]
def κ : String → Option EReal := fun
  | "floor_of_square" => some ((5316911940649 / 5316911983139663491615228241121378304 : ℝ) : EReal)
  | _ => none
-- ==== Reference7Ideal.lean ====
abbrev S16x1696 : Shape := ⟨2, ![16, 1696]⟩
abbrev S512 : Shape := ⟨1, ![512]⟩
abbrev S32x512 : Shape := ⟨2, ![32, 512]⟩
abbrev S96x512 : Shape := ⟨2, ![96, 512]⟩
abbrev S8x64 : Shape := ⟨2, ![8, 64]⟩
abbrev S16x512 : Shape := ⟨2, ![16, 512]⟩
abbrev S16x32 : Shape := ⟨2, ![16, 32]⟩
abbrev S1x512 : Shape := ⟨2, ![1, 512]⟩
abbrev S_ : Shape := ⟨0, ![]⟩
abbrev S16x8x64 : Shape := ⟨3, ![16, 8, 64]⟩
abbrev S16x8 : Shape := ⟨2, ![16, 8]⟩
abbrev S16x8x1 : Shape := ⟨3, ![16, 8, 1]⟩
abbrev S8x64x64 : Shape := ⟨3, ![8, 64, 64]⟩
abbrev S1x8x64 : Shape := ⟨3, ![1, 8, 64]⟩
abbrev S8x1x64 : Shape := ⟨3, ![8, 1, 64]⟩
abbrev S8x64x1 : Shape := ⟨3, ![8, 64, 1]⟩
abbrev S4x2x64x64 : Shape := ⟨4, ![4, 2, 64, 64]⟩
abbrev S4x64x64 : Shape := ⟨3, ![4, 64, 64]⟩
abbrev S4x1x64x64 : Shape := ⟨4, ![4, 1, 64, 64]⟩
abbrev S4x64x128 : Shape := ⟨3, ![4, 64, 128]⟩
abbrev S4x128x128 : Shape := ⟨3, ![4, 128, 128]⟩
abbrev S1x4x128x128 : Shape := ⟨4, ![1, 4, 128, 128]⟩

abbrev nBuf : Space → Nat
  | .hbm => 146
  | .vmem => 0
  | .smem => 0
  | _ => 0

abbrev hbmTy0_0 (i : Nat) : BufTy := match i % 128 with
  | 0 => ⟨S16x1696, .f32⟩
  | 1 => ⟨S512, .f32⟩
  | 2 => ⟨S32x512, .f32⟩
  | 3 => ⟨S512, .f32⟩
  | 4 => ⟨S32x512, .f32⟩
  | 5 => ⟨S96x512, .f32⟩
  | 6 => ⟨S512, .f32⟩
  | 7 => ⟨S512, .f32⟩
  | 8 => ⟨S8x64, .f32⟩
  | 9 => ⟨S512, .f32⟩
  | 10 => ⟨S512, .f32⟩
  | 11 => ⟨S16x512, .f32⟩
  | 12 => ⟨S16x512, .f32⟩
  | 13 => ⟨S16x32, .f32⟩
  | 14 => ⟨S16x32, .f32⟩
  | 15 => ⟨S16x512, .f32⟩
  | 16 => ⟨S1x512, .f32⟩
  | 17 => ⟨S16x512, .f32⟩
  | 18 => ⟨S16x512, .f32⟩
  | 19 => ⟨S16x512, .f32⟩
  | 20 => ⟨S_, .f32⟩
  | 21 => ⟨S16x512, .f32⟩
  | 22 => ⟨S16x512, .f32⟩
  | 23 => ⟨S16x512, .f32⟩
  | 24 => ⟨S16x512, .f32⟩
  | 25 => ⟨S16x512, .i1⟩
  | 26 => ⟨S16x512, .f32⟩
  | 27 => ⟨S16x512, .f32⟩
  | 28 => ⟨S16x512, .f32⟩
  | 29 => ⟨S16x512, .f32⟩
  | 30 => ⟨S16x512, .f32⟩
  | 31 => ⟨S16x512, .f32⟩
  | 32 => ⟨S16x512, .f32⟩
  | 33 => ⟨S16x512, .f32⟩
  | 34 => ⟨S16x512, .f32⟩
  | 35 => ⟨S_, .f32⟩
  | 36 => ⟨S16x512, .f32⟩
  | 37 => ⟨S16x512, .f32⟩
  | 38 => ⟨S16x512, .f32⟩
  | 39 => ⟨S16x512, .f32⟩
  | 40 => ⟨S16x512, .f32⟩
  | 41 => ⟨S16x32, .f32⟩
  | 42 => ⟨S16x512, .f32⟩
  | 43 => ⟨S1x512, .f32⟩
  | 44 => ⟨S16x512, .f32⟩
  | 45 => ⟨S16x512, .f32⟩
  | 46 => ⟨S16x512, .f32⟩
  | 47 => ⟨S16x512, .f32⟩
  | 48 => ⟨S_, .f32⟩
  | 49 => ⟨S16x512, .f32⟩
  | 50 => ⟨S16x512, .f32⟩
  | 51 => ⟨S_, .f32⟩
  | 52 => ⟨S16x512, .f32⟩
  | 53 => ⟨S16x512, .f32⟩
  | 54 => ⟨S1x512, .f32⟩
  | 55 => ⟨S16x512, .f32⟩
  | 56 => ⟨S16x512, .f32⟩
  | 57 => ⟨S16x8x64, .f32⟩
  | 58 => ⟨S16x8x64, .f32⟩
  | 59 => ⟨S_, .f32⟩
  | 60 => ⟨S16x8, .f32⟩
  | 61 => ⟨S16x8x1, .f32⟩
  | 62 => ⟨S16x8x1, .f32⟩
  | 63 => ⟨S_, .f32⟩
  | 64 => ⟨S16x8x1, .f32⟩
  | 65 => ⟨S16x8x1, .f32⟩
  | 66 => ⟨S16x8x64, .f32⟩
  | 67 => ⟨S16x8x64, .f32⟩
  | 68 => ⟨S_, .f32⟩
  | 69 => ⟨S16x512, .f32⟩
  | 70 => ⟨S16x512, .f32⟩
  | 71 => ⟨S1x512, .f32⟩
  | 72 => ⟨S16x512, .f32⟩
  | 73 => ⟨S16x512, .f32⟩
  | 74 => ⟨S_, .f32⟩
  | 75 => ⟨S16x512, .f32⟩
  | 76 => ⟨S16x512, .f32⟩
  | 77 => ⟨S16x512, .f32⟩
  | 78 => ⟨S16x8x64, .f32⟩
  | 79 => ⟨S16x8x64, .f32⟩
  | 80 => ⟨S16x8x64, .f32⟩
  | 81 => ⟨S16x8x64, .f32⟩
  | 82 => ⟨S_, .f32⟩
  | 83 => ⟨S8x64x64, .f32⟩
  | 84 => ⟨S_, .i32⟩
  | 85 => ⟨S16x8x64, .f32⟩
  | 86 => ⟨S16x8x64, .f32⟩
  | 87 => ⟨S16x8x64, .f32⟩
  | 88 => ⟨S16x8x64, .f32⟩
  | 89 => ⟨S16x8x64, .f32⟩
  | 90 => ⟨S_, .i32⟩
  | 91 => ⟨S8x64x64, .f32⟩
  | 92 => ⟨S_, .i32⟩
  | 93 => ⟨S_, .i1⟩
  | 94 => ⟨S_, .i32⟩
  | 95 => ⟨S_, .i32⟩
  | 96 => ⟨S1x8x64, .f32⟩
  | 97 => ⟨S8x64, .f32⟩
  | 98 => ⟨S_, .i32⟩
  | 99 => ⟨S_, .i32⟩
  | 100 => ⟨S1x8x64, .f32⟩
  | 101 => ⟨S8x64, .f32⟩
  | 102 => ⟨S_, .i32⟩
  | 103 => ⟨S_, .i32⟩
  | 104 => ⟨S1x8x64, .f32⟩
  | 105 => ⟨S8x64, .f32⟩
  | 106 => ⟨S_, .i32⟩
  | 107 => ⟨S_, .i32⟩
  | 108 => ⟨S1x8x64, .f32⟩
  | 109 => ⟨S8x64, .f32⟩
  | 110 => ⟨S_, .i32⟩
  | 111 => ⟨S_, .i32⟩
  | 112 => ⟨S1x8x64, .f32⟩
  | 113 => ⟨S8x64, .f32⟩
  | 114 => ⟨S8x64, .f32⟩
  | 115 => ⟨S8x64, .f32⟩
  | 116 => ⟨S8x1x64, .f32⟩
  | 117 => ⟨S8x64x64, .f32⟩
  | 118 => ⟨S8x64x64, .f32⟩
  | 119 => ⟨S8x64x1, .f32⟩
  | 120 => ⟨S8x64, .f32⟩
  | 121 => ⟨S8x1x64, .f32⟩
  | 122 => ⟨S8x64x64, .f32⟩
  | 123 => ⟨S8x64x64, .f32⟩
  | 124 => ⟨S8x64x64, .f32⟩
  | 125 => ⟨S8x64x64, .f32⟩
  | 126 => ⟨S8x64x1, .f32⟩
  | 127 => ⟨S8x1x64, .f32⟩
  | _ => ⟨S16x1696, .f32⟩

abbrev hbmTy0_1 (i : Nat) : BufTy := match i % 128 with
  | 0 => ⟨S8x64x64, .f32⟩
  | 1 => ⟨S8x64x64, .f32⟩
  | 2 => ⟨S8x64x64, .f32⟩
  | 3 => ⟨S8x64x64, .f32⟩
  | 4 => ⟨S_, .i32⟩
  | 5 => ⟨S_, .i32⟩
  | 6 => ⟨S8x64x64, .f32⟩
  | 7 => ⟨S4x2x64x64, .f32⟩
  | 8 => ⟨S_, .f32⟩
  | 9 => ⟨S4x64x64, .f32⟩
  | 10 => ⟨S4x1x64x64, .f32⟩
  | 11 => ⟨S4x64x64, .f32⟩
  | 12 => ⟨S4x64x128, .f32⟩
  | 13 => ⟨S4x1x64x64, .f32⟩
  | 14 => ⟨S4x64x64, .f32⟩
  | 15 => ⟨S4x64x128, .f32⟩
  | 16 => ⟨S4x128x128, .f32⟩
  | 17 => ⟨S1x4x128x128, .f32⟩
  | _ => ⟨S16x1696, .f32⟩

abbrev hbmTy (i : Nat) : BufTy := match i / 128 with
  | 0 => hbmTy0_0 i
  | 1 => hbmTy0_1 i
  | _ => ⟨S16x1696, .f32⟩

abbrev bufTy : (tb : Table) → Fin (tcTables nBuf tb) → BufTy
  | .hbm, ⟨i, _⟩ => hbmTy i
  | _, _ => ⟨S16x1696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_cst_1 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_c : Ref sig .tc := ⟨.hbm, 84, rfl⟩
abbrev main_v52_0 : Ref sig .tc := ⟨.hbm, 85, rfl⟩
abbrev main_v52_1 : Ref sig .tc := ⟨.hbm, 86, rfl⟩
abbrev main_v52_2 : Ref sig .tc := ⟨.hbm, 87, rfl⟩
abbrev main_v52_3 : Ref sig .tc := ⟨.hbm, 88, rfl⟩
abbrev main_v52_4 : Ref sig .tc := ⟨.hbm, 89, rfl⟩
abbrev main_v52_5 : Ref sig .tc := ⟨.hbm, 90, rfl⟩
abbrev main_v52_6 : Ref sig .tc := ⟨.hbm, 91, rfl⟩
abbrev main_while0c_c_14 : Ref sig .tc := ⟨.hbm, 92, rfl⟩
abbrev main_while0c_v64 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_v0 : Ref sig .tc := ⟨.hbm, 96, rfl⟩
abbrev main_while0b_v64 : Ref sig .tc := ⟨.hbm, 97, rfl⟩
abbrev main_while0b_call2_c : Ref sig .tc := ⟨.hbm, 98, rfl⟩
abbrev main_while0b_call2_c_0 : Ref sig .tc := ⟨.hbm, 99, rfl⟩
abbrev main_while0b_call2_v0 : Ref sig .tc := ⟨.hbm, 100, rfl⟩
abbrev main_while0b_v65 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_v0 : Ref sig .tc := ⟨.hbm, 104, rfl⟩
abbrev main_while0b_v66 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_v0 : Ref sig .tc := ⟨.hbm, 108, rfl⟩
abbrev main_while0b_v67 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_v0 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_c_14 : Ref sig .tc := ⟨.hbm, 132, rfl⟩
abbrev main_while0b_v87 : Ref sig .tc := ⟨.hbm, 133, rfl⟩
abbrev main_v53 : Ref sig .tc := ⟨.hbm, 134, rfl⟩
abbrev main_v54 : Ref sig .tc := ⟨.hbm, 135, rfl⟩
abbrev main_cst_7 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩

abbrev nD : Nat := 1
abbrev τ : Topo := Topo.v7x

variable {F : FTy → Type} [FloatOps F]

abbrev main_while0_count : Scf.Loop 32 := ⟨0#32, 16#32, 1#32⟩
-- ==== Proof.MetaRecMath.lean ====
/- The algebra of a chunk of the recurrence, over the reals: a strictly lower triangular matrix's geometric sum by
   doubling, and the closed form of the state after the chunk's tokens. -/
module

public import Mathlib.Data.Matrix.Mul
public import Mathlib.Algebra.BigOperators.Fin
public import Mathlib.Tactic.Ring
public import Mathlib.Tactic.NoncommRing
public import Mathlib.Tactic.Linarith
public import Mathlib.Analysis.SpecialFunctions.Exp

@[expose] public section

namespace Cert.MetaRecMath

open Matrix Finset

abbrev Mat := Matrix (Fin 128) (Fin 128) ℝ

/-- The geometric sum of a matrix's first 64 powers, by doubling. -/
def geo (N : Mat) : Mat :=
  let p1 := N * N
  let p2 := p1 * p1
  let p3 := p2 * p2
  let p4 := p3 * p3
  let p5 := p4 * p4
  let s0 := 1 + N
  let s1 := s0 + s0 * p1
  let s2 := s1 + s1 * p2
  let s3 := s2 + s2 * p3
  let s4 := s3 + s3 * p4
  s4 + s4 * p5

theorem geo_eq (N : Mat) : geo N * (1 - N) = 1 - N ^ 64 := by
  have e : ∀ k : ℕ, N ^ k * N ^ k = N ^ (2 * k) := fun k => by rw [← pow_add]; congr 1; omega
  have d : ∀ (s : Mat) (k : ℕ), s * (1 - N) = 1 - N ^ k → (s + s * N ^ k) * (1 - N) = 1 - N ^ (2 * k) := by
    intro s k h
    have c : N ^ k * (1 - N) = (1 - N) * N ^ k := by
      rw [mul_sub, sub_mul, mul_one, one_mul, ← pow_succ, ← pow_succ']
    calc (s + s * N ^ k) * (1 - N) = s * (1 - N) + s * (N ^ k * (1 - N)) := by rw [add_mul, Matrix.mul_assoc]
      _ = s * (1 - N) + s * (1 - N) * N ^ k := by rw [c, Matrix.mul_assoc]
      _ = (1 - N ^ k) + (1 - N ^ k) * N ^ k := by rw [h]
      _ = 1 - N ^ (2 * k) := by rw [sub_mul, one_mul, e]; abel
  have p1 : N * N = N ^ 2 := (pow_two N).symm
  have h0 : (1 + N) * (1 - N) = 1 - N ^ 2 := by rw [pow_two]; noncomm_ring
  unfold geo
  dsimp only
  rw [p1, e 2, e 4, e 8, e 16]
  exact d _ 32 (d _ 16 (d _ 8 (d _ 4 (d _ 2 h0))))

/-- A matrix that keeps to the 64-row blocks and is strictly lower triangular has no 64th power. -/
theorem pow_zero_of_lower (N : Mat) (h : ∀ i j : Fin 128, N i j ≠ 0 → i.1 / 64 = j.1 / 64 ∧ j.1 < i.1) : N ^ 64 = 0 := by
  have g : ∀ k : ℕ, ∀ i j : Fin 128, (N ^ k) i j ≠ 0 → i.1 / 64 = j.1 / 64 ∧ j.1 + k ≤ i.1 := by
    intro k
    induction k with
    | zero =>
      intro i j hij
      rw [pow_zero, Matrix.one_apply] at hij
      split_ifs at hij with e
      · subst e; exact ⟨rfl, le_refl _⟩
      · exact absurd rfl hij
    | succ k ih =>
      intro i j hij
      rw [pow_succ, Matrix.mul_apply] at hij
      obtain ⟨l, -, hl⟩ := Finset.exists_ne_zero_of_sum_ne_zero hij
      have a := ih i l (left_ne_zero_of_mul hl)
      have b := h l j (right_ne_zero_of_mul hl)
      exact ⟨a.1.trans b.1, by omega⟩
  ext i j
  by_contra hij
  have a := g 64 i j hij
  omega

/-- The solution of a block triangular system. -/
theorem geo_solve (N : Mat) (h : ∀ i j : Fin 128, N i j ≠ 0 → i.1 / 64 = j.1 / 64 ∧ j.1 < i.1) (Q B : Mat)
    (hQ : Q = N * Q + B) : geo N * B = Q := by
  have hB : B = (1 - N) * Q := by
    rw [sub_mul, one_mul]
    exact eq_sub_of_add_eq (by rw [add_comm]; exact hQ.symm)
  rw [hB, ← Matrix.mul_assoc, geo_eq, pow_zero_of_lower N h, sub_zero, one_mul]

/-- The tokens' rows, of 128 channels (two heads): log decay, key direction, its rate, key, value. -/
structure Toks where
  lw : ℕ → ℕ → ℝ
  kk : ℕ → ℕ → ℝ
  ka : ℕ → ℕ → ℝ
  k : ℕ → ℕ → ℝ
  v : ℕ → ℕ → ℝ

namespace Toks

variable (T : Toks)

/-- The state of head `h` after the first `t` tokens, token by token: values x keys. -/
noncomputable def st (T : Toks) (h : ℕ) : ℕ → ℕ → ℕ → ℝ
  | 0, _, _ => 0
  | t + 1, i, j => st T h t i j * Real.exp (T.lw t (64 * h + j))
      + (∑ l ∈ range 64, st T h t i l * (-T.kk t (64 * h + l))) * T.ka t (64 * h + j)
      + T.v t (64 * h + i) * T.k t (64 * h + j)

/-- What the token reads from the state along its key direction. -/
noncomputable def sa (h t i : ℕ) : ℝ := ∑ l ∈ range 64, T.st h t i l * (-T.kk t (64 * h + l))

/-- The log decays' running sum, the token's own included. -/
noncomputable def g (t ch : ℕ) : ℝ := ∑ s ∈ range (t + 1), T.lw s ch

theorem g_succ (t ch : ℕ) : T.g (t + 1) ch = T.g t ch + T.lw (t + 1) ch := by
  unfold g; rw [sum_range_succ _ (t + 1)]

/-- The state in closed form: each token's contribution, decayed to the last. -/
theorem st_closed (h i j : ℕ) : ∀ t, T.st h (t + 1) i j
    = ∑ s ∈ range (t + 1), Real.exp (T.g t (64 * h + j) - T.g s (64 * h + j))
        * (T.ka s (64 * h + j) * T.sa h s i + T.k s (64 * h + j) * T.v s (64 * h + i)) := by
  intro t
  induction t with
  | zero =>
    simp only [st, zero_add, sum_range_one, sub_self, Real.exp_zero, one_mul, zero_mul, sa, sum_const_zero, mul_zero]
    ring
  | succ t ih =>
    rw [sum_range_succ, sub_self, Real.exp_zero, one_mul]
    have e : ∀ s ∈ range (t + 1), Real.exp (T.g (t + 1) (64 * h + j) - T.g s (64 * h + j))
        * (T.ka s (64 * h + j) * T.sa h s i + T.k s (64 * h + j) * T.v s (64 * h + i))
        = (Real.exp (T.g t (64 * h + j) - T.g s (64 * h + j))
        * (T.ka s (64 * h + j) * T.sa h s i + T.k s (64 * h + j) * T.v s (64 * h + i))) * Real.exp (T.lw (t + 1) (64 * h + j)) := by
      intro s _
      rw [g_succ, show T.g t (64 * h + j) + T.lw (t + 1) (64 * h + j) - T.g s (64 * h + j)
        = (T.g t (64 * h + j) - T.g s (64 * h + j)) + T.lw (t + 1) (64 * h + j) by ring, Real.exp_add]
      ring
    rw [sum_congr rfl e, ← sum_mul, ← ih]
    rw [show T.st h (t + 1 + 1) i j = T.st h (t + 1) i j * Real.exp (T.lw (t + 1) (64 * h + j))
      + T.sa h (t + 1) i * T.ka (t + 1) (64 * h + j) + T.v (t + 1) (64 * h + i) * T.k (t + 1) (64 * h + j) from rfl]
    ring

end Toks

end Cert.MetaRecMath
-- ==== Proof.MetaRecPair.lean ====
/- The recurrence of two heads over a chunk of tokens, as the kernel computes it: stacked and masked operands, the inverse
   by doubling, the chunk's contribution to the state. -/
module

public import proofs.«01_k».proof.Proof.Gen.Kernel7Ideal.Value
public import proofs.«01_k».proof.Proof.MetaRecMath

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecMath

/-- A chunk's rows twice, one copy for each head. -/
def stk (x : FVec Ideal S64x128 .bf16) : FVec Ideal S128x128 .bf16 :=
  concatenate S128x128 0 [⟨S64x128, x⟩, ⟨S64x128, x⟩] concatenates_S64x128_S64x128_S128x128_d0

def zero16 : FVec Ideal S128x128 .bf16 := broadcast S128x128 (Scalar.ofBits .bf16 0x0000#16)

def zero32 : FVec Ideal S128x128 .f32 := broadcast S128x128 (Scalar.ofBits .f32 0x00000000#32)

/-- The same with zeros across the heads. -/
def msk (x : FVec Ideal S64x128 .bf16) : FVec Ideal S128x128 .bf16 := select k0_pay4 (stk x) zero16

def mm (x y : FVec Ideal S128x128 .bf16) : FVec Ideal S128x128 .f32 :=
  matmul dot_S128x128_S128x128_S128x128_1_0_0_1_n_n none x y (constant S128x128 .f32 0x00000000#32)

def scores (a r b k : FVec Ideal S64x128 .bf16) : FVec Ideal S256x256 .f32 :=
  matmul dot_S256x128_S256x128_S256x256_1_1_0_0_n_n none
    (concatenate S256x128 0 [⟨S128x128, msk a⟩, ⟨S128x128, msk r⟩] concatenates_S128x128_S128x128_S256x128_d0)
    (concatenate S256x128 0 [⟨S128x128, stk b⟩, ⟨S128x128, stk k⟩] concatenates_S128x128_S128x128_S256x128_d0)
    (constant S256x256 .f32 0x00000000#32)

def nmat (a r b k : FVec Ideal S64x128 .bf16) : FVec Ideal S128x128 .f32 :=
  select k0_pay6 (extractStridedSlice S128x128 ![0, 0] (scores a r b k) slices_S256x256_o0_0_S128x128) zero32

def amat (a r b k : FVec Ideal S64x128 .bf16) : FVec Ideal S128x128 .bf16 :=
  truncf .bf16 (select k0_pay6 (extractStridedSlice S128x128 ![0, 128] (scores a r b k) slices_S256x256_o0_128_S128x128) zero32) bitsLt_bf16_f32

def t16 (x : FVec Ideal S128x128 .f32) : FVec Ideal S128x128 .bf16 := truncf .bf16 x bitsLt_bf16_f32

def eyeK : FVec Ideal S128x128 .f32 := select k0_pay8 (broadcast S128x128 (Scalar.ofBits .f32 0x3F800000#32)) zero32

/-- The inverse of `1 - n` by five doublings. -/
def geoK (n : FVec Ideal S128x128 .f32) : FVec Ideal S128x128 .f32 :=
  let p1 := t16 (mm (t16 n) (t16 n))
  let p2 := t16 (mm p1 p1)
  let p3 := t16 (mm p2 p2)
  let p4 := t16 (mm p3 p3)
  let p5 := t16 (mm p4 p4)
  let s0 := addf eyeK n
  let s1 := addf s0 (mm (t16 s0) p1)
  let s2 := addf s1 (mm (t16 s1) p2)
  let s3 := addf s2 (mm (t16 s2) p3)
  let s4 := addf s3 (mm (t16 s3) p4)
  addf s4 (mm (t16 s4) p5)

def pqK (a r b k v : FVec Ideal S64x128 .bf16) : FVec Ideal S128x256 .bf16 :=
  truncf .bf16 (matmul dot_S128x128_S128x256_S128x256_1_0_0_1_n_n none (t16 (geoK (nmat a r b k)))
    (concatenate S128x256 1 [⟨S128x128, msk a⟩, ⟨S128x128, t16 (mm (amat a r b k) (msk v))⟩] concatenates_S128x128_S128x128_S128x256_d1)
    (constant S128x256 .f32 0x00000000#32)) bitsLt_bf16_f32

def mgK (a r b k bh kh v : FVec Ideal S64x128 .bf16) : FVec Ideal S128x256 .f32 :=
  matmul dot_S256x128_S256x256_S128x256_0_0_1_1_n_n none
    (concatenate S256x128 0 [⟨S128x128, msk bh⟩, ⟨S128x128, msk kh⟩] concatenates_S128x128_S128x128_S256x128_d0)
    (concatenate S256x256 0 [⟨S128x256, pqK a r b k v⟩,
      ⟨S128x256, concatenate S128x256 1 [⟨S128x128, zero16⟩, ⟨S128x128, msk v⟩] concatenates_S128x128_S128x128_S128x256_d1⟩] concatenates_S128x256_S128x256_S256x256_d0)
    (constant S128x256 .f32 0x00000000#32)

/-- The chunk's contribution to the two heads' state. -/
def stK (a r b k bh kh v : FVec Ideal S64x128 .bf16) : FVec Ideal S128x128 .f32 :=
  extractStridedSlice S128x128 ![0, 128] (mgK a r b k bh kh v) slices_S128x256_o0_128_S128x128

/-- What the state before the chunk adds to it (and to the chunk's outputs). -/
def eh (e : FVec Ideal S192x128 .bf16) (old : Vec Ideal S1x128x128 .f32) : FVec Ideal S128x128 .f32 :=
  extractStridedSlice S128x128 ![64, 0] (matmul dot_S192x128_S128x128_S192x128_1_0_0_1_n_n none e
    (truncf .bf16 (shapeCast S128x128 old shapeCasts_S1x128x128_S128x128) bitsLt_bf16_f32) (constant S192x128 .f32 0x00000000#32)) slices_S192x128_o64_0_S128x128

end Cert.MetaRec
-- ==== Proof.MetaRecChunk.lean ====
/- What the chunk's matrices compute, over the reals: the state after the chunk's 64 tokens. -/
module

public import proofs.«01_k».proof.Proof.MetaRecMath

@[expose] public section

namespace Cert.MetaRecMath

open Matrix Finset

/-- A sum over the two heads' channels of one head's terms. -/
theorem sum_head {R : Type} [AddCommMonoid R] (h : ℕ) (hh : h < 2) (f : ℕ → R) :
    (∑ y : Fin 128, if h = y.val / 64 then f y.val else 0) = ∑ s ∈ range 64, f (64 * h + s) := by
  rw [Fin.sum_univ_eq_sum_range (fun y => if h = y / 64 then f y else 0) 128, show (128 : ℕ) = 64 + 64 from rfl, sum_range_add]
  have e0 : ∀ s ∈ range 64, (if h = s / 64 then f s else 0) = if h = 0 then f s else 0 := by
    intro s hs; rw [Nat.div_eq_of_lt (mem_range.mp hs)]
  have e1 : ∀ s ∈ range 64, (if h = (64 + s) / 64 then f (64 + s) else 0) = if h = 1 then f (64 + s) else 0 := by
    intro s hs
    have := mem_range.mp hs
    rw [show (64 + s) / 64 = 1 by omega]
  rw [sum_congr rfl e0, sum_congr rfl e1]
  obtain rfl | rfl : h = 0 ∨ h = 1 := by omega
  · simp
  · simp

/-- The strictly lower products of two rows' channels within a head. -/
def rN (A B : ℕ → ℕ → ℝ) : Mat := fun i j =>
  if i.val / 64 = j.val / 64 ∧ j.val < i.val then ∑ l : Fin 128, (if i.val / 64 = l.val / 64 then A (i.val % 64) l.val else 0) * B (j.val % 64) l.val else 0

/-- A chunk's rows, stacked, with zeros across the heads. -/
def rM (X : ℕ → ℕ → ℝ) : Mat := fun i j => if i.val / 64 = j.val / 64 then X (i.val % 64) j.val else 0

theorem rN_eq (A B : ℕ → ℕ → ℝ) (i j : Fin 128) : rN A B i j
    = if i.val / 64 = j.val / 64 then (if j.val % 64 < i.val % 64 then
      ∑ l ∈ range 64, A (i.val % 64) (64 * (i.val / 64) + l) * B (j.val % 64) (64 * (i.val / 64) + l) else 0) else 0 := by
  have hi := i.isLt
  unfold rN
  by_cases e : i.val / 64 = j.val / 64
  · by_cases h : j.val < i.val
    · rw [if_pos ⟨e, h⟩, if_pos e, if_pos (by omega), ← sum_head (i.val / 64) (by omega) fun l => A (i.val % 64) l * B (j.val % 64) l]
      refine sum_congr rfl fun l _ => ?_
      rw [ite_mul, zero_mul]
    · rw [if_neg (fun q => h q.2), if_pos e, if_neg (by omega)]
  · rw [if_neg (fun q => e q.1), if_neg e]

namespace Toks

variable (T : Toks)

noncomputable def cA (t ch : ℕ) : ℝ := -T.kk t ch * Real.exp (T.g t ch - T.lw t ch)
noncomputable def cB (t ch : ℕ) : ℝ := T.ka t ch * Real.exp (-T.g t ch)
noncomputable def cK (t ch : ℕ) : ℝ := T.k t ch * Real.exp (-T.g t ch)
noncomputable def cBh (t ch : ℕ) : ℝ := T.ka t ch * Real.exp (T.g 63 ch - T.g t ch)
noncomputable def cKh (t ch : ℕ) : ℝ := T.k t ch * Real.exp (T.g 63 ch - T.g t ch)

/-- What each token reads from the state, stacked. -/
noncomputable def Q : Mat := fun x j => if x.val / 64 = j.val / 64 then T.sa (x.val / 64) (x.val % 64) (j.val % 64) else 0

theorem sa_closed (h t i : ℕ) : T.sa h t i = ∑ s ∈ range t,
    ((∑ l ∈ range 64, T.cA t (64 * h + l) * T.cB s (64 * h + l)) * T.sa h s i
      + (∑ l ∈ range 64, T.cA t (64 * h + l) * T.cK s (64 * h + l)) * T.v s (64 * h + i)) := by
  cases t with
  | zero => simp [sa, st]
  | succ t =>
    have e : ∀ l ∈ range 64, T.st h (t + 1) i l * (-T.kk (t + 1) (64 * h + l))
        = ∑ s ∈ range (t + 1), (T.cA (t + 1) (64 * h + l) * T.cB s (64 * h + l) * T.sa h s i
          + T.cA (t + 1) (64 * h + l) * T.cK s (64 * h + l) * T.v s (64 * h + i)) := by
      intro l _
      rw [st_closed, sum_mul]
      refine sum_congr rfl fun s _ => ?_
      unfold cA cB cK
      rw [g_succ, show T.g t (64 * h + l) + T.lw (t + 1) (64 * h + l) - T.lw (t + 1) (64 * h + l) = T.g t (64 * h + l) by ring,
        sub_eq_add_neg, Real.exp_add]
      ring
    rw [show T.sa h (t + 1) i = ∑ l ∈ range 64, T.st h (t + 1) i l * (-T.kk (t + 1) (64 * h + l)) from rfl, sum_congr rfl e, sum_comm]
    refine sum_congr rfl fun s _ => ?_
    rw [sum_add_distrib, sum_mul, sum_mul]

theorem Q_solves : T.Q = rN T.cA T.cB * T.Q + rN T.cA T.cK * rM T.v := by
  ext x j
  have hx := x.isLt
  rw [Matrix.add_apply, Matrix.mul_apply, Matrix.mul_apply, ← sum_add_distrib]
  obtain ⟨F, hF⟩ : ∃ F : ℕ → ℝ, F = (fun y : ℕ => if y % 64 < x.val % 64 then
        (∑ l ∈ range 64, T.cA (x.val % 64) (64 * (x.val / 64) + l) * T.cB (y % 64) (64 * (x.val / 64) + l))
          * (if y / 64 = j.val / 64 then T.sa (y / 64) (y % 64) (j.val % 64) else 0)
        + (∑ l ∈ range 64, T.cA (x.val % 64) (64 * (x.val / 64) + l) * T.cK (y % 64) (64 * (x.val / 64) + l))
          * (if y / 64 = j.val / 64 then T.v (y % 64) j.val else 0) else 0) := ⟨_, rfl⟩
  have e : ∀ y : Fin 128, rN T.cA T.cB x y * T.Q y j + rN T.cA T.cK x y * rM T.v y j
      = if x.val / 64 = y.val / 64 then F y.val else 0 := by
    intro y
    rw [rN_eq, rN_eq, hF]
    by_cases h : x.val / 64 = y.val / 64
    · rw [if_pos h, if_pos h, if_pos h]
      dsimp only
      by_cases l : y.val % 64 < x.val % 64
      · rw [if_pos l, if_pos l, if_pos l]; rfl
      · rw [if_neg l, if_neg l, if_neg l]; ring
    · rw [if_neg h, if_neg h, if_neg h]; ring
  rw [sum_congr rfl fun y _ => e y, sum_head _ (by omega) F]
  have e2 : ∀ s ∈ range 64, F (64 * (x.val / 64) + s)
      = if s < x.val % 64 then (if x.val / 64 = j.val / 64 then
        (∑ l ∈ range 64, T.cA (x.val % 64) (64 * (x.val / 64) + l) * T.cB s (64 * (x.val / 64) + l)) * T.sa (x.val / 64) s (j.val % 64)
        + (∑ l ∈ range 64, T.cA (x.val % 64) (64 * (x.val / 64) + l) * T.cK s (64 * (x.val / 64) + l)) * T.v s j.val else 0) else 0 := by
    intro s hs
    have := mem_range.mp hs
    rw [hF]
    dsimp only
    rw [show (64 * (x.val / 64) + s) % 64 = s by omega, show (64 * (x.val / 64) + s) / 64 = x.val / 64 by omega]
    by_cases h : x.val / 64 = j.val / 64
    · rw [if_pos h, if_pos h, if_pos h]
    · rw [if_neg h, if_neg h, if_neg h, mul_zero, mul_zero, add_zero]
  rw [sum_congr rfl e2, ← sum_filter]
  have e3 : (range 64).filter (fun s => s < x.val % 64) = range (x.val % 64) := by
    ext s; simp only [mem_filter, mem_range]; omega
  rw [e3]
  unfold Q
  by_cases h : x.val / 64 = j.val / 64
  · rw [if_pos h, sa_closed]
    refine sum_congr rfl fun s _ => ?_
    rw [if_pos h]
    have : 64 * (x.val / 64) + j.val % 64 = j.val := by omega
    rw [this]
  · rw [if_neg h]
    exact (sum_eq_zero fun s _ => if_neg h).symm

/-- The chunk's contribution to the state, as the kernel multiplies it out, is the state after its 64 tokens. -/
theorem chunk (i j : Fin 128) :
    (∑ x, rM T.cBh x i * (geo (rN T.cA T.cB) * (rN T.cA T.cK * rM T.v)) x j) + (∑ x, rM T.cKh x i * rM T.v x j)
      = if i.val / 64 = j.val / 64 then T.st (i.val / 64) 64 (j.val % 64) (i.val % 64) else 0 := by
  have hi := i.isLt
  rw [geo_solve (rN T.cA T.cB) (fun a b h => by
    unfold rN at h
    split_ifs at h with q
    · exact q
    · exact absurd rfl h) T.Q _ T.Q_solves, ← sum_add_distrib]
  obtain ⟨F, hF⟩ : ∃ F : ℕ → ℝ, F = (fun x : ℕ => if x / 64 = j.val / 64 then
        T.cBh (x % 64) i.val * T.sa (x / 64) (x % 64) (j.val % 64) + T.cKh (x % 64) i.val * T.v (x % 64) j.val else 0) := ⟨_, rfl⟩
  have e : ∀ x : Fin 128, rM T.cBh x i * T.Q x j + rM T.cKh x i * rM T.v x j
      = if i.val / 64 = x.val / 64 then F x.val else 0 := by
    intro x
    rw [hF]
    unfold rM Q
    by_cases h : i.val / 64 = x.val / 64
    · have h' := h.symm
      by_cases l : x.val / 64 = j.val / 64
      · simp only [if_pos l, if_pos h, if_pos h']
      · simp only [if_neg l, if_pos h]; ring
    · have h' : ¬ x.val / 64 = i.val / 64 := fun q => h q.symm
      simp only [if_neg h, if_neg h']; ring
  rw [sum_congr rfl fun x _ => e x, sum_head _ (by omega) F]
  by_cases h : i.val / 64 = j.val / 64
  · rw [if_pos h, st_closed _ _ _ _ 63]
    refine sum_congr rfl fun s hs => ?_
    have := mem_range.mp hs
    rw [hF]
    dsimp only
    rw [show (64 * (i.val / 64) + s) % 64 = s by omega, show (64 * (i.val / 64) + s) / 64 = i.val / 64 by omega, if_pos h]
    unfold cBh cKh
    rw [show 64 * (i.val / 64) + i.val % 64 = i.val by omega, show 64 * (i.val / 64) + j.val % 64 = j.val by omega]
    ring
  · rw [if_neg h]
    refine sum_eq_zero fun s hs => ?_
    have := mem_range.mp hs
    rw [hF]
    dsimp only
    rw [show (64 * (i.val / 64) + s) / 64 = i.val / 64 by omega, if_neg h]

end Toks

end Cert.MetaRecMath
-- ==== Proof.FfnRow.lean ====
/- One token's half-step feed-forward, over the extended reals: the formulas both programs are read as. -/
module

public import Idealize.ShloMosaic.Lib.Pipeline.ValueKit

@[expose] public section

noncomputable section

open Idealize.ShloMosaic

namespace Cert.FfnRow

/-- The RMS-normed feature `k` of a token with features `x`, under the gain `g`. -/
def norm (x g : Fin 1024 → EReal) (k : Fin 1024) : EReal :=
  x k * Ideal.rsqrt (Ideal.div (∑ j, x j * x j) (Ideal.ofBits .f32 0x44800000#32) + Ideal.ofBits .f32 0x358637BD#32) * g k

/-- One hidden unit's projection. -/
def proj (n : Fin 1024 → EReal) (w : Fin 1024 → EReal) : EReal := ∑ k, n k * w k

/-- One hidden unit: the sigmoid-weighted gate times the up projection. -/
def hidden (n wg wu : Fin 1024 → EReal) : EReal :=
  proj n wg * Ideal.logistic (proj n wg) * proj n wu

/-- The half step at feature `j`: the token's own feature plus half the feed-forward's output. -/
def half (x g : Fin 1024 → EReal) (wg wu : Fin 1024 → Fin 2816 → EReal) (wd : Fin 2816 → Fin 1024 → EReal) (j : Fin 1024) : EReal :=
  x j + Ideal.ofBits .f32 0x3F000000#32 * ∑ f, hidden (norm x g) (fun k => wg k f) (fun k => wu k f) * wd f j

theorem half_congr {x x' g g' : Fin 1024 → EReal} {wg wg' wu wu' : Fin 1024 → Fin 2816 → EReal} {wd wd' : Fin 2816 → Fin 1024 → EReal}
    (hx : ∀ k, x k = x' k) (hg : ∀ k, g k = g' k) (hwg : ∀ k f, wg k f = wg' k f) (hwu : ∀ k f, wu k f = wu' k f)
    (hwd : ∀ f j, wd f j = wd' f j) (j : Fin 1024) : half x g wg wu wd j = half x' g' wg' wu' wd' j := by
  obtain rfl := funext hx
  obtain rfl := funext hg
  obtain rfl := funext fun k => funext (hwg k)
  obtain rfl := funext fun k => funext (hwu k)
  obtain rfl := funext fun k => funext (hwd k)
  rfl

/-- The residual stream after the output projection, at feature `j`: the token's feature plus the two mixers' outputs
    through the two halves of the projection. -/
def mid (x : Fin 1024 → EReal) (a b : Fin 512 → EReal) (wo : Fin 1024 → Fin 1024 → EReal) (j : Fin 1024) : EReal :=
  x j + (∑ k : Fin 512, a k * wo ⟨k.val, by omega⟩ j + ∑ k : Fin 512, b k * wo ⟨512 + k.val, by omega⟩ j)

/-- A sum over both mixers' features laid side by side is the sum over each. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

theorem mid_congr {x x' : Fin 1024 → EReal} {a a' b b' : Fin 512 → EReal} {wa wa' wb wb' : Fin 512 → Fin 1024 → EReal} (hx : ∀ k, x k = x' k)
    (ha : ∀ k, a k = a' k) (hb : ∀ k, b k = b' k) (hwa : ∀ k j, wa k j = wa' k j) (hwb : ∀ k j, wb k j = wb' k j) (j : Fin 1024) :
    x j + ∑ k, a k * wa k j + ∑ k, b k * wb k j = x' j + (∑ k, a' k * wa' k j + ∑ k, b' k * wb' k j) := by
  obtain rfl := funext hx
  obtain rfl := funext ha
  obtain rfl := funext hb
  obtain rfl := funext fun k => funext (hwa k)
  obtain rfl := funext fun k => funext (hwb k)
  exact add_assoc _ _ _

theorem norm_congr {x x' g g' : Fin 1024 → EReal} (hx : ∀ k, x k = x' k) (hg : ∀ k, g k = g' k) (j : Fin 1024) : norm x g j = norm x' g' j := by
  obtain rfl := funext hx
  obtain rfl := funext hg
  rfl

end Cert.FfnRow

end
-- ==== Proof.InProjRef.lean ====
/- What the projection's reference computes, token by token. -/
module

public import proofs.«01_k».proof.Proof.Gen.Reference4Ideal.Run
public import proofs.«01_k».proof.Proof.Gen.Reference4Ideal.Read
public import proofs.«01_k».proof.Proof.FfnRow

@[expose] public section

set_option maxRecDepth 16384

noncomputable section

open Idealize.ShloMosaic Idealize.ShloMosaic.TcCoe Idealize.SL.Sem
open Idealize.ShloMosaic.Pipeline (Dat)

namespace Cert.InProjRef

open Cert.Reference4Ideal Cert.Reference4Ideal.Read

variable (x0 : FVec Ideal S8x4096x1024 .f32) (x1 : FVec Ideal S1x1024 .f32) (x2 : FVec Ideal S1x1024x3232 .f32) (x3 x4 : FVec Ideal S1x1696 .f32)

/-- The features of token `n`, the sequences counted one after another. -/
def row (n : ℕ) (k : Fin 1024) : EReal := x0 (ix3 ⟨n / 4096 % 8, by omega⟩ ⟨n % 4096, by omega⟩ k)

/-- Column `j` of the projection of token `n`. -/
def col (n : ℕ) (j : Fin 3232) : EReal := FfnRow.proj (FfnRow.norm (row x0 n) (fun k => x1 (ix2 0 k))) (fun k => x2 (ix3 0 k j))

/-- A feature `p` moved towards the one before it, `q`, by the share `s`. -/
def shift (p q s : EReal) : EReal := p + (q - p) * s

/-- The integer zero arrays are filled up with, as a number. -/
theorem fill : (FloatOps.sitofp FTy.f32 0#32 : Ideal .f32) = 0 := by
  show ((((0#32 : BitVec 32).toInt : ℤ) : ℝ) : EReal) = 0
  simp

/-- The normed features. -/
theorem norm (b : Fin 8) (l : Fin 4096) (k : Fin 1024) : val_main_v13 (F := Ideal) x0 x1 (ix3 b l k)
    = FfnRow.norm (fun k => x0 (ix3 b l k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem proj (b : Fin 8) (l : Fin 4096) (j : Fin 3232) : val_main_v15 (F := Ideal) x0 x1 x2 (ix3 b l j)
    = FfnRow.proj (FfnRow.norm (fun k => x0 (ix3 b l k)) (fun k => x1 (ix2 0 k))) (fun k => x2 (ix3 0 k j)) := by
  pointwise [val_main_v15, val_main_v14]
  simp only [norm, FfnRow.proj]

theorem proj_row (n : ℕ) (j : Fin 3232) : val_main_v15 (F := Ideal) x0 x1 x2 (ix3 ⟨n / 4096 % 8, by omega⟩ ⟨n % 4096, by omega⟩ j) = col x0 x1 x2 n j :=
  proj x0 x1 x2 _ _ j

/-- A token's features shifted towards those of the token before. -/
theorem shifted (b : Fin 8) (l : Fin 4096) (j : Fin 1696) : val_main_v28 (F := Ideal) x0 x1 x2 x3 x4 (ix3 b l j)
    = shift (val_main_v15 (F := Ideal) x0 x1 x2 (ix3 b l ⟨1536 + j.val, by omega⟩))
        (if h : l.val = 0 then x4 (ix2 0 j) else val_main_v15 (F := Ideal) x0 x1 x2 (ix3 b ⟨l.val - 1, by omega⟩ ⟨1536 + j.val, by omega⟩))
        (x3 (ix2 0 j)) := by
  have e : val_main_v22 (F := Ideal) x0 x1 x2 x4 (ix3 b l j)
      = if h : l.val = 0 then x4 (ix2 0 j) else val_main_v15 (F := Ideal) x0 x1 x2 (ix3 b ⟨l.val - 1, by omega⟩ ⟨1536 + j.val, by omega⟩) := by
    pointwise [val_main_v22, val_main_v21, val_main_v20, val_main_v19]
    by_cases h : l.val = 0
    · rw [dif_pos h, dif_pos (by omega)]
    · rw [dif_neg h, dif_neg (by omega)]
  pointwise [val_main_v28, val_main_v27, val_main_v26, val_main_v25, val_main_v24, val_main_v23]
  rw [e]
  pointwise [val_main_v19]
  rfl

theorem shifted_row (n : ℕ) (j : Fin 1696) : val_main_v28 (F := Ideal) x0 x1 x2 x3 x4 (ix3 ⟨n / 4096 % 8, by omega⟩ ⟨n % 4096, by omega⟩ j)
    = shift (col x0 x1 x2 n ⟨1536 + j.val, by omega⟩) (if n % 4096 = 0 then x4 (ix2 0 j) else col x0 x1 x2 (n - 1) ⟨1536 + j.val, by omega⟩) (x3 (ix2 0 j)) := by
  rw [shifted, ← proj_row, ← proj_row]
  refine congrArg (fun q => shift _ q _) ?_
  by_cases h : n % 4096 = 0
  · rw [dif_pos h, if_pos h]
  · rw [dif_neg h, if_neg h]
    have hb : (n - 1) / 4096 % 8 = n / 4096 % 8 := by omega
    have hl : (n - 1) % 4096 = n % 4096 - 1 := by omega
    simp only [hb, hl]

/-- The queries, over the square root of the head's width and for a softplus in base 2. -/
theorem query (n : Fin 32768) (j : Fin 512) : val_main_v32 (F := Ideal) x0 x1 x2 (ix2 n ⟨j.val, by omega⟩)
    = col x0 x1 x2 n.val ⟨j.val, by omega⟩ * Ideal.ofBits .f32 0x3E38AA3B#32 := by
  have hn : n.val / 4096 % 8 = n.val / 4096 := by omega
  rw [← proj_row]
  pointwise [val_main_v32, val_main_v31, val_main_v30, val_main_v18, val_main_v17, val_main_v16, val_main_cst_2]
  simp only [hn]

/-- The keys and the values. -/
theorem key_value (n : Fin 32768) (j : Fin 1024) : val_main_v32 (F := Ideal) x0 x1 x2 (ix2 n ⟨512 + j.val, by omega⟩)
    = col x0 x1 x2 n.val ⟨512 + j.val, by omega⟩ := by
  have hn : n.val / 4096 % 8 = n.val / 4096 := by omega
  rw [← proj_row]
  pointwise [val_main_v32, val_main_v31, val_main_v30, val_main_v29]
  simp only [hn]

/-- The recurrence's wide columns. -/
theorem wide (n : Fin 32768) (j : Fin 1536) : val_main_v34 (F := Ideal) x0 x1 x2 x3 x4 (ix2 n j)
    = shift (col x0 x1 x2 n.val ⟨1536 + j.val, by omega⟩) (if n.val % 4096 = 0 then x4 (ix2 0 ⟨j.val, by omega⟩) else col x0 x1 x2 (n.val - 1) ⟨1536 + j.val, by omega⟩)
        (x3 (ix2 0 ⟨j.val, by omega⟩)) := by
  have hn : n.val / 4096 % 8 = n.val / 4096 := by omega
  refine Eq.trans ?_ (shifted_row x0 x1 x2 x3 x4 n.val ⟨j.val, by omega⟩)
  pointwise [val_main_v34, val_main_v33]
  simp only [hn]

/-- The recurrence's low-rank columns. -/
theorem narrow (n : Fin 32768) (j : Fin 160) : val_main_v37 (F := Ideal) x0 x1 x2 x3 x4 (ix2 n ⟨j.val, by omega⟩)
    = shift (col x0 x1 x2 n.val ⟨3072 + j.val, by omega⟩) (if n.val % 4096 = 0 then x4 (ix2 0 ⟨1536 + j.val, by omega⟩) else col x0 x1 x2 (n.val - 1) ⟨3072 + j.val, by omega⟩)
        (x3 (ix2 0 ⟨1536 + j.val, by omega⟩)) := by
  have hn : n.val / 4096 % 8 = n.val / 4096 := by omega
  have h := shifted_row x0 x1 x2 x3 x4 n.val ⟨1536 + j.val, by omega⟩
  simp only [← Nat.add_assoc, Nat.reduceAdd] at h
  refine Eq.trans ?_ h
  pointwise [val_main_v37, val_main_v36, val_main_v35]
  rw [dif_pos ⟨by show n.val / 4096 < 8; omega, by show n.val % 4096 < 4096; omega⟩]
  simp only [hn]

/-- The columns that only fill the array up are zero. -/
theorem filled (n : Fin 32768) (j : Fin 96) : val_main_v37 (F := Ideal) x0 x1 x2 x3 x4 (ix2 n ⟨160 + j.val, by omega⟩) = 0 := by
  pointwise [val_main_v37, val_main_v36, val_main_v35, val_main_call0_v0, val_main_c]
  rw [dif_neg (fun h => h.2.2)]
  exact fill

/-- The reference runs and leaves its three results, named as above, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = val_main_v32 (F := Ideal) (m ((c.tc : Thread nD τ).loc main_arg0)) (m ((c.tc : Thread nD τ).loc main_arg1)) (m ((c.tc : Thread nD τ).loc main_arg2))
      ∧ r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v32_eq (m ((c.tc : Thread nD τ).loc main_arg0)) (m ((c.tc : Thread nD τ).loc main_arg1)) (m ((c.tc : Thread nD τ).loc main_arg2))),
      (h c).2.1.trans (val_main_v34_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
      (h c).2.2.1.trans (val_main_v37_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))), (h c).2.2.2⟩)
    (Cert.Reference4Ideal.Value.run m ρ)

end Cert.InProjRef

end
-- ==== Proof.InProj.lean ====
/- The projection into the mixers with its token shift. -/
module

public import proofs.«01_k».proof.Proof.Gen.Kernel4Ideal.Value
public import proofs.«01_k».proof.Proof.InProjRef
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InProj

open Cert.Kernel4Ideal Cert.Kernel4Ideal.Gen

theorem pay6 (x0 : Vec Ideal S512x1024 .f32) (x1 : Vec Ideal S1x1024 .f32) (r : Fin 512) (k : Fin 1024) :
    k0_pay6 (F := Ideal) x0 x1 (ix2 r k) = FfnRow.norm (fun k => x0 (ix2 r k)) (fun k => x1 (ix2 0 k)) k := by
  pointwise [k0_pay6]
  rfl

theorem pay7 (x0 : Vec Ideal S512x1024 .f32) (x1 : Vec Ideal S1x1024 .f32) (w : Vec Ideal S1024x1536 .bf16) (r : Fin 512) (j : Fin 1536) :
    k0_pay7 (F := Ideal) x0 x1 w (ix2 r j)
      = FfnRow.proj (FfnRow.norm (fun k => x0 (ix2 r k)) (fun k => x1 (ix2 0 k))) (fun k => w (ix2 k j)) := by
  unfold k0_pay7
  pointwise []
  simp only [pay6]
  rfl

/-- The block computation marks row 0, and only it, to take the stored row instead of the one before. -/
theorem marked (r : Fin 512) (a b : EReal) :
    Scalar.select (IntOp.cmpi .eq (BitVec.ofNat 32 r.val) 0#32) a b = if r.val = 0 then a else b := by
  have h : ∀ r : Fin 512, IntOp.cmpi .eq (BitVec.ofNat 32 r.val) 0#32 = if r.val = 0 then 1#1 else 0#1 := by decide +kernel
  refine (congrArg (fun q => Scalar.select q a b) (h r)).trans ?_
  by_cases h0 : r.val = 0
  · rw [if_pos h0, if_pos h0]; rfl
  · rw [if_neg h0, if_neg h0]; rfl

/-- One element of the wide shifted block: row 0 is shifted towards the stored row `s`, every other towards the row before it. -/
theorem pay10 (n : FVec Ideal S512x1024 .bf16) (w : Vec Ideal S1024x1536 .bf16) (s mu : Vec Ideal S1x1536 .f32) (r : Fin 512) (j : Fin 1536) :
    k0_pay10 (F := Ideal) n (iota Kind.tc S512x1 32 [0] iota_S512x1_d0_w32) 0#32 w s mu (ix2 r j)
      = InProjRef.shift (FfnRow.proj (fun k => n (ix2 r k)) (fun k => w (ix2 k j)))
          (if r.val = 0 then s (ix2 0 j) else FfnRow.proj (fun k => n (ix2 ⟨(r.val + 512 - 1) % 512, by omega⟩ k)) (fun k => w (ix2 k j))) (mu (ix2 0 j)) := by
  pointwise [k0_pay10, k0_pay9, k0_pay8]
  rw [marked]
  rfl

/-- The same for the low-rank block. -/
theorem pay1 (n : FVec Ideal S512x1024 .bf16) (w : Vec Ideal S1024x256 .bf16) (s mu : Vec Ideal S1x256 .f32) (r : Fin 512) (j : Fin 256) :
    k0_pay1 (F := Ideal) (k0_pay13 n w) (k0_pay14 n (iota Kind.tc S512x1 32 [0] iota_S512x1_d0_w32) 0#32 w s) mu (ix2 r j)
      = InProjRef.shift (FfnRow.proj (fun k => n (ix2 r k)) (fun k => w (ix2 k j)))
          (if r.val = 0 then s (ix2 0 j) else FfnRow.proj (fun k => n (ix2 ⟨(r.val + 512 - 1) % 512, by omega⟩ k)) (fun k => w (ix2 k j))) (mu (ix2 0 j)) := by
  pointwise [k0_pay1, k0_pay13, k0_pay14, k0_pay8]
  rw [marked]
  rfl

/-- The row a block leaves for the next one is its last, unshifted. -/
theorem pay11 (n : FVec Ideal S512x1024 .bf16) (w : Vec Ideal S1024x1536 .bf16) (j : Fin 1536) :
    k0_pay11 (F := Ideal) n w (ix2 0 j) = FfnRow.proj (fun k => n (ix2 ⟨511, by omega⟩ k)) (fun k => w (ix2 k j)) := by
  pointwise [k0_pay11, k0_pay9]
  rfl

theorem pay2 (n : FVec Ideal S512x1024 .bf16) (w : Vec Ideal S1024x256 .bf16) (j : Fin 256) :
    k0_pay2 (F := Ideal) (k0_pay13 n w) (ix2 0 j) = FfnRow.proj (fun k => n (ix2 ⟨511, by omega⟩ k)) (fun k => w (ix2 k j)) := by
  pointwise [k0_pay2, k0_pay13]
  rfl

theorem pay4 (s : Vec Ideal S1x1536 .f32) (j : Fin 1536) : k0_pay4 (F := Ideal) s (ix2 0 j) = s (ix2 0 j) := by
  pointwise [k0_pay4]

theorem pay5 (s : Vec Ideal S1x256 .f32) (j : Fin 256) : k0_pay5 (F := Ideal) s (ix2 0 j) = s (ix2 0 j) := by
  pointwise [k0_pay5]

variable (m : (ℓ : Loc nD τ sig) → Buf (Elt Ideal) ℓ)

/-- The scratch rows after grid point `t` hold the last row of its block. -/
theorem state0 (c : Dev nD) (t : ℕ) (ht : t < cfg0.N) : (outsAt0 m c t ht).2.2.2.2.2.1
    = k0_pay11 (F := Ideal) (k0_pay6 (iblk m c 0 ⟨t, ht⟩) (iblk m c 1 ⟨t, ht⟩)) (iblk m c 3 ⟨t, ht⟩) := by
  by_cases h0 : t % 8 = 0
  · rw [outsAt0_A m c ⟨t, ht⟩ h0]; frame_out
  · rw [outsAt0_B m c ⟨t, ht⟩ h0]; frame_out

theorem state1 (c : Dev nD) (t : ℕ) (ht : t < cfg0.N) : (outsAt0 m c t ht).2.2.2.2.2.2
    = k0_pay2 (F := Ideal) (k0_pay13 (k0_pay6 (iblk m c 0 ⟨t, ht⟩) (iblk m c 1 ⟨t, ht⟩)) (iblk m c 4 ⟨t, ht⟩)) := by
  by_cases h0 : t % 8 = 0
  · rw [outsAt0_A m c ⟨t, ht⟩ h0]; frame_out
  · rw [outsAt0_B m c ⟨t, ht⟩ h0]; frame_out

/-- The first result's block. -/
theorem out9 (c : Dev nD) (t : Fin cfg0.N) : (outsAt0 m c t.val t.isLt).1
    = k0_pay7 (F := Ideal) (iblk m c 0 t) (iblk m c 1 t) (iblk m c 2 t) := by
  by_cases h0 : t.val % 8 = 0
  · rw [outsAt0_A m c t h0]; frame_out
  · rw [outsAt0_B m c t h0]; frame_out

/-- The second result's block at the start of a sequence, and further on. -/
theorem out10A (c : Dev nD) (t : Fin cfg0.N) (h0 : t.val % 8 = 0) : (outsAt0 m c t.val t.isLt).2.1
    = k0_pay10 (F := Ideal) (k0_pay6 (iblk m c 0 t) (iblk m c 1 t)) (iota Kind.tc S512x1 32 [0] iota_S512x1_d0_w32) 0#32 (iblk m c 3 t) (k0_pay4 (iblk m c 7 t)) (iblk m c 5 t) := by
  rw [outsAt0_A m c t h0]; frame_out

theorem out10B (c : Dev nD) (t : Fin cfg0.N) (h0 : ¬ t.val % 8 = 0) : (outsAt0 m c t.val t.isLt).2.1
    = k0_pay10 (F := Ideal) (k0_pay6 (iblk m c 0 t) (iblk m c 1 t)) (iota Kind.tc S512x1 32 [0] iota_S512x1_d0_w32) 0#32 (iblk m c 3 t)
        (outsAt0 m c (t.val - 1) (lt_of_le_of_lt (Nat.sub_le _ _) t.isLt)).2.2.2.2.2.1 (iblk m c 5 t) := by
  rw [outsAt0_B m c t h0]; frame_out
  exact congrArg (fun s => k0_pay10 (F := Ideal) (k0_pay6 (iblk m c 0 t) (iblk m c 1 t)) (iota Kind.tc S512x1 32 [0] iota_S512x1_d0_w32) 0#32 (iblk m c 3 t) s (iblk m c 5 t)) (Memref.IsWhole.read_unread _ _)

/-- The third result's block at the start of a sequence, and further on. -/
theorem out11A (c : Dev nD) (t : Fin cfg0.N) (h0 : t.val % 8 = 0) : (outsAt0 m c t.val t.isLt).2.2.1
    = k0_pay1 (F := Ideal) (k0_pay13 (k0_pay6 (iblk m c 0 t) (iblk m c 1 t)) (iblk m c 4 t))
        (k0_pay14 (k0_pay6 (iblk m c 0 t) (iblk m c 1 t)) (iota Kind.tc S512x1 32 [0] iota_S512x1_d0_w32) 0#32 (iblk m c 4 t) (k0_pay5 (iblk m c 8 t))) (iblk m c 6 t) := by
  rw [outsAt0_A m c t h0]; frame_out

theorem out11B (c : Dev nD) (t : Fin cfg0.N) (h0 : ¬ t.val % 8 = 0) : (outsAt0 m c t.val t.isLt).2.2.1
    = k0_pay1 (F := Ideal) (k0_pay13 (k0_pay6 (iblk m c 0 t) (iblk m c 1 t)) (iblk m c 4 t))
        (k0_pay14 (k0_pay6 (iblk m c 0 t) (iblk m c 1 t)) (iota Kind.tc S512x1 32 [0] iota_S512x1_d0_w32) 0#32 (iblk m c 4 t)
          (outsAt0 m c (t.val - 1) (lt_of_le_of_lt (Nat.sub_le _ _) t.isLt)).2.2.2.2.2.2) (iblk m c 6 t) := by
  rw [outsAt0_B m c t h0]; frame_out
  exact congrArg (fun s => k0_pay1 (F := Ideal) (k0_pay13 (k0_pay6 (iblk m c 0 t) (iblk m c 1 t)) (iblk m c 4 t))
    (k0_pay14 (k0_pay6 (iblk m c 0 t) (iblk m c 1 t)) (iota Kind.tc S512x1 32 [0] iota_S512x1_d0_w32) 0#32 (iblk m c 4 t) s) (iblk m c 6 t)) (Memref.IsWhole.read_unread _ _)

/-- The block every window stages at grid point `t`: the token windows take row block `t`, the others their whole array. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, _)

theorem host0 (c : Dev nD) (n : Fin 32768) (k : Fin 1024) :
    (show Vec Ideal S32768x1024 .f32 from V m c main_v24) (ix2 n k)
      = (show FVec Ideal S8x4096x1024 .f32 from m ((c : Thread nD τ).loc main_arg0)) (ix3 ⟨n.val / 4096, by omega⟩ ⟨n.val % 4096, by omega⟩ k) := by
  unfold V
  after_reads_at

/-- Row `r` of token block `t` is row `512 t + r` of all tokens. -/
theorem read0 (c : Dev nD) (t : Fin cfg0.N) (ht : t.val < 64) (r : Fin 512) (k : Fin 1024) :
    (show Vec Ideal S512x1024 .f32 from iblk m c 0 t) (ix2 r k) = InProjRef.row (show FVec Ideal S8x4096x1024 .f32 from m ((c : Thread nD τ).loc main_arg0)) (t.val * 512 + r.val) k := by
  have e : (t.val * 512 + r.val) / 4096 % 8 = (t.val * 512 + r.val) / 4096 := by omega
  unfold InProjRef.row
  simp only [e]
  refine Eq.trans ?_ (host0 m c ⟨t.val * 512 + r.val, by omega⟩ k)
  blk_point [iblk, idx t]

/-- The norm's gain. -/
theorem host1 (c : Dev nD) (k : Fin 1024) :
    (show Vec Ideal S1x1024 .f32 from V m c main_v23) (ix2 0 k)
      = (show FVec Ideal S1x1024 .f32 from m ((c : Thread nD τ).loc main_arg1)) (ix2 0 k) := by
  unfold V
  after_reads_at

theorem read1 (c : Dev nD) (t : Fin cfg0.N) (k : Fin 1024) :
    (show Vec Ideal S1x1024 .f32 from iblk m c 1 t) (ix2 0 k)
      = (show FVec Ideal S1x1024 .f32 from m ((c : Thread nD τ).loc main_arg1)) (ix2 0 k) := by
  refine Eq.trans ?_ (host1 m c k)
  blk_point [iblk, idx t]

/-- The query columns come scaled. -/
theorem host2q (c : Dev nD) (k : Fin 1024) (j : Fin 512) :
    (show Vec Ideal S1024x1536 .bf16 from V m c main_v7) (ix2 k ⟨j.val, by omega⟩)
      = (show FVec Ideal S1x1024x3232 .f32 from m ((c : Thread nD τ).loc main_arg2)) (ix3 0 k ⟨j.val, by omega⟩) * Ideal.ofBits .f32 0x3E38AA3B#32 := by
  unfold V
  after_reads_at
  after_reads_at

theorem read2q (c : Dev nD) (t : Fin cfg0.N) (k : Fin 1024) (j : Fin 512) :
    (show Vec Ideal S1024x1536 .bf16 from iblk m c 2 t) (ix2 k ⟨j.val, by omega⟩)
      = (show FVec Ideal S1x1024x3232 .f32 from m ((c : Thread nD τ).loc main_arg2)) (ix3 0 k ⟨j.val, by omega⟩) * Ideal.ofBits .f32 0x3E38AA3B#32 := by
  refine Eq.trans ?_ (host2q m c k j)
  blk_point [iblk, idx t]

/-- The key and value columns. -/
theorem host2 (c : Dev nD) (k : Fin 1024) (j : Fin 1024) :
    (show Vec Ideal S1024x1536 .bf16 from V m c main_v7) (ix2 k ⟨512 + j.val, by omega⟩)
      = (show FVec Ideal S1x1024x3232 .f32 from m ((c : Thread nD τ).loc main_arg2)) (ix3 0 k ⟨512 + j.val, by omega⟩) := by
  unfold V
  after_reads_at
  after_reads_at

theorem read2 (c : Dev nD) (t : Fin cfg0.N) (k : Fin 1024) (j : Fin 1024) :
    (show Vec Ideal S1024x1536 .bf16 from iblk m c 2 t) (ix2 k ⟨512 + j.val, by omega⟩)
      = (show FVec Ideal S1x1024x3232 .f32 from m ((c : Thread nD τ).loc main_arg2)) (ix3 0 k ⟨512 + j.val, by omega⟩) := by
  refine Eq.trans ?_ (host2 m c k j)
  blk_point [iblk, idx t]

/-- The recurrence's wide columns. -/
theorem host3 (c : Dev nD) (k : Fin 1024) (j : Fin 1536) :
    (show Vec Ideal S1024x1536 .bf16 from V m c main_v10) (ix2 k j)
      = (show FVec Ideal S1x1024x3232 .f32 from m ((c : Thread nD τ).loc main_arg2)) (ix3 0 k ⟨1536 + j.val, by omega⟩) := by
  unfold V
  after_reads_at

theorem read3 (c : Dev nD) (t : Fin cfg0.N) (k : Fin 1024) (j : Fin 1536) :
    (show Vec Ideal S1024x1536 .bf16 from iblk m c 3 t) (ix2 k j)
      = (show FVec Ideal S1x1024x3232 .f32 from m ((c : Thread nD τ).loc main_arg2)) (ix3 0 k ⟨1536 + j.val, by omega⟩) := by
  refine Eq.trans ?_ (host3 m c k j)
  blk_point [iblk, idx t]

/-- The low-rank columns, filled up with zeros. -/
theorem host4 (c : Dev nD) (k : Fin 1024) (j : Fin 160) :
    (show Vec Ideal S1024x256 .bf16 from V m c main_v14) (ix2 k ⟨j.val, by omega⟩)
      = (show FVec Ideal S1x1024x3232 .f32 from m ((c : Thread nD τ).loc main_arg2)) (ix3 0 k ⟨3072 + j.val, by omega⟩) := by
  unfold V
  after_reads_at

theorem read4 (c : Dev nD) (t : Fin cfg0.N) (k : Fin 1024) (j : Fin 160) :
    (show Vec Ideal S1024x256 .bf16 from iblk m c 4 t) (ix2 k ⟨j.val, by omega⟩)
      = (show FVec Ideal S1x1024x3232 .f32 from m ((c : Thread nD τ).loc main_arg2)) (ix3 0 k ⟨3072 + j.val, by omega⟩) := by
  refine Eq.trans ?_ (host4 m c k j)
  blk_point [iblk, idx t]

theorem host4z (c : Dev nD) (k : Fin 1024) (j : Fin 96) :
    (show Vec Ideal S1024x256 .bf16 from V m c main_v14) (ix2 k ⟨160 + j.val, by omega⟩)
      = 0 := by
  unfold V
  after_reads_at
  exact InProjRef.fill

theorem read4z (c : Dev nD) (t : Fin cfg0.N) (k : Fin 1024) (j : Fin 96) :
    (show Vec Ideal S1024x256 .bf16 from iblk m c 4 t) (ix2 k ⟨160 + j.val, by omega⟩)
      = 0 := by
  refine Eq.trans ?_ (host4z m c k j)
  blk_point [iblk, idx t]

theorem host5 (c : Dev nD) (j : Fin 1536) :
    (show Vec Ideal S1x1536 .f32 from V m c main_v17) (ix2 0 j)
      = (show FVec Ideal S1x1696 .f32 from m ((c : Thread nD τ).loc main_arg3)) (ix2 0 ⟨j.val, by omega⟩) := by
  unfold V
  after_reads_at

theorem read5 (c : Dev nD) (t : Fin cfg0.N) (j : Fin 1536) :
    (show Vec Ideal S1x1536 .f32 from iblk m c 5 t) (ix2 0 j)
      = (show FVec Ideal S1x1696 .f32 from m ((c : Thread nD τ).loc main_arg3)) (ix2 0 ⟨j.val, by omega⟩) := by
  refine Eq.trans ?_ (host5 m c j)
  blk_point [iblk, idx t]

theorem host6 (c : Dev nD) (j : Fin 160) :
    (show Vec Ideal S1x256 .f32 from V m c main_v21) (ix2 0 ⟨j.val, by omega⟩)
      = (show FVec Ideal S1x1696 .f32 from m ((c : Thread nD τ).loc main_arg3)) (ix2 0 ⟨1536 + j.val, by omega⟩) := by
  unfold V
  after_reads_at

theorem read6 (c : Dev nD) (t : Fin cfg0.N) (j : Fin 160) :
    (show Vec Ideal S1x256 .f32 from iblk m c 6 t) (ix2 0 ⟨j.val, by omega⟩)
      = (show FVec Ideal S1x1696 .f32 from m ((c : Thread nD τ).loc main_arg3)) (ix2 0 ⟨1536 + j.val, by omega⟩) := by
  refine Eq.trans ?_ (host6 m c j)
  blk_point [iblk, idx t]

theorem host6z (c : Dev nD) (j : Fin 96) :
    (show Vec Ideal S1x256 .f32 from V m c main_v21) (ix2 0 ⟨160 + j.val, by omega⟩)
      = 0 := by
  unfold V
  after_reads_at
  exact InProjRef.fill

theorem read6z (c : Dev nD) (t : Fin cfg0.N) (j : Fin 96) :
    (show Vec Ideal S1x256 .f32 from iblk m c 6 t) (ix2 0 ⟨160 + j.val, by omega⟩)
      = 0 := by
  refine Eq.trans ?_ (host6z m c j)
  blk_point [iblk, idx t]

theorem host7 (c : Dev nD) (j : Fin 1536) :
    (show Vec Ideal S1x1536 .f32 from V m c main_v25) (ix2 0 j)
      = (show FVec Ideal S1x1696 .f32 from m ((c : Thread nD τ).loc main_arg4)) (ix2 0 ⟨j.val, by omega⟩) := by
  unfold V
  after_reads_at

theorem read7 (c : Dev nD) (t : Fin cfg0.N) (j : Fin 1536) :
    (show Vec Ideal S1x1536 .f32 from iblk m c 7 t) (ix2 0 j)
      = (show FVec Ideal S1x1696 .f32 from m ((c : Thread nD τ).loc main_arg4)) (ix2 0 ⟨j.val, by omega⟩) := by
  refine Eq.trans ?_ (host7 m c j)
  blk_point [iblk, idx t]

theorem host8 (c : Dev nD) (j : Fin 160) :
    (show Vec Ideal S1x256 .f32 from V m c main_v27) (ix2 0 ⟨j.val, by omega⟩)
      = (show FVec Ideal S1x1696 .f32 from m ((c : Thread nD τ).loc main_arg4)) (ix2 0 ⟨1536 + j.val, by omega⟩) := by
  unfold V
  after_reads_at

theorem read8 (c : Dev nD) (t : Fin cfg0.N) (j : Fin 160) :
    (show Vec Ideal S1x256 .f32 from iblk m c 8 t) (ix2 0 ⟨j.val, by omega⟩)
      = (show FVec Ideal S1x1696 .f32 from m ((c : Thread nD τ).loc main_arg4)) (ix2 0 ⟨1536 + j.val, by omega⟩) := by
  refine Eq.trans ?_ (host8 m c j)
  blk_point [iblk, idx t]

/-- The normed row `r` of block `t`. -/
theorem row_norm (c : Dev nD) (t : Fin cfg0.N) (ht : t.val < 64) (r : Fin 512) (k : Fin 1024) :
    k0_pay6 (F := Ideal) (iblk m c 0 t) (iblk m c 1 t) (ix2 r k) = FfnRow.norm (InProjRef.row (show FVec Ideal S8x4096x1024 .f32 from m ((c : Thread nD τ).loc main_arg0)) (t.val * 512 + r.val)) (fun k => (show FVec Ideal S1x1024 .f32 from m ((c : Thread nD τ).loc main_arg1)) (ix2 0 k)) k :=
  (pay6 _ _ r k).trans (FfnRow.norm_congr (read0 m c t ht r) (read1 m c t) k)

/-- A wide column of row `r` of block `t`, before the shift. -/
theorem wide_col (c : Dev nD) (t : Fin cfg0.N) (ht : t.val < 64) (r : Fin 512) (j : Fin 1536) :
    FfnRow.proj (fun k => k0_pay6 (F := Ideal) (iblk m c 0 t) (iblk m c 1 t) (ix2 r k)) (fun k => (show Vec Ideal S1024x1536 .bf16 from iblk m c 3 t) (ix2 k j))
      = InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨1536 + j.val, by omega⟩ :=
  congrArg₂ FfnRow.proj (funext (row_norm m c t ht r)) (funext fun k => read3 m c t k j)

/-- A low-rank column of row `r` of block `t`, before the shift. -/
theorem narrow_col (c : Dev nD) (t : Fin cfg0.N) (ht : t.val < 64) (r : Fin 512) (j : Fin 160) :
    FfnRow.proj (fun k => k0_pay6 (F := Ideal) (iblk m c 0 t) (iblk m c 1 t) (ix2 r k)) (fun k => (show Vec Ideal S1024x256 .bf16 from iblk m c 4 t) (ix2 k ⟨j.val, by omega⟩))
      = InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨3072 + j.val, by omega⟩ :=
  congrArg₂ FfnRow.proj (funext (row_norm m c t ht r)) (funext fun k => read4 m c t k j)

/-- The filled-up columns are zero. -/
theorem filled_col (c : Dev nD) (t : Fin cfg0.N) (r : Fin 512) (j : Fin 96) :
    FfnRow.proj (fun k => k0_pay6 (F := Ideal) (iblk m c 0 t) (iblk m c 1 t) (ix2 r k)) (fun k => (show Vec Ideal S1024x256 .bf16 from iblk m c 4 t) (ix2 k ⟨160 + j.val, by omega⟩)) = 0 :=
  Finset.sum_eq_zero fun k _ => (congrArg _ (read4z m c t k j)).trans (mul_zero _)

/-- The factor of the queries is a positive number. -/
theorem factor : 0 ≤ Ideal.ofBits .f32 0x3E38AA3B#32 ∧ Ideal.ofBits .f32 0x3E38AA3B#32 ≠ ⊤ := by
  have h : Ideal.ofBits .f32 0x3E38AA3B#32 = (((12102203 : ℝ) / 67108864 : ℝ) : EReal) := by
    simp [Ideal.ofBits, Ideal.ieee, -EReal.coe_mul]; norm_num
  rw [h]
  exact ⟨EReal.coe_nonneg.mpr (by norm_num), EReal.coe_ne_top _⟩

/-- Scaling the weights of a column by a factor that is neither negative nor infinite scales the column. -/
theorem proj_scale (n w : Fin 1024 → EReal) (s : EReal) (h0 : 0 ≤ s) (h1 : s ≠ ⊤) : FfnRow.proj n (fun k => w k * s) = FfnRow.proj n w * s := by
  have h : ∀ F : Finset (Fin 1024), ∑ k ∈ F, n k * (w k * s) = (∑ k ∈ F, n k * w k) * s := fun F => by
    induction F using Finset.induction_on with
    | empty => simp
    | insert a F ha ih =>
      rw [Finset.sum_insert ha, Finset.sum_insert ha, ih, EReal.right_distrib_of_nonneg_of_ne_top h0 h1, mul_assoc]
  exact h Finset.univ

/-- The queries of block `t`. -/
theorem point9q (c : Dev nD) (t : Fin cfg0.N) (ht : t.val < 64) (r : Fin 512) (j : Fin 512) :
    (show Vec Ideal S512x1536 .bf16 from (outsAt0 m c t.val t.isLt).1) (ix2 r ⟨j.val, by omega⟩)
      = InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨j.val, by omega⟩ * Ideal.ofBits .f32 0x3E38AA3B#32 := by
  rw [out9]
  refine (pay7 _ _ _ r _).trans ((congrArg₂ FfnRow.proj ?_ ?_).trans (proj_scale _ _ _ factor.1 factor.2))
  · exact funext (FfnRow.norm_congr (read0 m c t ht r) (read1 m c t))
  · exact funext fun k => read2q m c t k j

/-- The keys and values of block `t`. -/
theorem point9 (c : Dev nD) (t : Fin cfg0.N) (ht : t.val < 64) (r : Fin 512) (j : Fin 1024) :
    (show Vec Ideal S512x1536 .bf16 from (outsAt0 m c t.val t.isLt).1) (ix2 r ⟨512 + j.val, by omega⟩)
      = InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨512 + j.val, by omega⟩ := by
  rw [out9]
  refine (pay7 _ _ _ r _).trans (congrArg₂ FfnRow.proj ?_ ?_)
  · exact funext (FfnRow.norm_congr (read0 m c t ht r) (read1 m c t))
  · exact funext fun k => read2 m c t k j

/-- The wide columns of block `t`: row 0 is shifted towards the row the block before left, at a sequence's start towards
    the given one. -/
theorem point10 (c : Dev nD) (t : Fin cfg0.N) (ht : t.val < 64) (r : Fin 512) (j : Fin 1536) :
    (show Vec Ideal S512x1536 .f32 from (outsAt0 m c t.val t.isLt).2.1) (ix2 r j)
      = InProjRef.shift (InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨1536 + j.val, by omega⟩)
          (if (t.val * 512 + r.val) % 4096 = 0 then (show FVec Ideal S1x1696 .f32 from m ((c : Thread nD τ).loc main_arg4)) (ix2 0 ⟨j.val, by omega⟩)
            else InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val - 1) ⟨1536 + j.val, by omega⟩)
          ((show FVec Ideal S1x1696 .f32 from m ((c : Thread nD τ).loc main_arg3)) (ix2 0 ⟨j.val, by omega⟩)) := by
  by_cases h0 : t.val % 8 = 0
  · rw [out10A m c t h0]
    refine (pay10 _ _ _ _ r j).trans ?_
    refine (congrArg₂ (fun p q => InProjRef.shift p _ q) (wide_col m c t ht r j) (read5 m c t j)).trans ?_
    refine congrArg (fun q => InProjRef.shift _ q _) ?_
    by_cases hr : r.val = 0
    · rw [if_pos hr, if_pos (by omega)]
      exact (pay4 _ j).trans (read7 m c t j)
    · rw [if_neg hr, if_neg (by omega)]
      refine (wide_col m c t ht _ j).trans (congrArg (fun n => InProjRef.col _ _ _ n _) ?_)
      show t.val * 512 + (r.val + 512 - 1) % 512 = t.val * 512 + r.val - 1
      omega
  · rw [out10B m c t h0]
    refine (pay10 _ _ _ _ r j).trans ?_
    refine (congrArg₂ (fun p q => InProjRef.shift p _ q) (wide_col m c t ht r j) (read5 m c t j)).trans ?_
    refine congrArg (fun q => InProjRef.shift _ q _) ?_
    by_cases hr : r.val = 0
    · rw [if_pos hr, if_neg (by omega), state0]
      refine (pay11 _ _ j).trans ((wide_col m c ⟨t.val - 1, _⟩ (by show t.val - 1 < 64; omega) _ j).trans (congrArg (fun n => InProjRef.col _ _ _ n _) ?_))
      show (t.val - 1) * 512 + 511 = t.val * 512 + r.val - 1
      omega
    · rw [if_neg hr, if_neg (by omega)]
      refine (wide_col m c t ht _ j).trans (congrArg (fun n => InProjRef.col _ _ _ n _) ?_)
      show t.val * 512 + (r.val + 512 - 1) % 512 = t.val * 512 + r.val - 1
      omega

/-- The low-rank columns of block `t`, likewise. -/
theorem point11 (c : Dev nD) (t : Fin cfg0.N) (ht : t.val < 64) (r : Fin 512) (j : Fin 160) :
    (show Vec Ideal S512x256 .f32 from (outsAt0 m c t.val t.isLt).2.2.1) (ix2 r ⟨j.val, by omega⟩)
      = InProjRef.shift (InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val) ⟨3072 + j.val, by omega⟩)
          (if (t.val * 512 + r.val) % 4096 = 0 then (show FVec Ideal S1x1696 .f32 from m ((c : Thread nD τ).loc main_arg4)) (ix2 0 ⟨1536 + j.val, by omega⟩)
            else InProjRef.col (show FVec Ideal S8x4096x1024 .f32 from m ((c : Thread nD τ).loc main_arg0)) (show FVec Ideal S1x1024 .f32 from m ((c : Thread nD τ).loc main_arg1)) (show FVec Ideal S1x1024x3232 .f32 from m ((c : Thread nD τ).loc main_arg2)) (t.val * 512 + r.val - 1) ⟨3072 + j.val, by omega⟩)
          ((show FVec Ideal S1x1696 .f32 from m ((c : Thread nD τ).loc main_arg3)) (ix2 0 ⟨1536 + j.val, by omega⟩)) := by
  by_cases h0 : t.val % 8 = 0
  · rw [out11A m c t h0]
    refine (pay1 _ _ _ _ r _).trans ?_
    refine (congrArg₂ (fun p q => InProjRef.shift p _ q) (narrow_col m c t ht r j) (read6 m c t j)).trans ?_
    refine congrArg (fun q => InProjRef.shift _ q _) ?_
    by_cases hr : r.val = 0
    · rw [if_pos hr, if_pos (by omega)]
      exact (pay5 _ _).trans (read8 m c t j)
    · rw [if_neg hr, if_neg (by omega)]
      refine (narrow_col m c t ht _ j).trans (congrArg (fun n => InProjRef.col _ _ _ n _) ?_)
      show t.val * 512 + (r.val + 512 - 1) % 512 = t.val * 512 + r.val - 1
      omega
  · rw [out11B m c t h0]
    refine (pay1 _ _ _ _ r _).trans ?_
    refine (congrArg₂ (fun p q => InProjRef.shift p _ q) (narrow_col m c t ht r j) (read6 m c t j)).trans ?_
    refine congrArg (fun q => InProjRef.shift _ q _) ?_
    by_cases hr : r.val = 0
    · rw [if_pos hr, if_neg (by omega), state1]
      refine (pay2 _ _ _).trans ((narrow_col m c ⟨t.val - 1, _⟩ (by show t.val - 1 < 64; omega) _ j).trans (congrArg (fun n => InProjRef.col _ _ _ n _) ?_))
      show (t.val - 1) * 512 + 511 = t.val * 512 + r.val - 1
      omega
    · rw [if_neg hr, if_neg (by omega)]
      refine (narrow_col m c t ht _ j).trans (congrArg (fun n => InProjRef.col _ _ _ n _) ?_)
      show t.val * 512 + (r.val + 512 - 1) % 512 = t.val * 512 + r.val - 1
      omega

/-- The filled-up columns stay zero: their share of the row before is zero. -/
theorem point11z (c : Dev nD) (t : Fin cfg0.N) (r : Fin 512) (j : Fin 96) :
    (show Vec Ideal S512x256 .f32 from (outsAt0 m c t.val t.isLt).2.2.1) (ix2 r ⟨160 + j.val, by omega⟩) = 0 := by
  have h : ∀ q, InProjRef.shift 0 q 0 = 0 := fun q => by unfold InProjRef.shift; rw [mul_zero, add_zero]
  by_cases h0 : t.val % 8 = 0
  · rw [out11A m c t h0]
    refine (pay1 _ _ _ _ r _).trans ?_
    exact (congrArg₂ (fun p q => InProjRef.shift p _ q) (filled_col m c t r j) (read6z m c t j)).trans (h _)
  · rw [out11B m c t h0]
    refine (pay1 _ _ _ _ r _).trans ?_
    exact (congrArg₂ (fun p q => InProjRef.shift p _ q) (filled_col m c t r j) (read6z m c t j)).trans (h _)

/-- The kernel's first array is the reference's first result. -/
theorem final9 (c : Dev nD) : (dats m 0 c).arrAt 9 (cfgs 0).N
    = Cert.Reference4Ideal.Read.val_main_v32 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  have ht : t.val < 64 := lt_of_lt_of_eq t.isLt N_0
  have e : (((cfg0.win 9).blk t).view.emb (ix2 y0 y1 : S512x1536.Idx)) = (ix2 (⟨t.val * 512 + y0.val, by omega⟩ : Fin 32768) y1 : S32768x1536.Idx) := by
    blk_ext [idx t]
  refine Eq.trans ?_ (congrArg (Cert.Reference4Ideal.Read.val_main_v32 (F := Ideal) (m ((c : Thread nD τ).loc main_arg0)) (m ((c : Thread nD τ).loc main_arg1)) (m ((c : Thread nD τ).loc main_arg2))) e).symm
  by_cases h : y1.val < 512
  · exact (point9q m c t ht y0 ⟨y1.val, h⟩).trans (InProjRef.query _ _ _ ⟨t.val * 512 + y0.val, by omega⟩ ⟨y1.val, h⟩).symm
  · obtain ⟨j, rfl⟩ : ∃ j : Fin 1024, y1 = ⟨512 + j.val, Nat.add_lt_add_left j.isLt 512⟩ := ⟨⟨y1.val - 512, by omega⟩, Fin.ext (by show y1.val = 512 + (y1.val - 512); omega)⟩
    exact (point9 m c t ht y0 j).trans (InProjRef.key_value _ _ _ ⟨t.val * 512 + y0.val, by omega⟩ j).symm

/-- The second. -/
theorem final10 (c : Dev nD) : (dats m 0 c).arrAt 10 (cfgs 0).N
    = Cert.Reference4Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  idx_vars y
  have ht : t.val < 64 := lt_of_lt_of_eq t.isLt N_0
  have e : (((cfg0.win 10).blk t).view.emb (ix2 y0 y1 : S512x1536.Idx)) = (ix2 (⟨t.val * 512 + y0.val, by omega⟩ : Fin 32768) y1 : S32768x1536.Idx) := by
    blk_ext [idx t]
  refine Eq.trans ?_ (congrArg (Cert.Reference4Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e).symm
  exact (point10 m c t ht y0 y1).trans (InProjRef.wide _ _ _ _ _ ⟨t.val * 512 + y0.val, by omega⟩ y1).symm

/-- The third. -/
theorem final11 (c : Dev nD) : (dats m 0 c).arrAt 11 (cfgs 0).N
    = Cert.Reference4Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  idx_vars y
  have ht : t.val < 64 := lt_of_lt_of_eq t.isLt N_0
  have e : (((cfg0.win 11).blk t).view.emb (ix2 y0 y1 : S512x256.Idx)) = (ix2 (⟨t.val * 512 + y0.val, by omega⟩ : Fin 32768) y1 : S32768x256.Idx) := by
    blk_ext [idx t]
  refine Eq.trans ?_ (congrArg (Cert.Reference4Ideal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e).symm
  by_cases h : y1.val < 160
  · exact (point11 m c t ht y0 ⟨y1.val, h⟩).trans (InProjRef.narrow _ _ _ _ _ ⟨t.val * 512 + y0.val, by omega⟩ ⟨y1.val, h⟩).symm
  · obtain ⟨j, rfl⟩ : ∃ j : Fin 96, y1 = ⟨160 + j.val, Nat.add_lt_add_left j.isLt 160⟩ := ⟨⟨y1.val - 160, by omega⟩, Fin.ext (by show y1.val = 160 + (y1.val - 160); omega)⟩
    exact (point11z m c t y0 j).trans (InProjRef.filled _ _ _ _ _ ⟨t.val * 512 + y0.val, by omega⟩ j).symm

end Cert.InProj

end
-- ==== Proof.MetaRecReal.lean ====
/- A chunk's contribution to the state, over real operands. -/
module

public import proofs.«01_k».proof.Proof.MetaRecPair
public import proofs.«01_k».proof.Proof.MetaRecChunk
public import proofs.«01_k».proof.Proof.InProj

@[expose] public section

set_option maxRecDepth 16384

noncomputable section

open Idealize.ShloMosaic Idealize.ShloMosaic.TcCoe Idealize.SL.Sem

namespace Cert.MetaRec

open Cert.Kernel7Ideal Cert.Kernel7Ideal.Gen Cert.MetaRecMath

theorem same_head : ∀ i j : Fin 128, k0_pay4 (ix2 i j) = if i.val / 64 = j.val / 64 then 1#1 else 0#1 := by
  have h : ∀ i j : Fin 128, IntOp.xori (IntOp.xori (IntOp.cmpi .slt (BitVec.ofNat 32 i.val) 64#32) (IntOp.cmpi .slt (BitVec.ofNat 32 j.val) 64#32)) 1#1
     = if i.val / 64 = j.val / 64 then 1#1 else 0#1 := by decide +kernel
  intro i j
  rw [← h i j]
  pointwise [k0_pay4]

theorem strict : ∀ i j : Fin 128, k0_pay6 (ix2 i j) = if i.val / 64 = j.val / 64 ∧ j.val < i.val then 1#1 else 0#1 := by
  have h : ∀ i j : Fin 128, IntOp.andi (IntOp.xori (IntOp.xori (IntOp.cmpi .slt (BitVec.ofNat 32 i.val) 64#32) (IntOp.cmpi .slt (BitVec.ofNat 32 j.val) 64#32)) 1#1) (IntOp.cmpi .slt (BitVec.ofNat 32 j.val) (BitVec.ofNat 32 i.val))
     = if i.val / 64 = j.val / 64 ∧ j.val < i.val then 1#1 else 0#1 := by decide +kernel
  intro i j
  rw [← h i j]
  pointwise [k0_pay6, k0_pay4]

theorem diag : ∀ i j : Fin 128, k0_pay8 (ix2 i j) = if i = j then 1#1 else 0#1 := by
  have h : ∀ i j : Fin 128, IntOp.cmpi .eq (BitVec.ofNat 32 i.val) (BitVec.ofNat 32 j.val) = if i = j then 1#1 else 0#1 := by decide +kernel
  intro i j
  rw [← h i j]
  pointwise [k0_pay8]

theorem sel_if {P : Prop} [Decidable P] {α : Type} (a b : α) : Scalar.select (if P then 1#1 else 0#1) a b = if P then a else b := by
  by_cases h : P <;> simp [h, Scalar.select]

theorem zero16_at (i j : Fin 128) : zero16 (ix2 i j) = (0 : EReal) := by
  pointwise [zero16]

theorem zero32_at (i j : Fin 128) : zero32 (ix2 i j) = (0 : EReal) := by
  pointwise [zero32]

theorem stk_at (x : FVec Ideal S64x128 .bf16) (i j : Fin 128) : stk x (ix2 i j) = x (ix2 ⟨i.val % 64, by omega⟩ j) := by
  pointwise [stk]
  have hi := i.isLt
  split
  · next h => exact congrArg (fun q => x (ix2 q j)) (Fin.ext (Nat.mod_eq_of_lt h).symm)
  · next h => exact congrArg (fun q => x (ix2 q j)) (Fin.ext (show i.val - 64 = i.val % 64 by omega))

theorem mm_at (x y : FVec Ideal S128x128 .bf16) (i j : Fin 128) : mm x y (ix2 i j) = (∑ k : Fin 128, x (ix2 i k) * y (ix2 k j) : EReal) := by
  pointwise [mm]

/-- An array of real values. -/
def Rl {φ : FTy} (X : FVec Ideal S128x128 φ) (x : Mat) : Prop := ∀ i j : Fin 128, X (ix2 i j) = ((x i j : ℝ) : EReal)

/-- A chunk's rows with real values. -/
def Rr {φ : FTy} (X : FVec Ideal S64x128 φ) (x : ℕ → ℕ → ℝ) : Prop := ∀ (i : Fin 64) (j : Fin 128), X (ix2 i j) = ((x i.val j.val : ℝ) : EReal)

theorem coe_sum {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem Rl.mm {X Y : FVec Ideal S128x128 .bf16} {x y : Mat} (hx : Rl X x) (hy : Rl Y y) : Rl (mm X Y) (x * y) := by
  intro i j
  rw [mm_at, Matrix.mul_apply, coe_sum]
  exact Finset.sum_congr rfl fun k _ => by rw [hx i k, hy k j, EReal.coe_mul]

theorem Rl.add {X Y : FVec Ideal S128x128 .f32} {x y : Mat} (hx : Rl X x) (hy : Rl Y y) : Rl (addf X Y) (x + y) := by
  intro i j
  rw [Matrix.add_apply, EReal.coe_add, ← hx i j, ← hy i j]
  pointwise []

theorem Rl.t16 {X : FVec Ideal S128x128 .f32} {x : Mat} (hx : Rl X x) : Rl (t16 X) x := fun i j => hx i j

theorem eye_real : Rl eyeK 1 := by
  intro i j
  pointwise [eyeK]
  rw [diag, sel_if, zero32_at, Matrix.one_apply]
  by_cases h : i = j
  · rw [if_pos h, if_pos h]; norm_num
  · rw [if_neg h, if_neg h]; norm_num

theorem msk_real {X : FVec Ideal S64x128 .bf16} {x : ℕ → ℕ → ℝ} (h : Rr X x) : Rl (msk X) (rM x) := by
  intro i j
  pointwise [msk]
  rw [same_head, sel_if, zero16_at, stk_at, h]
  unfold rM
  split_ifs <;> simp

theorem geo_real {X : FVec Ideal S128x128 .f32} {x : Mat} (h : Rl X x) : Rl (geoK X) (geo x) := by
  have p1 := (h.t16.mm h.t16).t16
  have p2 := (p1.mm p1).t16
  have p3 := (p2.mm p2).t16
  have p4 := (p3.mm p3).t16
  have p5 := (p4.mm p4).t16
  have s0 := eye_real.add h
  have s1 := s0.add (s0.t16.mm p1)
  have s2 := s1.add (s1.t16.mm p2)
  have s3 := s2.add (s2.t16.mm p3)
  have s4 := s3.add (s3.t16.mm p4)
  exact s4.add (s4.t16.mm p5)

theorem nmat_real {a r b k : FVec Ideal S64x128 .bf16} {A B : ℕ → ℕ → ℝ} (ha : Rr a A) (hb : Rr b B) : Rl (nmat a r b k) (rN A B) := by
  intro i j
  pointwise [nmat, scores]
  rw [strict, sel_if, zero32_at]
  unfold rN
  split_ifs
  · rw [coe_sum]
    refine Finset.sum_congr rfl fun l _ => ?_
    rw [msk_real ha i l, stk_at, hb]
    exact (EReal.coe_mul _ _).symm
  · rfl

theorem amat_real {a r b k : FVec Ideal S64x128 .bf16} {A K : ℕ → ℕ → ℝ} (ha : Rr a A) (hk : Rr k K) : Rl (amat a r b k) (rN A K) := by
  intro i j
  pointwise [amat, scores]
  rw [strict, sel_if, zero32_at]
  unfold rN
  split_ifs
  · rw [coe_sum]
    refine Finset.sum_congr rfl fun l _ => ?_
    rw [msk_real ha i l, stk_at, hk]
    exact (EReal.coe_mul _ _).symm
  · rfl

/-- The contribution over real operands. -/
theorem stK_real {a r b k bh kh v : FVec Ideal S64x128 .bf16} {A B K BH KH V : ℕ → ℕ → ℝ} (ha : Rr a A) (hb : Rr b B) (hk : Rr k K)
    (hbh : Rr bh BH) (hkh : Rr kh KH) (hv : Rr v V) (i j : Fin 128) : stK a r b k bh kh v (ix2 i j)
    = (((∑ x, rM BH x i * (geo (rN A B) * (rN A K * rM V)) x j) + (∑ x, rM KH x i * rM V x j) : ℝ) : EReal) := by
  have hq := (geo_real (nmat_real (r := r) (k := k) ha hb)).t16.mm ((amat_real (r := r) (b := b) ha hk).mm (msk_real hv)).t16
  pointwise [stK, mgK, pqK]
  rw [EReal.coe_add, coe_sum, coe_sum]
  refine congrArg₂ (· + ·) (Finset.sum_congr rfl fun x _ => ?_) (Finset.sum_congr rfl fun x _ => ?_)
  · rw [EReal.coe_mul, ← hq x j, ← msk_real hbh x i, mm_at]
  · rw [EReal.coe_mul, ← msk_real hkh x i, ← msk_real hv x j]

/-- Where the last two operands' rows are zero, the contribution is zero. -/
theorem stK_zero {a r b k bh kh v : FVec Ideal S64x128 .bf16} (hbh : Rr bh 0) (hkh : Rr kh 0) (i j : Fin 128) : stK a r b k bh kh v (ix2 i j) = (0 : EReal) := by
  have z : ∀ x : Fin 128, (rM 0 x i : ℝ) = 0 := fun x => by unfold rM; split_ifs <;> rfl
  pointwise [stK, mgK]
  rw [Finset.sum_eq_zero fun x _ => ?_, Finset.sum_eq_zero fun x _ => ?_, add_zero]
  · rw [msk_real hkh x i, z]; exact zero_mul _
  · rw [msk_real hbh x i, z]; exact zero_mul _

/-- A zero state adds nothing. -/
theorem eh_zero (e : FVec Ideal S192x128 .bf16) (old : Vec Ideal S1x128x128 .f32) (h : ∀ i j : Fin 128, old (ix3 0 i j) = (0 : EReal)) (i j : Fin 128) :
    eh e old (ix2 i j) = (0 : EReal) := by
  pointwise [eh]
  refine Finset.sum_eq_zero fun x _ => ?_
  rw [h]; exact mul_zero _

end Cert.MetaRec
-- ==== Proof.MetaRecToks.lean ====
/- The rows a recurrence works on, over the reals, and the words of the two programs that compute them. -/
module

public import proofs.«01_k».proof.Proof.MetaRecChunk
public import proofs.«01_k».proof.Proof.Gen.Kernel7Ideal.Value
public import proofs.«01_k».proof.Proof.InProj

@[expose] public section

noncomputable section

open Idealize.ShloMosaic Idealize.ShloMosaic.TcCoe

namespace Cert.MetaRec

open Cert.MetaRecMath Finset

theorem sum_coe {n : ℕ} (f : Fin n → ℝ) : (∑ i, ((f i : ℝ) : EReal)) = ((∑ i, f i : ℝ) : EReal) := by
  induction n with
  | zero => simp
  | succ n ih => rw [Fin.sum_univ_succ, Fin.sum_univ_succ, EReal.coe_add, ih]

/-- The reference's floor of a norm: the float nearest to 1e-12. -/
def floorR : ℝ := 2305843 / 2305843009213693952

theorem floor_word : Ideal.ofBits .f32 0x2B8CBCCC#32 = ((floorR : ℝ) : EReal) := by
  unfold floorR
  simp [Ideal.ofBits, Ideal.ieee]
  rw [← EReal.coe_mul]
  norm_num

theorem floor_sq : Named.named (F := Ideal) (φ := .f32) Cert.Kernel7Ideal.κ "floor_of_square" 0x179ABE15#32 = ((floorR ^ 2 : ℝ) : EReal) := by
  have e : floorR ^ 2 = 5316911940649 / 5316911983139663491615228241121378304 := by unfold floorR; norm_num
  rw [e]
  rfl

theorem half_word : Ideal.ofBits .f32 0x3F000000#32 = ((1 / 2 : ℝ) : EReal) := by
  simp [Ideal.ofBits, Ideal.ieee]
  rw [← EReal.coe_mul]
  norm_num

/-- `softplus` over the reals. -/
def spR (y : ℝ) : ℝ := max y 0 + Real.log (1 + Real.exp (-|y|))

theorem sp_coe (y : ℝ) : max (y : EReal) 0 + Ideal.log1p (Ideal.exp (-(max (y : EReal) (-(y : EReal))))) = ((spR y : ℝ) : EReal) := by
  have m1 : max (y : EReal) 0 = ((max y 0 : ℝ) : EReal) := (EReal.coe_strictMono.monotone.map_max (a := y) (b := 0)).symm
  have m2 : max (y : EReal) (-(y : EReal)) = ((|y| : ℝ) : EReal) := by
    rw [← EReal.coe_neg, abs_eq_max_neg]
    exact (EReal.coe_strictMono.monotone.map_max (a := y) (b := -y)).symm
  rw [m1, m2, ← EReal.coe_neg, Ideal.exp_coe]
  unfold spR
  rw [EReal.coe_add]
  congr 1
  show Ideal.log (1 + _) = _
  rw [← EReal.coe_one, ← EReal.coe_add, Ideal.log_coe, if_neg (not_le.mpr (add_pos one_pos (Real.exp_pos _)))]

/-- A token's norm of a head's key direction: over the root of the sum of squares, floored. -/
theorem kk_coe (k s : ℝ) (hs : 0 ≤ s) : (k : EReal) * Ideal.rsqrt (max (s : EReal) ((floorR ^ 2 : ℝ) : EReal)) = ((k / max (Real.sqrt s) floorR : ℝ) : EReal) := by
  have f0 : 0 < floorR := by unfold floorR; norm_num
  have m : max (s : EReal) ((floorR ^ 2 : ℝ) : EReal) = ((max s (floorR ^ 2) : ℝ) : EReal) := (EReal.coe_strictMono.monotone.map_max (a := s) (b := floorR ^ 2)).symm
  have p : 0 < max s (floorR ^ 2) := lt_max_of_lt_right (by positivity)
  have q : Real.sqrt (max s (floorR ^ 2)) = max (Real.sqrt s) floorR := by
    rw [Real.sqrt_monotone.map_max, Real.sqrt_sq f0.le]
  rw [m, Ideal.rsqrt_coe, if_neg (not_lt.mpr p.le), if_neg p.ne', ← EReal.coe_mul, q, div_eq_mul_inv]

/-- The same norm as a quotient. -/
theorem kk_div (k s : ℝ) (hs : 0 ≤ s) : Ideal.div (k : EReal) (max (Ideal.sqrt (s : EReal)) ((floorR : ℝ) : EReal)) = ((k / max (Real.sqrt s) floorR : ℝ) : EReal) := by
  have f0 : 0 < floorR := by unfold floorR; norm_num
  have m : max ((Real.sqrt s : ℝ) : EReal) ((floorR : ℝ) : EReal) = ((max (Real.sqrt s) floorR : ℝ) : EReal) := (EReal.coe_strictMono.monotone.map_max (a := Real.sqrt s) (b := floorR)).symm
  have p : 0 < max (Real.sqrt s) floorR := lt_max_of_lt_right f0
  rw [Ideal.sqrt_coe, if_neg (not_lt.mpr hs), m, Ideal.div_coe p.ne', ← EReal.coe_mul, mul_one_div]

/-- The exponent of a decay, and the float it is. -/
def lwE (z : EReal) : EReal :=
  (0 : EReal) - Ideal.exp ((0 - (max ((0 : EReal) - z) 0 + Ideal.log1p (Ideal.exp (0 - max ((0 : EReal) - z) (-((0 : EReal) - z)))))) - Ideal.ofBits .f32 0x3F000000#32)

def lwR (z : EReal) : ℝ := (lwE z).toReal

theorem lw_real (z : EReal) : lwE z = ((lwR z : ℝ) : EReal) := by
  have l0 : Ideal.log1p 0 = 0 := by
    show Ideal.log (1 + 0) = 0
    rw [add_zero, ← EReal.coe_one, Ideal.log_coe, if_neg (by norm_num), Real.log_one, EReal.coe_zero]
  have key : ∃ r : ℝ, lwE z = (r : EReal) := by
    unfold lwE
    induction z with
    | bot =>
      refine ⟨0, ?_⟩
      simp [l0, half_word]
    | top =>
      refine ⟨-Real.exp (-(1 / 2)), ?_⟩
      simp [l0, half_word]
      rw [← EReal.coe_neg, Ideal.exp_coe]
    | coe z =>
      refine ⟨-Real.exp (-spR (-z) - 1 / 2), ?_⟩
      have e : (0 : EReal) - (z : EReal) = ((-z : ℝ) : EReal) := by rw [zero_sub, EReal.coe_neg]
      rw [e, zero_sub (max _ _), sp_coe, half_word, zero_sub, zero_sub, ← EReal.coe_neg, ← EReal.coe_sub, Ideal.exp_coe, ← EReal.coe_neg]
  obtain ⟨r, hr⟩ := key
  unfold lwR
  rw [hr, EReal.toReal_coe]

/-- A token's share of its own key that it writes. -/
def aR (y : EReal) : ℝ := (Ideal.logistic y).toReal

theorem a_real (y : EReal) : Ideal.logistic y = ((aR y : ℝ) : EReal) := by
  have key : ∃ r : ℝ, Ideal.logistic y = (r : EReal) := by
    induction y with
    | bot => exact ⟨0, by simp [Ideal.logistic, Ideal.div, show (1 : EReal) + ⊤ = ⊤ from EReal.coe_add_top 1]⟩
    | top => exact ⟨1, by simp [Ideal.logistic, Ideal.div]⟩
    | coe y => exact ⟨_, Ideal.logistic_coe y⟩
  obtain ⟨r, hr⟩ := key
  unfold aR
  rw [hr, EReal.toReal_coe]

theorem sq_nonneg' (x : EReal) : 0 ≤ x * x := by
  induction x with
  | bot => rw [EReal.bot_mul_bot]; exact le_top
  | top => rw [EReal.top_mul_top]; exact le_top
  | coe x => rw [← EReal.coe_mul]; exact EReal.coe_nonneg.mpr (mul_self_nonneg x)

/-- One entry of a head's normed key direction. -/
def normR (k : Fin 64 → EReal) (x : EReal) : ℝ := (x * Ideal.rsqrt (max (∑ d, k d * k d) ((floorR ^ 2 : ℝ) : EReal))).toReal

theorem norm_key (k : Fin 64 → EReal) (x : EReal) (hx : ∃ d, x = k d) :
    x * Ideal.rsqrt (max (∑ d, k d * k d) ((floorR ^ 2 : ℝ) : EReal)) = ((normR k x : ℝ) : EReal)
    ∧ Ideal.div x (max (Ideal.sqrt (∑ d, k d * k d)) ((floorR : ℝ) : EReal)) = ((normR k x : ℝ) : EReal) := by
  have hs : 0 ≤ ∑ d, k d * k d := Finset.sum_nonneg fun d _ => sq_nonneg' (k d)
  have key : ∃ r : ℝ, x * Ideal.rsqrt (max (∑ d, k d * k d) ((floorR ^ 2 : ℝ) : EReal)) = (r : EReal)
      ∧ Ideal.div x (max (Ideal.sqrt (∑ d, k d * k d)) ((floorR : ℝ) : EReal)) = (r : EReal) := by
    obtain ⟨d, rfl⟩ := hx
    have hd : k d * k d ≤ ∑ d, k d * k d := Finset.single_le_sum (fun d _ => sq_nonneg' (k d)) (Finset.mem_univ d)
    generalize hS : ∑ d, k d * k d = S at hs hd
    induction S with
    | bot => exact absurd hs (by simp)
    | top =>
      refine ⟨0, ?_, ?_⟩
      · rw [max_eq_left le_top, Ideal.rsqrt_top, mul_zero, EReal.coe_zero]
      · rw [show Ideal.sqrt ⊤ = ⊤ from rfl, max_eq_left le_top]
        simp [Ideal.div]
    | coe S =>
      generalize hK : k d = K at hd
      have hK' : ∃ y : ℝ, K = (y : EReal) := by
        induction K with
        | bot => rw [EReal.bot_mul_bot] at hd; exact absurd hd (by simp)
        | top => rw [EReal.top_mul_top] at hd; exact absurd hd (by simp)
        | coe y => exact ⟨y, rfl⟩
      obtain ⟨y, rfl⟩ := hK'
      have hS0 : 0 ≤ S := EReal.coe_nonneg.mp hs
      exact ⟨_, kk_coe y S hS0, kk_div y S hS0⟩
  obtain ⟨r, h1, h2⟩ := key
  unfold normR
  rw [h1, EReal.toReal_coe]
  exact ⟨rfl, h2⟩

/-- The tokens' rows `X`, what their low-rank parts give the decay (`z`) and the share written (`y`), and the layer's
    two gains of the keys. -/
structure Par where
  X : ℕ → ℕ → ℝ
  z : ℕ → ℕ → EReal
  y : ℕ → ℕ → EReal
  kk : ℕ → EReal
  ka : ℕ → ℝ

namespace Par

variable (P : Par)

def lw (t c : ℕ) : ℝ := lwR (P.z t c)
def a (t c : ℕ) : ℝ := aR (P.y t c)
def kx (t c : ℕ) : EReal := (P.X t (512 + c) : EReal) * P.kk c
def kn (t c : ℕ) : ℝ := normR (fun d => P.kx t (64 * (c / 64) + d.val)) (P.kx t c)
def k (t c : ℕ) : ℝ := P.X t (512 + c) * (1 + (P.a t c - 1) * P.ka c)
def v (t c : ℕ) : ℝ := P.X t (1024 + c)

/-- The tokens of head pair `q`. -/
def toks (q : ℕ) : Toks where
  lw t c := P.lw t (128 * q + c)
  kk t c := P.kn t (128 * q + c)
  ka t c := P.kn t (128 * q + c) * P.a t (128 * q + c)
  k t c := P.k t (128 * q + c)
  v t c := P.v t (128 * q + c)

/-- The same tokens after 48 rows of zeros, whatever the zero rows' low-rank parts give. -/
def late (z0 y0 : ℕ → EReal) : Par :=
  { P with
    X := fun t c => if t < 48 then 0 else P.X (t - 48) c
    z := fun t c => if t < 48 then z0 c else P.z (t - 48) c
    y := fun t c => if t < 48 then y0 c else P.y (t - 48) c }

variable (z0 y0 : ℕ → EReal)

theorem late_st_zero (q h t i j : ℕ) (ht : t ≤ 48) : ((P.late z0 y0).toks q).st h t i j = 0 := by
  induction t generalizing i j with
  | zero => rfl
  | succ t ih =>
    have hk : ∀ c, (P.late z0 y0).kx t c = 0 := fun c => by simp [kx, late, show t < 48 by omega]
    have hn : ∀ c, (P.late z0 y0).kn t c = 0 := fun c => by simp [kn, hk, normR]
    have hv : ∀ c, (P.late z0 y0).k t c = 0 := fun c => by simp [k, late, show t < 48 by omega]
    have e : ∀ i j, ((P.late z0 y0).toks q).st h t i j = 0 := fun i j => ih i j (by omega)
    rw [Toks.st]
    simp only [e]
    simp [toks, hv]

theorem late_st (q h t i j : ℕ) : ((P.late z0 y0).toks q).st h (48 + t) i j = (P.toks q).st h t i j := by
  induction t generalizing i j with
  | zero => rw [late_st_zero _ _ _ _ _ _ _ _ le_rfl]; rfl
  | succ t ih =>
    have e1 : ∀ c, (P.late z0 y0).lw (48 + t) c = P.lw t c := fun c => by simp [lw, late]
    have e2 : ∀ c, (P.late z0 y0).a (48 + t) c = P.a t c := fun c => by simp [a, late]
    have e3 : ∀ c, (P.late z0 y0).kn (48 + t) c = P.kn t c := fun c => by simp [kn, kx, late]
    have e4 : ∀ c, (P.late z0 y0).k (48 + t) c = P.k t c := fun c => by
      show (P.late z0 y0).X (48 + t) (512 + c) * (1 + ((P.late z0 y0).a (48 + t) c - 1) * P.ka c) = _
      rw [e2]; simp [late, k]
    have e5 : ∀ c, (P.late z0 y0).v (48 + t) c = P.v t c := fun c => by simp [v, late]
    rw [← add_assoc]
    simp only [Toks.st, Toks.sa, toks, e1, e2, e3, e4, e5]
    simp only [toks] at ih
    simp only [ih]

end Par

end Cert.MetaRec
-- ==== Proof.MetaRecRows.lean ====
/- The second chunk's rows in the kernel, element by element. -/
module

public import proofs.«01_k».proof.Proof.MetaRecReal
public import proofs.«01_k».proof.Proof.MetaRecToks

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecMath

variable (c : Dev nD) (arg2 : Memref sig .tc .vmem S1x128x1536 .f32) (harg2 : arg2.IsWhole) (arg3 : Memref sig .tc .vmem S1x128x256 .f32) (harg3 : arg3.IsWhole)
  (arg4 : Memref sig .tc .vmem S4x128x128 .f32) (harg4 : arg4.IsWhole)
  (arg5 : Memref sig .tc .vmem S1x512 .f32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S256x512 .f32) (harg8 : arg8.IsWhole)
  (arg10 : Memref sig .tc .vmem S1x512 .f32) (harg10 : arg10.IsWhole) (arg11 : Memref sig .tc .vmem S1x512 .f32) (harg11 : arg11.IsWhole)
  (arg17 : Memref sig .tc .vmem S4x128x128 .f32) (arg18 arg19 arg20 arg21 arg22 arg23 : Memref sig .tc .vmem S128x512 .f32)
  (x0 : Vec Ideal S1x128x1536 .f32) (x1 : Vec Ideal S1x128x256 .f32) (x2 : Vec Ideal S4x128x128 .f32) (x3 : Vec Ideal S1x512 .f32) (x4 : Vec Ideal S256x512 .f32) (x5 : Vec Ideal S1x512 .f32)
  (x6 : Vec Ideal S256x512 .f32) (x8 x9 : Vec Ideal S1x512 .f32)

variable (P : Par)

theorem rd_row (M : Memref sig .tc .vmem S1x512 .f32) (h : M.IsWhole) (X : Vec Ideal S1x512 .f32) (b) (k : Fin 512) :
    View.readAt (Elt Ideal) M.view (Rect.unit ![0, 0] ![1, 512] b : Rect S1x512).toLoadRect (h.unread X) (ix2 0 k) = X (ix2 0 k) := by
  rw [View.readAt_eq_ld, Memref.IsWhole.read_unread]
  pointwise []

theorem rd_mat (M : Memref sig .tc .vmem S256x512 .f32) (h : M.IsWhole) (X : Vec Ideal S256x512 .f32) (b) (q : Fin 256) (k : Fin 512) :
    View.readAt (Elt Ideal) M.view (Rect.unit ![0, 0] ![256, 512] b : Rect S256x512).toLoadRect (h.unread X) (ix2 q k) = X (ix2 q k) := by
  rw [View.readAt_eq_ld, Memref.IsWhole.read_unread]
  pointwise []

theorem r358 (t : Fin 64) (k : Fin 1536) : kernelRun0_A.sl.v358 (F := Ideal) c arg2 harg2 x0 (ix2 t k) = x0 (ix3 0 ⟨64 + t.val, by omega⟩ k) := by
  unfold kernelRun0_A.sl.v358
  rw [View.readAt_eq_ld, Memref.IsWhole.read_unread]
  pointwise []

theorem r360 (t : Fin 64) (k : Fin 256) : kernelRun0_A.sl.v360 (F := Ideal) c arg3 harg3 x1 (ix2 t k) = x1 (ix3 0 ⟨64 + t.val, by omega⟩ k) := by
  unfold kernelRun0_A.sl.v360
  rw [View.readAt_eq_ld, Memref.IsWhole.read_unread]
  pointwise []

theorem r452 (hz : ∀ (t : Fin 64) (k : Fin 512), x3 (ix2 0 k) + ∑ q : Fin 256, Ideal.tanh (x1 (ix3 0 ⟨64 + t.val, by omega⟩ q)) * x4 (ix2 q k) = P.z t.val k.val) (t : Fin 64) (k : Fin 512) : kernelRun0_A.sl.v452 (F := Ideal) c arg3 harg3 arg5 harg5 arg6 harg6 x1 x3 x4 (ix2 t k) = ((P.lw t.val k.val : ℝ) : EReal) := by
  unfold Par.lw
  rw [← lw_real, ← hz]
  pointwise [kernelRun0_A.sl.v452, kernelRun0_A.sl.v449, kernelRun0_A.sl.r_1, k0_pay111, kernelRun0_A.sl.v392, kernelRun0_A.sl.v390, kernelRun0_A.sl.v388, kernelRun0_A.sl.v379, kernelRun0_A.sl.v378, kernelRun0_A.sl.v381, kernelRun0_A.sl.v387, kernelRun0_A.sl.v386, kernelRun0_A.sl.v385, kernelRun0_A.sl.v384, kernelRun0_A.sl.v382, kernelRun0_A.sl.v376, kernelRun0_A.sl.v374, kernelRun0_A.sl.v372, kernelRun0_A.sl.v370, kernelRun0_A.sl.v368, kernelRun0_A.sl.v365, kernelRun0_A.sl.v43, kernelRun0_A.sl.v41, kernelRun0_A.sl.v45, kernelRun0_A.sl.v38, kernelRun0_A.sl.v47, kernelRun0_A.sl.v65, kernelRun0_A.sl.cst_23, kernelRun0_A.sl.cst_3, kernelRun0_A.sl.cst_18]
  simp only [rd_row, rd_mat, r360, ne_eq, not_true_eq_false, if_false]
  rfl

theorem r402 (hy : ∀ (t : Fin 64) (k : Fin 512), x5 (ix2 0 k) + ∑ q : Fin 256, x1 (ix3 0 ⟨64 + t.val, by omega⟩ q) * x6 (ix2 q k) = P.y t.val k.val) (t : Fin 64) (k : Fin 512) : kernelRun0_A.sl.v402 (F := Ideal) c arg3 harg3 arg7 harg7 arg8 harg8 x1 x5 x6 (ix2 t k) = ((P.a t.val k.val : ℝ) : EReal) := by
  unfold Par.a
  rw [← a_real, ← hy]
  pointwise [kernelRun0_A.sl.v402, kernelRun0_A.sl.v401, kernelRun0_A.sl.v399, kernelRun0_A.sl.v397, kernelRun0_A.sl.v72, kernelRun0_A.sl.v70, kernelRun0_A.sl.v74, kernelRun0_A.sl.v68, kernelRun0_A.sl.cst_18]
  simp only [rd_row, rd_mat, r360]

theorem r406 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (h8 : ∀ k : Fin 512, x8 (ix2 0 k) = P.kk k.val) (t : Fin 64) (k : Fin 512) : kernelRun0_A.sl.v406 (F := Ideal) c arg2 harg2 arg10 harg10 x0 x8 (ix2 t k) = P.kx t.val k.val := by
  unfold Par.kx
  pointwise [kernelRun0_A.sl.v406, kernelRun0_A.sl.v362, kernelRun0_A.sl.v79, kernelRun0_A.sl.v78]
  simp only [rd_row, r358, h0, h8]

theorem rk (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hy : ∀ (t : Fin 64) (k : Fin 512), x5 (ix2 0 k) + ∑ q : Fin 256, x1 (ix3 0 ⟨64 + t.val, by omega⟩ q) * x6 (ix2 q k) = P.y t.val k.val) (h9 : ∀ k : Fin 512, x9 (ix2 0 k) = ((P.ka k.val : ℝ) : EReal)) (t : Fin 64) (k : Fin 512) : kernelRun0_A.sl.v645 (F := Ideal) c arg2 harg2 arg3 harg3 arg7 harg7 arg8 harg8 arg11 harg11 arg19 x0 x1 x5 x6 x9 (ix2 t k) = ((P.k t.val k.val : ℝ) : EReal) := by
  have e : kernelRun0_A.sl.v645 (F := Ideal) c arg2 harg2 arg3 harg3 arg7 harg7 arg8 harg8 arg11 harg11 arg19 x0 x1 x5 x6 x9 = k0_pay107 (kernelRun0_A.sl.v362 (F := Ideal) c arg2 harg2 x0) (kernelRun0_A.sl.v402 (F := Ideal) c arg3 harg3 arg7 harg7 arg8 harg8 x1 x5 x6) (View.readAt (Elt Ideal) arg11.view (Rect.unit ![0, 0] S1x512.size inb_S1x512_S1x512_0_0).toLoadRect (harg11.unread x9)) := by
    unfold kernelRun0_A.sl.v645 kernelRun0_A.sl.HS2_2
    exact View.readCov_cons_toLoadRect _ _ _ _
  rw [e]
  pointwise [k0_pay107, kernelRun0_A.sl.v362]
  simp only [rd_row, r358, h0, h9, r402 _ _ _ _ _ _ _ _ _ _ P hy]
  unfold Par.k
  rw [EReal.coe_mul, EReal.coe_add, EReal.coe_mul, EReal.coe_sub]
  rfl

theorem rv (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (t : Fin 64) (k : Fin 512) : kernelRun0_A.sl.v664 (F := Ideal) c arg2 harg2 arg20 x0 (ix2 t k) = ((P.v t.val k.val : ℝ) : EReal) := by
  have e : kernelRun0_A.sl.v664 (F := Ideal) c arg2 harg2 arg20 x0 = k0_pay108 (kernelRun0_A.sl.v358 (F := Ideal) c arg2 harg2 x0) := by
    unfold kernelRun0_A.sl.v664 kernelRun0_A.sl.HS3_2
    exact View.readCov_cons_toLoadRect _ _ _ _
  rw [e]
  unfold Par.v
  pointwise [k0_pay108]
  simp only [r358, h0]

theorem ra (hy : ∀ (t : Fin 64) (k : Fin 512), x5 (ix2 0 k) + ∑ q : Fin 256, x1 (ix3 0 ⟨64 + t.val, by omega⟩ q) * x6 (ix2 q k) = P.y t.val k.val) (t : Fin 64) (k : Fin 512) : kernelRun0_A.sl.v643 (F := Ideal) c arg3 harg3 arg7 harg7 arg8 harg8 arg22 x1 x5 x6 (ix2 t k) = ((P.a t.val k.val : ℝ) : EReal) := by
  rw [← r402 c arg3 harg3 arg7 harg7 arg8 harg8 x1 x5 x6 P hy]
  have e : kernelRun0_A.sl.v643 (F := Ideal) c arg3 harg3 arg7 harg7 arg8 harg8 arg22 x1 x5 x6 = k0_pay110 (kernelRun0_A.sl.v402 (F := Ideal) c arg3 harg3 arg7 harg7 arg8 harg8 x1 x5 x6) := by
    unfold kernelRun0_A.sl.v643 kernelRun0_A.sl.HS5_2
    exact View.readCov_cons_toLoadRect _ _ _ _
  rw [e]
  pointwise [k0_pay110]

theorem rlw (hz : ∀ (t : Fin 64) (k : Fin 512), x3 (ix2 0 k) + ∑ q : Fin 256, Ideal.tanh (x1 (ix3 0 ⟨64 + t.val, by omega⟩ q)) * x4 (ix2 q k) = P.z t.val k.val) (t : Fin 64) (k : Fin 512) : kernelRun0_A.sl.v627 (F := Ideal) c arg3 harg3 arg5 harg5 arg6 harg6 arg23 x1 x3 x4 (ix2 t k) = ((P.lw t.val k.val : ℝ) : EReal) := by
  rw [← r452 c arg3 harg3 arg5 harg5 arg6 harg6 x1 x3 x4 P hz]
  have e : kernelRun0_A.sl.v627 (F := Ideal) c arg3 harg3 arg5 harg5 arg6 harg6 arg23 x1 x3 x4 = kernelRun0_A.sl.v452 (F := Ideal) c arg3 harg3 arg5 harg5 arg6 harg6 x1 x3 x4 := by
    unfold kernelRun0_A.sl.v627 kernelRun0_A.sl.HS6_2
    exact View.readCov_cons_toLoadRect _ _ _ _
  rw [e]

theorem head_sum (f : ℕ → EReal) (p : ℕ) (j : Fin 128) : (∑ x : Fin 128, Scalar.select (k0_pay4 (ix2 x j)) (f (128 * p + x.val)) 0)
    = ∑ x : Fin 64, f (64 * ((128 * p + j.val) / 64) + x.val) := by
  have e : ∀ x : Fin 128, Scalar.select (k0_pay4 (ix2 x j)) (f (128 * p + x.val)) 0 = if j.val / 64 = x.val / 64 then f (128 * p + x.val) else 0 := by
    intro x
    rw [same_head, sel_if]
    by_cases h : x.val / 64 = j.val / 64
    · rw [if_pos h, if_pos h.symm]
    · rw [if_neg h, if_neg (fun g => h g.symm)]
  obtain ⟨F, hF⟩ : ∃ F : ℕ → EReal, F = fun x => f (128 * p + x) := ⟨_, rfl⟩
  have e2 := sum_head (j.val / 64) (by omega) F
  rw [hF] at e2
  rw [Finset.sum_congr rfl fun x _ => e x, e2, ← Fin.sum_univ_eq_sum_range (fun s => f (128 * p + (64 * (j.val / 64) + s))) 64]
  refine Finset.sum_congr rfl fun x _ => congrArg f ?_
  omega

theorem norm_row (k : FVec Ideal S64x512 .f32) (R : ℕ → ℕ → EReal) (h : ∀ (t : Fin 64) (j : Fin 512), k (ix2 t j) = R t.val j.val) (t : Fin 64) (j : Fin 512) : k0_pay109 (F := Ideal) k0_pay5 k (ix2 t j) = ((normR (fun d => R t.val (64 * (j.val / 64) + d.val)) (R t.val j.val) : ℝ) : EReal) := by
  rw [← (norm_key (fun d => R t.val (64 * (j.val / 64) + d.val)) (R t.val j.val) ⟨⟨j.val % 64, by omega⟩, by rw [show 64 * (j.val / 64) + j.val % 64 = j.val by omega]⟩).1]
  pointwise [k0_pay109, k0_pay5]
  rw [floor_sq]
  simp only [h]
  refine congrArg (fun s => _ * Ideal.rsqrt (max s _)) ?_
  have hb := fun p (y : Fin 128) => head_sum (fun c => R t.val c * R t.val c) p y
  by_cases h1 : j.val < 128
  · rw [dif_pos h1]
    have e := hb 0 ⟨j.val, h1⟩
    simp only [Nat.mul_zero, Nat.zero_add] at e
    exact e
  rw [dif_neg h1]
  by_cases h2 : j.val - 128 < 128
  · rw [dif_pos h2]
    refine (hb 1 ⟨j.val - 128, h2⟩).trans ?_
    rw [show 128 * 1 + (j.val - 128) = j.val by omega]
  rw [dif_neg h2]
  by_cases h3 : j.val - 128 - 128 < 128
  · rw [dif_pos h3]
    refine (hb 2 ⟨j.val - 128 - 128, h3⟩).trans ?_
    rw [show 128 * 2 + (j.val - 128 - 128) = j.val by omega]
  rw [dif_neg h3]
  refine (hb 3 ⟨j.val - 128 - 128 - 128, by omega⟩).trans ?_
  rw [show 128 * 3 + (j.val - 128 - 128 - 128) = j.val by omega]

theorem rkn (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (h8 : ∀ k : Fin 512, x8 (ix2 0 k) = P.kk k.val) (t : Fin 64) (k : Fin 512) : kernelRun0_A.sl.v642 (F := Ideal) c arg2 harg2 arg10 harg10 arg21 x0 x8 (ix2 t k) = ((P.kn t.val k.val : ℝ) : EReal) := by
  have e : kernelRun0_A.sl.v642 (F := Ideal) c arg2 harg2 arg10 harg10 arg21 x0 x8 = k0_pay109 k0_pay5 (kernelRun0_A.sl.v406 (F := Ideal) c arg2 harg2 arg10 harg10 x0 x8) := by
    unfold kernelRun0_A.sl.v642 kernelRun0_A.sl.HS4_2
    exact View.readCov_cons_toLoadRect _ _ _ _
  rw [e, norm_row _ P.kx (r406 _ _ _ _ _ _ _ P h0 h8)]
  rfl

theorem tri (t x : Fin 64) : kernelRun0_A.sl.v29 (F := Ideal) (ix2 t x) = if x.val ≤ t.val then (1 : EReal) else 0 := by
  have h : ∀ t x : Fin 64, IntOp.cmpi .sle (BitVec.ofNat 32 x.val) (BitVec.ofNat 32 t.val) = if x.val ≤ t.val then 1#1 else 0#1 := by decide +kernel
  pointwise [kernelRun0_A.sl.v29, kernelRun0_A.sl.v28, kernelRun0_A.sl.v26, kernelRun0_A.sl.v27, kernelRun0_A.sl.v23, kernelRun0_A.sl.v24, kernelRun0_A.sl.cst_2, kernelRun0_A.sl.cst_3]
  rw [h, sel_if]

/-- The log decays' running sum. -/
def Par.g (t c : ℕ) : ℝ := ∑ s ∈ Finset.range (t + 1), P.lw s c

theorem tri_sum (f : ℕ → ℝ) (t : Fin 64) : (∑ x : Fin 64, (if x.val ≤ t.val then (1 : EReal) else 0) * ((f x.val : ℝ) : EReal)) = ((∑ s ∈ Finset.range (t.val + 1), f s : ℝ) : EReal) := by
  have e : ∀ x : Fin 64, (if x.val ≤ t.val then (1 : EReal) else 0) * ((f x.val : ℝ) : EReal) = ((if x.val ≤ t.val then f x.val else 0 : ℝ) : EReal) := by
    intro x
    split_ifs
    · exact one_mul _
    · exact zero_mul _
  rw [Finset.sum_congr rfl fun x _ => e x, sum_coe, Fin.sum_univ_eq_sum_range (fun x => if x ≤ t.val then f x else 0) 64, ← Finset.sum_filter]
  refine congrArg _ (Finset.sum_congr ?_ fun _ _ => rfl)
  ext x
  simp only [Finset.mem_filter, Finset.mem_range]
  omega

theorem rg (hz : ∀ (t : Fin 64) (k : Fin 512), x3 (ix2 0 k) + ∑ q : Fin 256, Ideal.tanh (x1 (ix3 0 ⟨64 + t.val, by omega⟩ q)) * x4 (ix2 q k) = P.z t.val k.val) (t : Fin 64) (k : Fin 512) : kernelRun0_A.sl.v634 (F := Ideal) c arg3 harg3 arg5 harg5 arg6 harg6 arg23 x1 x3 x4 (ix2 t k) = ((P.g t.val k.val : ℝ) : EReal) := by
  have hc : ∀ x : Fin 64, (if x.val ≤ t.val then (1 : EReal) else 0) * (((P.lw x.val k.val : ℝ) : EReal) - ((P.lw x.val k.val : ℝ) : EReal)) = 0 := by
    intro x
    rw [← EReal.coe_sub, sub_self]
    exact mul_zero _
  pointwise [kernelRun0_A.sl.v634, kernelRun0_A.sl.v633, kernelRun0_A.sl.v629, kernelRun0_A.sl.v628, kernelRun0_A.sl.v632, kernelRun0_A.sl.v631, kernelRun0_A.sl.v630, kernelRun0_A.sl.cst_18]
  simp only [tri, rlw _ _ _ _ _ _ _ _ _ _ _ P hz, hc, Finset.sum_const_zero, add_zero]
  exact tri_sum (fun s => P.lw s k.val) t

theorem oA (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (h8 : ∀ k : Fin 512, x8 (ix2 0 k) = P.kk k.val) (t : Fin 64) (k : Fin 512) : kernelRun0_A.sl.v651 (F := Ideal) c arg2 harg2 arg3 harg3 arg5 harg5 arg6 harg6 arg10 harg10 arg21 arg23 x0 x1 x3 x4 x8 (ix2 t k) = ((-P.kn t.val k.val * Real.exp (P.g t.val k.val - P.lw t.val k.val) : ℝ) : EReal) := by
  pointwise [kernelRun0_A.sl.v651, kernelRun0_A.sl.v650, kernelRun0_A.sl.v649, kernelRun0_A.sl.v648, kernelRun0_A.sl.v647, kernelRun0_A.sl.v47, kernelRun0_A.sl.cst_3]
  simp only [rlw _ _ _ _ _ _ _ _ _ _ _ P hz, rg _ _ _ _ _ _ _ _ _ _ _ P hz, rkn _ _ _ _ _ _ _ _ P h0 h8, rd_row]
  rw [zero_sub, ← EReal.coe_neg, ← EReal.coe_sub, Ideal.exp_coe, ← EReal.coe_mul]

theorem oB (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (t : Fin 64) (k : Fin 512) : kernelRun0_A.sl.v657 (F := Ideal) c arg2 harg2 arg3 harg3 arg5 harg5 arg6 harg6 arg7 harg7 arg8 harg8 arg10 harg10 arg21 arg22 arg23 x0 x1 x3 x4 x5 x6 x8 (ix2 t k) = ((P.kn t.val k.val * P.a t.val k.val * Real.exp (-P.g t.val k.val) : ℝ) : EReal) := by
  pointwise [kernelRun0_A.sl.v657, kernelRun0_A.sl.v656, kernelRun0_A.sl.v644, kernelRun0_A.sl.v638, kernelRun0_A.sl.v637, kernelRun0_A.sl.v47, kernelRun0_A.sl.cst_3]
  simp only [ra _ _ _ _ _ _ _ _ _ _ _ P hy, rg _ _ _ _ _ _ _ _ _ _ _ P hz, rkn _ _ _ _ _ _ _ _ P h0 h8, rd_row]
  rw [zero_sub, ← EReal.coe_neg, Ideal.exp_coe, ← EReal.coe_mul, ← EReal.coe_mul]

theorem oK (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h9 : ∀ k : Fin 512, x9 (ix2 0 k) = ((P.ka k.val : ℝ) : EReal)) (t : Fin 64) (k : Fin 512) : kernelRun0_A.sl.v659 (F := Ideal) c arg2 harg2 arg3 harg3 arg5 harg5 arg6 harg6 arg7 harg7 arg8 harg8 arg11 harg11 arg19 arg23 x0 x1 x3 x4 x5 x6 x9 (ix2 t k) = ((P.k t.val k.val * Real.exp (-P.g t.val k.val) : ℝ) : EReal) := by
  pointwise [kernelRun0_A.sl.v659, kernelRun0_A.sl.v658, kernelRun0_A.sl.v638, kernelRun0_A.sl.v637, kernelRun0_A.sl.v47, kernelRun0_A.sl.cst_3]
  simp only [rk _ _ _ _ _ _ _ _ _ _ _ _ _ _ _ _ _ P h0 hy h9, rg _ _ _ _ _ _ _ _ _ _ _ P hz, rd_row]
  rw [zero_sub, ← EReal.coe_neg, Ideal.exp_coe, ← EReal.coe_mul]

theorem oBh (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (t : Fin 64) (k : Fin 512) : kernelRun0_A.sl.v661 (F := Ideal) c arg2 harg2 arg3 harg3 arg5 harg5 arg6 harg6 arg7 harg7 arg8 harg8 arg10 harg10 arg21 arg22 arg23 x0 x1 x3 x4 x5 x6 x8 (ix2 t k) = ((P.kn t.val k.val * P.a t.val k.val * Real.exp (P.g 63 k.val - P.g t.val k.val) : ℝ) : EReal) := by
  pointwise [kernelRun0_A.sl.v661, kernelRun0_A.sl.v660, kernelRun0_A.sl.v644, kernelRun0_A.sl.v641, kernelRun0_A.sl.v640, kernelRun0_A.sl.v639, kernelRun0_A.sl.v635]
  simp only [ra _ _ _ _ _ _ _ _ _ _ _ P hy, rg _ _ _ _ _ _ _ _ _ _ _ P hz, rkn _ _ _ _ _ _ _ _ P h0 h8, rd_row]
  rw [← EReal.coe_sub, Ideal.exp_coe, ← EReal.coe_mul, ← EReal.coe_mul]; rfl

theorem oKh (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h9 : ∀ k : Fin 512, x9 (ix2 0 k) = ((P.ka k.val : ℝ) : EReal)) (t : Fin 64) (k : Fin 512) : kernelRun0_A.sl.v663 (F := Ideal) c arg2 harg2 arg3 harg3 arg5 harg5 arg6 harg6 arg7 harg7 arg8 harg8 arg11 harg11 arg19 arg23 x0 x1 x3 x4 x5 x6 x9 (ix2 t k) = ((P.k t.val k.val * Real.exp (P.g 63 k.val - P.g t.val k.val) : ℝ) : EReal) := by
  pointwise [kernelRun0_A.sl.v663, kernelRun0_A.sl.v662, kernelRun0_A.sl.v641, kernelRun0_A.sl.v640, kernelRun0_A.sl.v639, kernelRun0_A.sl.v635]
  simp only [rk _ _ _ _ _ _ _ _ _ _ _ _ _ _ _ _ _ P h0 hy h9, rg _ _ _ _ _ _ _ _ _ _ _ P hz, rd_row]
  rw [← EReal.coe_sub, Ideal.exp_coe, ← EReal.coe_mul]; rfl

theorem oV (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (t : Fin 64) (k : Fin 512) : kernelRun0_A.sl.v665 (F := Ideal) c arg2 harg2 arg20 x0 (ix2 t k) = ((P.v t.val k.val : ℝ) : EReal) := by
  pointwise [kernelRun0_A.sl.v665]
  simp only [rv _ _ _ _ _ P h0, rd_row]
  skip

end Cert.MetaRec
-- ==== Proof.MetaRecWords.lean ====
/- The kernel's words for the state after a chunk are the contributions of its pairs of heads. -/
module

public import proofs.«01_k».proof.Proof.MetaRecPair

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecMath

variable (c : Dev nD) (arg2 : Memref sig .tc .vmem S1x128x1536 .f32) (harg2 : arg2.IsWhole) (arg3 : Memref sig .tc .vmem S1x128x256 .f32) (harg3 : arg3.IsWhole)
  (arg4 : Memref sig .tc .vmem S4x128x128 .f32) (harg4 : arg4.IsWhole)
  (arg5 : Memref sig .tc .vmem S1x512 .f32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S256x512 .f32) (harg8 : arg8.IsWhole)
  (arg10 : Memref sig .tc .vmem S1x512 .f32) (harg10 : arg10.IsWhole) (arg11 : Memref sig .tc .vmem S1x512 .f32) (harg11 : arg11.IsWhole)
  (arg17 : Memref sig .tc .vmem S4x128x128 .f32) (arg18 arg19 arg20 arg21 arg22 arg23 : Memref sig .tc .vmem S128x512 .f32)
  (x0 : Vec Ideal S1x128x1536 .f32) (x1 : Vec Ideal S1x128x256 .f32) (x2 : Vec Ideal S4x128x128 .f32) (x3 : Vec Ideal S1x512 .f32) (x4 : Vec Ideal S256x512 .f32) (x5 : Vec Ideal S1x512 .f32)
  (x6 : Vec Ideal S256x512 .f32) (x8 x9 : Vec Ideal S1x512 .f32)

set_option maxHeartbeats 1000000 in
theorem st0_0 : kernelRun0_A.sl.v874 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v863 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v861 (F := Ideal) c arg4 harg4 arg17 x2))
    (stK (kernelRun0_A.sl.v173 (F := Ideal) c arg2 harg2 arg3 harg3 arg5 harg5 arg6 harg6 arg10 harg10 arg21 arg23 x0 x1 x3 x4 x8) (kernelRun0_A.sl.v177 (F := Ideal) c arg2 harg2 arg3 harg3 arg5 harg5 arg6 harg6 arg18 arg23 x0 x1 x3 x4) (kernelRun0_A.sl.v181 (F := Ideal) c arg2 harg2 arg3 harg3 arg5 harg5 arg6 harg6 arg7 harg7 arg8 harg8 arg10 harg10 arg21 arg22 arg23 x0 x1 x3 x4 x5 x6 x8) (kernelRun0_A.sl.v184 (F := Ideal) c arg2 harg2 arg3 harg3 arg5 harg5 arg6 harg6 arg7 harg7 arg8 harg8 arg11 harg11 arg19 arg23 x0 x1 x3 x4 x5 x6 x9) (kernelRun0_A.sl.v187 (F := Ideal) c arg2 harg2 arg3 harg3 arg5 harg5 arg6 harg6 arg7 harg7 arg8 harg8 arg10 harg10 arg21 arg22 arg23 x0 x1 x3 x4 x5 x6 x8) (kernelRun0_A.sl.v191 (F := Ideal) c arg2 harg2 arg3 harg3 arg5 harg5 arg6 harg6 arg7 harg7 arg8 harg8 arg11 harg11 arg19 arg23 x0 x1 x3 x4 x5 x6 x9) (kernelRun0_A.sl.v195 (F := Ideal) c arg2 harg2 arg20 x0)) := rfl

set_option maxHeartbeats 1000000 in
theorem st0_1 : kernelRun0_A.sl.v901 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v890 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v888 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v201 (F := Ideal) c arg2 harg2 arg3 harg3 arg5 harg5 arg6 harg6 arg10 harg10 arg21 arg23 x0 x1 x3 x4 x8) (kernelRun0_A.sl.v205 (F := Ideal) c arg2 harg2 arg3 harg3 arg5 harg5 arg6 harg6 arg18 arg23 x0 x1 x3 x4) (kernelRun0_A.sl.v209 (F := Ideal) c arg2 harg2 arg3 harg3 arg5 harg5 arg6 harg6 arg7 harg7 arg8 harg8 arg10 harg10 arg21 arg22 arg23 x0 x1 x3 x4 x5 x6 x8) (kernelRun0_A.sl.v212 (F := Ideal) c arg2 harg2 arg3 harg3 arg5 harg5 arg6 harg6 arg7 harg7 arg8 harg8 arg11 harg11 arg19 arg23 x0 x1 x3 x4 x5 x6 x9) (kernelRun0_A.sl.v215 (F := Ideal) c arg2 harg2 arg3 harg3 arg5 harg5 arg6 harg6 arg7 harg7 arg8 harg8 arg10 harg10 arg21 arg22 arg23 x0 x1 x3 x4 x5 x6 x8) (kernelRun0_A.sl.v219 (F := Ideal) c arg2 harg2 arg3 harg3 arg5 harg5 arg6 harg6 arg7 harg7 arg8 harg8 arg11 harg11 arg19 arg23 x0 x1 x3 x4 x5 x6 x9) (kernelRun0_A.sl.v223 (F := Ideal) c arg2 harg2 arg20 x0)) := rfl

set_option maxHeartbeats 1000000 in
theorem st0_2 : kernelRun0_A.sl.v928 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v917 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v915 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v229 (F := Ideal) c arg2 harg2 arg3 harg3 arg5 harg5 arg6 harg6 arg10 harg10 arg21 arg23 x0 x1 x3 x4 x8) (kernelRun0_A.sl.v233 (F := Ideal) c arg2 harg2 arg3 harg3 arg5 harg5 arg6 harg6 arg18 arg23 x0 x1 x3 x4) (kernelRun0_A.sl.v237 (F := Ideal) c arg2 harg2 arg3 harg3 arg5 harg5 arg6 harg6 arg7 harg7 arg8 harg8 arg10 harg10 arg21 arg22 arg23 x0 x1 x3 x4 x5 x6 x8) (kernelRun0_A.sl.v240 (F := Ideal) c arg2 harg2 arg3 harg3 arg5 harg5 arg6 harg6 arg7 harg7 arg8 harg8 arg11 harg11 arg19 arg23 x0 x1 x3 x4 x5 x6 x9) (kernelRun0_A.sl.v243 (F := Ideal) c arg2 harg2 arg3 harg3 arg5 harg5 arg6 harg6 arg7 harg7 arg8 harg8 arg10 harg10 arg21 arg22 arg23 x0 x1 x3 x4 x5 x6 x8) (kernelRun0_A.sl.v247 (F := Ideal) c arg2 harg2 arg3 harg3 arg5 harg5 arg6 harg6 arg7 harg7 arg8 harg8 arg11 harg11 arg19 arg23 x0 x1 x3 x4 x5 x6 x9) (kernelRun0_A.sl.v251 (F := Ideal) c arg2 harg2 arg20 x0)) := rfl

set_option maxHeartbeats 1000000 in
theorem st0_3 : kernelRun0_A.sl.v955 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v944 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v942 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v257 (F := Ideal) c arg2 harg2 arg3 harg3 arg5 harg5 arg6 harg6 arg10 harg10 arg21 arg23 x0 x1 x3 x4 x8) (kernelRun0_A.sl.v261 (F := Ideal) c arg2 harg2 arg3 harg3 arg5 harg5 arg6 harg6 arg18 arg23 x0 x1 x3 x4) (kernelRun0_A.sl.v265 (F := Ideal) c arg2 harg2 arg3 harg3 arg5 harg5 arg6 harg6 arg7 harg7 arg8 harg8 arg10 harg10 arg21 arg22 arg23 x0 x1 x3 x4 x5 x6 x8) (kernelRun0_A.sl.v268 (F := Ideal) c arg2 harg2 arg3 harg3 arg5 harg5 arg6 harg6 arg7 harg7 arg8 harg8 arg11 harg11 arg19 arg23 x0 x1 x3 x4 x5 x6 x9) (kernelRun0_A.sl.v271 (F := Ideal) c arg2 harg2 arg3 harg3 arg5 harg5 arg6 harg6 arg7 harg7 arg8 harg8 arg10 harg10 arg21 arg22 arg23 x0 x1 x3 x4 x5 x6 x8) (kernelRun0_A.sl.v275 (F := Ideal) c arg2 harg2 arg3 harg3 arg5 harg5 arg6 harg6 arg7 harg7 arg8 harg8 arg11 harg11 arg19 arg23 x0 x1 x3 x4 x5 x6 x9) (kernelRun0_A.sl.v279 (F := Ideal) c arg2 harg2 arg20 x0)) := rfl

set_option maxHeartbeats 1000000 in
theorem st1_0 : kernelRun0_A.sl.v1214 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v1203 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v1201 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v667 (F := Ideal) c arg2 harg2 arg3 harg3 arg5 harg5 arg6 harg6 arg10 harg10 arg21 arg23 x0 x1 x3 x4 x8) (kernelRun0_A.sl.v671 (F := Ideal) c arg2 harg2 arg3 harg3 arg5 harg5 arg6 harg6 arg18 arg23 x0 x1 x3 x4) (kernelRun0_A.sl.v675 (F := Ideal) c arg2 harg2 arg3 harg3 arg5 harg5 arg6 harg6 arg7 harg7 arg8 harg8 arg10 harg10 arg21 arg22 arg23 x0 x1 x3 x4 x5 x6 x8) (kernelRun0_A.sl.v678 (F := Ideal) c arg2 harg2 arg3 harg3 arg5 harg5 arg6 harg6 arg7 harg7 arg8 harg8 arg11 harg11 arg19 arg23 x0 x1 x3 x4 x5 x6 x9) (kernelRun0_A.sl.v681 (F := Ideal) c arg2 harg2 arg3 harg3 arg5 harg5 arg6 harg6 arg7 harg7 arg8 harg8 arg10 harg10 arg21 arg22 arg23 x0 x1 x3 x4 x5 x6 x8) (kernelRun0_A.sl.v685 (F := Ideal) c arg2 harg2 arg3 harg3 arg5 harg5 arg6 harg6 arg7 harg7 arg8 harg8 arg11 harg11 arg19 arg23 x0 x1 x3 x4 x5 x6 x9) (kernelRun0_A.sl.v689 (F := Ideal) c arg2 harg2 arg20 x0)) := rfl

set_option maxHeartbeats 1000000 in
theorem st1_1 : kernelRun0_A.sl.v1241 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v1230 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v1228 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v695 (F := Ideal) c arg2 harg2 arg3 harg3 arg5 harg5 arg6 harg6 arg10 harg10 arg21 arg23 x0 x1 x3 x4 x8) (kernelRun0_A.sl.v699 (F := Ideal) c arg2 harg2 arg3 harg3 arg5 harg5 arg6 harg6 arg18 arg23 x0 x1 x3 x4) (kernelRun0_A.sl.v703 (F := Ideal) c arg2 harg2 arg3 harg3 arg5 harg5 arg6 harg6 arg7 harg7 arg8 harg8 arg10 harg10 arg21 arg22 arg23 x0 x1 x3 x4 x5 x6 x8) (kernelRun0_A.sl.v706 (F := Ideal) c arg2 harg2 arg3 harg3 arg5 harg5 arg6 harg6 arg7 harg7 arg8 harg8 arg11 harg11 arg19 arg23 x0 x1 x3 x4 x5 x6 x9) (kernelRun0_A.sl.v709 (F := Ideal) c arg2 harg2 arg3 harg3 arg5 harg5 arg6 harg6 arg7 harg7 arg8 harg8 arg10 harg10 arg21 arg22 arg23 x0 x1 x3 x4 x5 x6 x8) (kernelRun0_A.sl.v713 (F := Ideal) c arg2 harg2 arg3 harg3 arg5 harg5 arg6 harg6 arg7 harg7 arg8 harg8 arg11 harg11 arg19 arg23 x0 x1 x3 x4 x5 x6 x9) (kernelRun0_A.sl.v717 (F := Ideal) c arg2 harg2 arg20 x0)) := rfl

set_option maxHeartbeats 1000000 in
theorem st1_2 : kernelRun0_A.sl.v1268 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v1257 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v1255 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v723 (F := Ideal) c arg2 harg2 arg3 harg3 arg5 harg5 arg6 harg6 arg10 harg10 arg21 arg23 x0 x1 x3 x4 x8) (kernelRun0_A.sl.v727 (F := Ideal) c arg2 harg2 arg3 harg3 arg5 harg5 arg6 harg6 arg18 arg23 x0 x1 x3 x4) (kernelRun0_A.sl.v731 (F := Ideal) c arg2 harg2 arg3 harg3 arg5 harg5 arg6 harg6 arg7 harg7 arg8 harg8 arg10 harg10 arg21 arg22 arg23 x0 x1 x3 x4 x5 x6 x8) (kernelRun0_A.sl.v734 (F := Ideal) c arg2 harg2 arg3 harg3 arg5 harg5 arg6 harg6 arg7 harg7 arg8 harg8 arg11 harg11 arg19 arg23 x0 x1 x3 x4 x5 x6 x9) (kernelRun0_A.sl.v737 (F := Ideal) c arg2 harg2 arg3 harg3 arg5 harg5 arg6 harg6 arg7 harg7 arg8 harg8 arg10 harg10 arg21 arg22 arg23 x0 x1 x3 x4 x5 x6 x8) (kernelRun0_A.sl.v741 (F := Ideal) c arg2 harg2 arg3 harg3 arg5 harg5 arg6 harg6 arg7 harg7 arg8 harg8 arg11 harg11 arg19 arg23 x0 x1 x3 x4 x5 x6 x9) (kernelRun0_A.sl.v745 (F := Ideal) c arg2 harg2 arg20 x0)) := rfl

set_option maxHeartbeats 1000000 in
theorem st1_3 : kernelRun0_A.sl.v1295 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9
  = addf (eh (kernelRun0_A.sl.v1284 (F := Ideal) c arg2 harg2 arg3 harg3 arg5 harg5 arg6 harg6 arg7 harg7 arg8 harg8 arg10 harg10 arg11 harg11 arg18 arg19 arg20 arg21 arg22 arg23 x0 x1 x3 x4 x5 x6 x8 x9) (kernelRun0_A.sl.v1282 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9))
    (stK (kernelRun0_A.sl.v751 (F := Ideal) c arg2 harg2 arg3 harg3 arg5 harg5 arg6 harg6 arg10 harg10 arg21 arg23 x0 x1 x3 x4 x8) (kernelRun0_A.sl.v755 (F := Ideal) c arg2 harg2 arg3 harg3 arg5 harg5 arg6 harg6 arg18 arg23 x0 x1 x3 x4) (kernelRun0_A.sl.v759 (F := Ideal) c arg2 harg2 arg3 harg3 arg5 harg5 arg6 harg6 arg7 harg7 arg8 harg8 arg10 harg10 arg21 arg22 arg23 x0 x1 x3 x4 x5 x6 x8) (kernelRun0_A.sl.v762 (F := Ideal) c arg2 harg2 arg3 harg3 arg5 harg5 arg6 harg6 arg7 harg7 arg8 harg8 arg11 harg11 arg19 arg23 x0 x1 x3 x4 x5 x6 x9) (kernelRun0_A.sl.v765 (F := Ideal) c arg2 harg2 arg3 harg3 arg5 harg5 arg6 harg6 arg7 harg7 arg8 harg8 arg10 harg10 arg21 arg22 arg23 x0 x1 x3 x4 x5 x6 x8) (kernelRun0_A.sl.v769 (F := Ideal) c arg2 harg2 arg3 harg3 arg5 harg5 arg6 harg6 arg7 harg7 arg8 harg8 arg11 harg11 arg19 arg23 x0 x1 x3 x4 x5 x6 x9) (kernelRun0_A.sl.v773 (F := Ideal) c arg2 harg2 arg20 x0)) := rfl

end Cert.MetaRec
-- ==== Proof.MetaRecBlocks.lean ====
/- The blocks of states the kernel leaves: zero after the first chunk, whose rows are zero, then the second chunk's. -/
module

public import proofs.«01_k».proof.Proof.MetaRecRows
public import proofs.«01_k».proof.Proof.MetaRecWords
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecMath

variable (c : Dev nD) (arg2 : Memref sig .tc .vmem S1x128x1536 .f32) (harg2 : arg2.IsWhole) (arg3 : Memref sig .tc .vmem S1x128x256 .f32) (harg3 : arg3.IsWhole)
  (arg4 : Memref sig .tc .vmem S4x128x128 .f32) (harg4 : arg4.IsWhole)
  (arg5 : Memref sig .tc .vmem S1x512 .f32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S256x512 .f32) (harg8 : arg8.IsWhole)
  (arg10 : Memref sig .tc .vmem S1x512 .f32) (harg10 : arg10.IsWhole) (arg11 : Memref sig .tc .vmem S1x512 .f32) (harg11 : arg11.IsWhole)
  (arg17 : Memref sig .tc .vmem S4x128x128 .f32) (arg18 arg19 arg20 arg21 arg22 arg23 : Memref sig .tc .vmem S128x512 .f32)
  (x0 : Vec Ideal S1x128x1536 .f32) (x1 : Vec Ideal S1x128x256 .f32) (x2 : Vec Ideal S4x128x128 .f32) (x3 : Vec Ideal S1x512 .f32) (x4 : Vec Ideal S256x512 .f32) (x5 : Vec Ideal S1x512 .f32)
  (x6 : Vec Ideal S256x512 .f32) (x8 x9 : Vec Ideal S1x512 .f32)

theorem z32 (z0 : ∀ (t : Fin 64) (k : Fin 1536), x0 (ix3 0 ⟨t.val, by omega⟩ k) = (0 : EReal)) (t : Fin 64) (k : Fin 1536) : kernelRun0_A.sl.v32 (F := Ideal) c arg2 harg2 x0 (ix2 t k) = (0 : EReal) := by
  rw [← z0 t k]
  unfold kernelRun0_A.sl.v32
  rw [View.readAt_eq_ld, Memref.IsWhole.read_unread]
  pointwise []

theorem zkk (z0 : ∀ (t : Fin 64) (k : Fin 1536), x0 (ix3 0 ⟨t.val, by omega⟩ k) = (0 : EReal)) (t : Fin 64) (k : Fin 512) : kernelRun0_A.sl.v148 (F := Ideal) c arg2 harg2 arg10 harg10 arg21 x0 x8 (ix2 t k) = (0 : EReal) := by
  have e : kernelRun0_A.sl.v148 (F := Ideal) c arg2 harg2 arg10 harg10 arg21 x0 x8 = k0_pay22 (kernelRun0_A.sl.v14 (F := Ideal)) (kernelRun0_A.sl.v80 (F := Ideal) c arg2 harg2 arg10 harg10 x0 x8) := by
    unfold kernelRun0_A.sl.v148 kernelRun0_A.sl.HS4_1
    exact View.readCov_cons_toLoadRect _ _ _ _
  rw [e]
  pointwise [k0_pay22, kernelRun0_A.sl.v80, kernelRun0_A.sl.v36]
  simp only [z32 _ _ _ _ z0, zero_mul]

theorem zk (z0 : ∀ (t : Fin 64) (k : Fin 1536), x0 (ix3 0 ⟨t.val, by omega⟩ k) = (0 : EReal)) (t : Fin 64) (k : Fin 512) : kernelRun0_A.sl.v151 (F := Ideal) c arg2 harg2 arg3 harg3 arg7 harg7 arg8 harg8 arg11 harg11 arg19 x0 x1 x5 x6 x9 (ix2 t k) = (0 : EReal) := by
  have e : kernelRun0_A.sl.v151 (F := Ideal) c arg2 harg2 arg3 harg3 arg7 harg7 arg8 harg8 arg11 harg11 arg19 x0 x1 x5 x6 x9 = k0_pay20 (kernelRun0_A.sl.v36 (F := Ideal) c arg2 harg2 x0) (kernelRun0_A.sl.v76 (F := Ideal) c arg3 harg3 arg7 harg7 arg8 harg8 x1 x5 x6) (View.readAt (Elt Ideal) arg11.view (Rect.unit ![0, 0] S1x512.size inb_S1x512_S1x512_0_0).toLoadRect (harg11.unread x9)) := by
    unfold kernelRun0_A.sl.v151 kernelRun0_A.sl.HS2_1
    exact View.readCov_cons_toLoadRect _ _ _ _
  rw [e]
  pointwise [k0_pay20, kernelRun0_A.sl.v36]
  simp only [z32 _ _ _ _ z0, zero_mul]

theorem zbh (z0 : ∀ (t : Fin 64) (k : Fin 1536), x0 (ix3 0 ⟨t.val, by omega⟩ k) = (0 : EReal)) (t : Fin 64) (k : Fin 512) : kernelRun0_A.sl.v167 (F := Ideal) c arg2 harg2 arg3 harg3 arg5 harg5 arg6 harg6 arg7 harg7 arg8 harg8 arg10 harg10 arg21 arg22 arg23 x0 x1 x3 x4 x5 x6 x8 (ix2 t k) = (0 : EReal) := by
  pointwise [kernelRun0_A.sl.v167, kernelRun0_A.sl.v166, kernelRun0_A.sl.v150]
  rw [zkk _ _ _ _ _ _ _ _ z0, zero_mul, zero_mul]

theorem zkh (z0 : ∀ (t : Fin 64) (k : Fin 1536), x0 (ix3 0 ⟨t.val, by omega⟩ k) = (0 : EReal)) (t : Fin 64) (k : Fin 512) : kernelRun0_A.sl.v169 (F := Ideal) c arg2 harg2 arg3 harg3 arg5 harg5 arg6 harg6 arg7 harg7 arg8 harg8 arg11 harg11 arg19 arg23 x0 x1 x3 x4 x5 x6 x9 (ix2 t k) = (0 : EReal) := by
  pointwise [kernelRun0_A.sl.v169, kernelRun0_A.sl.v168]
  rw [zk _ _ _ _ _ _ _ _ _ _ _ _ _ _ _ _ _ z0, zero_mul]

theorem cov_zero {L : List (View.Piece (Elt Ideal) S4x128x128 .f32)} (h : ∀ y, View.canon L y = (0 : EReal)) (B : LoadRect S4x128x128) (x) :
    arg17.view.readCov L B x = (0 : EReal) := by
  rw [View.readCov_eq_canon']
  exact h _

theorem canon_zero {L : List (View.Piece (Elt Ideal) S4x128x128 .f32)} (h : ∀ y, View.canon L y = (0 : EReal)) (r : Rect S4x128x128)
    (X : r.shape.Idx → Elt Ideal .f32) (hX : ∀ x, X x = (0 : EReal)) (y) : View.canon (⟨r, X⟩ :: L) y = (0 : EReal) := by
  by_cases hy : y ∈ r.set
  · obtain ⟨x, rfl⟩ : ∃ x, r.emb x = y := r.exists_idx_of_mem hy
    rw [View.canon_cons_emb]; exact hX x
  · rw [View.canon_cons_of_not_mem _ _ hy]; exact h y

theorem all2 {X : Vec Ideal S1x128x128 .f32} (h : ∀ i j : Fin 128, X (ix3 0 i j) = (0 : EReal)) (x : S1x128x128.Idx) : X x = (0 : EReal) := by
  have e : x = ix3 0 (x 1) (x 2) := by
    funext a
    refine Fin.cases ?_ (fun a => Fin.cases rfl (fun a => Fin.cases rfl (fun a => a.elim0) a) a) a
    exact Subsingleton.elim (α := Fin 1) _ _
  rw [e]; exact h _ _

theorem c1 (z2 : ∀ (q : Fin 4) (i j : Fin 128), x2 (ix3 q i j) = (0 : EReal)) (y) : View.canon (kernelRun0_A.sl.HS0_1 (F := Ideal) c arg4 harg4 x2) y = (0 : EReal) := by
  have e : ∀ (q : Fin 4) (i j : Fin 128), kernelRun0_A.sl.v1371 (F := Ideal) c arg4 harg4 x2 (ix3 q i j) = (0 : EReal) := by
    intro q i j
    rw [← z2 q i j]
    unfold kernelRun0_A.sl.v1371 kernelRun0_A.sl.v1368
    rw [View.readAt_eq_ld, Memref.IsWhole.read_unread]
    pointwise []
  unfold kernelRun0_A.sl.HS0_1
  rw [View.canon_cons_unit_lit _ _ _ (by decide)]
  have ey : y = ix3 (y 0) (y 1) (y 2) := by
    funext a
    exact Fin.cases rfl (fun a => Fin.cases rfl (fun a => Fin.cases rfl (fun a => a.elim0) a) a) a
  rw [ey]; exact e _ _ _

theorem o0 (z2 : ∀ (q : Fin 4) (i j : Fin 128), x2 (ix3 q i j) = (0 : EReal)) (i j : Fin 128) : kernelRun0_A.sl.v861 (F := Ideal) c arg4 harg4 arg17 x2 (ix3 0 i j) = (0 : EReal) := by
  unfold kernelRun0_A.sl.v861
  exact cov_zero _ (c1 _ _ _ _ z2) _ _

theorem s0 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v874 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = (0 : EReal) := by
  have hb : Rr (kernelRun0_A.sl.v187 (F := Ideal) c arg2 harg2 arg3 harg3 arg5 harg5 arg6 harg6 arg7 harg7 arg8 harg8 arg10 harg10 arg21 arg22 arg23 x0 x1 x3 x4 x5 x6 x8) 0 := fun t k => by
    pointwise [kernelRun0_A.sl.v187]
    exact zbh _ _ _ _ _ _ _ _ _ _ _ _ _ _ _ _ _ _ _ _ _ _ _ _ _ z0 _ _
  have hk : Rr (kernelRun0_A.sl.v191 (F := Ideal) c arg2 harg2 arg3 harg3 arg5 harg5 arg6 harg6 arg7 harg7 arg8 harg8 arg11 harg11 arg19 arg23 x0 x1 x3 x4 x5 x6 x9) 0 := fun t k => by
    pointwise [kernelRun0_A.sl.v191]
    exact zkh _ _ _ _ _ _ _ _ _ _ _ _ _ _ _ _ _ _ _ _ _ _ _ _ z0 _ _
  rw [st0_0]
  refine (congrArg₂ (· + ·) (eh_zero _ _ (o0 _ _ _ _ _ z2) i j) (stK_zero hb hk i j)).trans ?_
  exact add_zero _

theorem c2 (z0 : ∀ (t : Fin 64) (k : Fin 1536), x0 (ix3 0 ⟨t.val, by omega⟩ k) = (0 : EReal)) (z2 : ∀ (q : Fin 4) (i j : Fin 128), x2 (ix3 q i j) = (0 : EReal)) (y) : View.canon (kernelRun0_A.sl.HS0_2 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) y = (0 : EReal) := by
  have e : ∀ i j : Fin 128, kernelRun0_A.sl.v877 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
    intro i j
    pointwise [kernelRun0_A.sl.v877]
    exact s0 _ _ _ _ _ _ _ _ _ _ _ _ _ _ _ _ _ _ _ _ _ _ _ _ _ _ _ _ _ _ _ _ _ _ _ z0 z2 i j
  unfold kernelRun0_A.sl.HS0_2
  exact canon_zero (c1 _ _ _ _ z2) _ _ (all2 e) y

theorem o1 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v888 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v888
  exact cov_zero _ (c2 _ _ _ _ _ _ _ _ _ _ _ _ _ _ _ _ _ _ _ _ _ _ _ _ _ _ _ _ _ _ _ _ _ _ _ z0 z2) _ _

theorem s1 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v901 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = (0 : EReal) := by
  have hb : Rr (kernelRun0_A.sl.v215 (F := Ideal) c arg2 harg2 arg3 harg3 arg5 harg5 arg6 harg6 arg7 harg7 arg8 harg8 arg10 harg10 arg21 arg22 arg23 x0 x1 x3 x4 x5 x6 x8) 0 := fun t k => by
    pointwise [kernelRun0_A.sl.v215]
    exact zbh _ _ _ _ _ _ _ _ _ _ _ _ _ _ _ _ _ _ _ _ _ _ _ _ _ z0 _ _
  have hk : Rr (kernelRun0_A.sl.v219 (F := Ideal) c arg2 harg2 arg3 harg3 arg5 harg5 arg6 harg6 arg7 harg7 arg8 harg8 arg11 harg11 arg19 arg23 x0 x1 x3 x4 x5 x6 x9) 0 := fun t k => by
    pointwise [kernelRun0_A.sl.v219]
    exact zkh _ _ _ _ _ _ _ _ _ _ _ _ _ _ _ _ _ _ _ _ _ _ _ _ z0 _ _
  rw [st0_1]
  refine (congrArg₂ (· + ·) (eh_zero _ _ (o1 _ _ _ _ _ _ _ _ _ _ _ _ _ _ _ _ _ _ _ _ _ _ _ _ _ _ _ _ _ _ _ _ _ _ _ z0 z2) i j) (stK_zero hb hk i j)).trans ?_
  exact add_zero _

theorem c3 (z0 : ∀ (t : Fin 64) (k : Fin 1536), x0 (ix3 0 ⟨t.val, by omega⟩ k) = (0 : EReal)) (z2 : ∀ (q : Fin 4) (i j : Fin 128), x2 (ix3 q i j) = (0 : EReal)) (y) : View.canon (kernelRun0_A.sl.HS0_3 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) y = (0 : EReal) := by
  have e : ∀ i j : Fin 128, kernelRun0_A.sl.v904 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
    intro i j
    pointwise [kernelRun0_A.sl.v904]
    exact s1 _ _ _ _ _ _ _ _ _ _ _ _ _ _ _ _ _ _ _ _ _ _ _ _ _ _ _ _ _ _ _ _ _ _ _ z0 z2 i j
  unfold kernelRun0_A.sl.HS0_3
  exact canon_zero (c2 _ _ _ _ _ _ _ _ _ _ _ _ _ _ _ _ _ _ _ _ _ _ _ _ _ _ _ _ _ _ _ _ _ _ _ z0 z2) _ _ (all2 e) y

theorem o2 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v915 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v915
  exact cov_zero _ (c3 _ _ _ _ _ _ _ _ _ _ _ _ _ _ _ _ _ _ _ _ _ _ _ _ _ _ _ _ _ _ _ _ _ _ _ z0 z2) _ _

theorem s2 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v928 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = (0 : EReal) := by
  have hb : Rr (kernelRun0_A.sl.v243 (F := Ideal) c arg2 harg2 arg3 harg3 arg5 harg5 arg6 harg6 arg7 harg7 arg8 harg8 arg10 harg10 arg21 arg22 arg23 x0 x1 x3 x4 x5 x6 x8) 0 := fun t k => by
    pointwise [kernelRun0_A.sl.v243]
    exact zbh _ _ _ _ _ _ _ _ _ _ _ _ _ _ _ _ _ _ _ _ _ _ _ _ _ z0 _ _
  have hk : Rr (kernelRun0_A.sl.v247 (F := Ideal) c arg2 harg2 arg3 harg3 arg5 harg5 arg6 harg6 arg7 harg7 arg8 harg8 arg11 harg11 arg19 arg23 x0 x1 x3 x4 x5 x6 x9) 0 := fun t k => by
    pointwise [kernelRun0_A.sl.v247]
    exact zkh _ _ _ _ _ _ _ _ _ _ _ _ _ _ _ _ _ _ _ _ _ _ _ _ z0 _ _
  rw [st0_2]
  refine (congrArg₂ (· + ·) (eh_zero _ _ (o2 _ _ _ _ _ _ _ _ _ _ _ _ _ _ _ _ _ _ _ _ _ _ _ _ _ _ _ _ _ _ _ _ _ _ _ z0 z2) i j) (stK_zero hb hk i j)).trans ?_
  exact add_zero _

theorem c4 (z0 : ∀ (t : Fin 64) (k : Fin 1536), x0 (ix3 0 ⟨t.val, by omega⟩ k) = (0 : EReal)) (z2 : ∀ (q : Fin 4) (i j : Fin 128), x2 (ix3 q i j) = (0 : EReal)) (y) : View.canon (kernelRun0_A.sl.HS0_4 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) y = (0 : EReal) := by
  have e : ∀ i j : Fin 128, kernelRun0_A.sl.v931 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
    intro i j
    pointwise [kernelRun0_A.sl.v931]
    exact s2 _ _ _ _ _ _ _ _ _ _ _ _ _ _ _ _ _ _ _ _ _ _ _ _ _ _ _ _ _ _ _ _ _ _ _ z0 z2 i j
  unfold kernelRun0_A.sl.HS0_4
  exact canon_zero (c3 _ _ _ _ _ _ _ _ _ _ _ _ _ _ _ _ _ _ _ _ _ _ _ _ _ _ _ _ _ _ _ _ _ _ _ z0 z2) _ _ (all2 e) y

theorem o3 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v942 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v942
  exact cov_zero _ (c4 _ _ _ _ _ _ _ _ _ _ _ _ _ _ _ _ _ _ _ _ _ _ _ _ _ _ _ _ _ _ _ _ _ _ _ z0 z2) _ _

theorem s3 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v955 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = (0 : EReal) := by
  have hb : Rr (kernelRun0_A.sl.v271 (F := Ideal) c arg2 harg2 arg3 harg3 arg5 harg5 arg6 harg6 arg7 harg7 arg8 harg8 arg10 harg10 arg21 arg22 arg23 x0 x1 x3 x4 x5 x6 x8) 0 := fun t k => by
    pointwise [kernelRun0_A.sl.v271]
    exact zbh _ _ _ _ _ _ _ _ _ _ _ _ _ _ _ _ _ _ _ _ _ _ _ _ _ z0 _ _
  have hk : Rr (kernelRun0_A.sl.v275 (F := Ideal) c arg2 harg2 arg3 harg3 arg5 harg5 arg6 harg6 arg7 harg7 arg8 harg8 arg11 harg11 arg19 arg23 x0 x1 x3 x4 x5 x6 x9) 0 := fun t k => by
    pointwise [kernelRun0_A.sl.v275]
    exact zkh _ _ _ _ _ _ _ _ _ _ _ _ _ _ _ _ _ _ _ _ _ _ _ _ z0 _ _
  rw [st0_3]
  refine (congrArg₂ (· + ·) (eh_zero _ _ (o3 _ _ _ _ _ _ _ _ _ _ _ _ _ _ _ _ _ _ _ _ _ _ _ _ _ _ _ _ _ _ _ _ _ _ _ z0 z2) i j) (stK_zero hb hk i j)).trans ?_
  exact add_zero _

theorem c5 (z0 : ∀ (t : Fin 64) (k : Fin 1536), x0 (ix3 0 ⟨t.val, by omega⟩ k) = (0 : EReal)) (z2 : ∀ (q : Fin 4) (i j : Fin 128), x2 (ix3 q i j) = (0 : EReal)) (y) : View.canon (kernelRun0_A.sl.HS0_5 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) y = (0 : EReal) := by
  have e : ∀ i j : Fin 128, kernelRun0_A.sl.v958 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
    intro i j
    pointwise [kernelRun0_A.sl.v958]
    exact s3 _ _ _ _ _ _ _ _ _ _ _ _ _ _ _ _ _ _ _ _ _ _ _ _ _ _ _ _ _ _ _ _ _ _ _ z0 z2 i j
  unfold kernelRun0_A.sl.HS0_5
  exact canon_zero (c4 _ _ _ _ _ _ _ _ _ _ _ _ _ _ _ _ _ _ _ _ _ _ _ _ _ _ _ _ _ _ _ _ _ _ _ z0 z2) _ _ (all2 e) y

end Cert.MetaRec
-- ==== Proof.MetaRecState.lean ====
/- The blocks of states after the second chunk, and the kernel's result. -/
module

public import proofs.«01_k».proof.Proof.MetaRecBlocks
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecMath

variable (c : Dev nD) (arg2 : Memref sig .tc .vmem S1x128x1536 .f32) (harg2 : arg2.IsWhole) (arg3 : Memref sig .tc .vmem S1x128x256 .f32) (harg3 : arg3.IsWhole)
  (arg4 : Memref sig .tc .vmem S4x128x128 .f32) (harg4 : arg4.IsWhole)
  (arg5 : Memref sig .tc .vmem S1x512 .f32) (harg5 : arg5.IsWhole) (arg6 : Memref sig .tc .vmem S256x512 .f32) (harg6 : arg6.IsWhole)
  (arg7 : Memref sig .tc .vmem S1x512 .f32) (harg7 : arg7.IsWhole) (arg8 : Memref sig .tc .vmem S256x512 .f32) (harg8 : arg8.IsWhole)
  (arg10 : Memref sig .tc .vmem S1x512 .f32) (harg10 : arg10.IsWhole) (arg11 : Memref sig .tc .vmem S1x512 .f32) (harg11 : arg11.IsWhole)
  (arg17 : Memref sig .tc .vmem S4x128x128 .f32) (arg18 arg19 arg20 arg21 arg22 arg23 : Memref sig .tc .vmem S128x512 .f32)
  (x0 : Vec Ideal S1x128x1536 .f32) (x1 : Vec Ideal S1x128x256 .f32) (x2 : Vec Ideal S4x128x128 .f32) (x3 : Vec Ideal S1x512 .f32) (x4 : Vec Ideal S256x512 .f32) (x5 : Vec Ideal S1x512 .f32)
  (x6 : Vec Ideal S256x512 .f32) (x8 x9 : Vec Ideal S1x512 .f32)

variable (P : Par)

/-- A block of two heads' states, keys by values. -/
def blkR (T : Toks) (i j : ℕ) : ℝ := if i / 64 = j / 64 then T.st (i / 64) 64 (j % 64) (i % 64) else 0

theorem q0 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1201 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v1201

  exact cov_zero _ (c5 _ _ _ _ _ _ _ _ _ _ _ _ _ _ _ _ _ _ _ _ _ _ _ _ _ _ _ _ _ _ _ _ _ _ _ z0 z2) _ _

theorem w0 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1214 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = ((blkR (P.toks 0) i.val j.val : ℝ) : EReal) := by
  have ha : Rr (kernelRun0_A.sl.v667 (F := Ideal) c arg2 harg2 arg3 harg3 arg5 harg5 arg6 harg6 arg10 harg10 arg21 arg23 x0 x1 x3 x4 x8) (P.toks 0).cA := fun t k => by
    pointwise [kernelRun0_A.sl.v667]
    rw [oA _ _ _ _ _ _ _ _ _ _ _ _ _ _ _ _ _ _ P h0 hz h8]
    simp only [Nat.mul_zero, Nat.zero_add, Toks.cA, Par.toks, Toks.g, Par.g]
  have hb : Rr (kernelRun0_A.sl.v675 (F := Ideal) c arg2 harg2 arg3 harg3 arg5 harg5 arg6 harg6 arg7 harg7 arg8 harg8 arg10 harg10 arg21 arg22 arg23 x0 x1 x3 x4 x5 x6 x8) (P.toks 0).cB := fun t k => by
    pointwise [kernelRun0_A.sl.v675]
    rw [oB _ _ _ _ _ _ _ _ _ _ _ _ _ _ _ _ _ _ _ _ _ _ _ _ _ P h0 hz hy h8]
    simp only [Nat.mul_zero, Nat.zero_add, Toks.cB, Par.toks, Toks.g, Par.g]
  have hk : Rr (kernelRun0_A.sl.v678 (F := Ideal) c arg2 harg2 arg3 harg3 arg5 harg5 arg6 harg6 arg7 harg7 arg8 harg8 arg11 harg11 arg19 arg23 x0 x1 x3 x4 x5 x6 x9) (P.toks 0).cK := fun t k => by
    pointwise [kernelRun0_A.sl.v678]
    rw [oK _ _ _ _ _ _ _ _ _ _ _ _ _ _ _ _ _ _ _ _ _ _ _ _ P h0 hz hy h9]
    simp only [Nat.mul_zero, Nat.zero_add, Toks.cK, Par.toks, Toks.g, Par.g]
  have hbh : Rr (kernelRun0_A.sl.v681 (F := Ideal) c arg2 harg2 arg3 harg3 arg5 harg5 arg6 harg6 arg7 harg7 arg8 harg8 arg10 harg10 arg21 arg22 arg23 x0 x1 x3 x4 x5 x6 x8) (P.toks 0).cBh := fun t k => by
    pointwise [kernelRun0_A.sl.v681]
    rw [oBh _ _ _ _ _ _ _ _ _ _ _ _ _ _ _ _ _ _ _ _ _ _ _ _ _ P h0 hz hy h8]
    simp only [Nat.mul_zero, Nat.zero_add, Toks.cBh, Par.toks, Toks.g, Par.g]
  have hkh : Rr (kernelRun0_A.sl.v685 (F := Ideal) c arg2 harg2 arg3 harg3 arg5 harg5 arg6 harg6 arg7 harg7 arg8 harg8 arg11 harg11 arg19 arg23 x0 x1 x3 x4 x5 x6 x9) (P.toks 0).cKh := fun t k => by
    pointwise [kernelRun0_A.sl.v685]
    rw [oKh _ _ _ _ _ _ _ _ _ _ _ _ _ _ _ _ _ _ _ _ _ _ _ _ P h0 hz hy h9]
    simp only [Nat.mul_zero, Nat.zero_add, Toks.cKh, Par.toks, Toks.g, Par.g]
  have hv : Rr (kernelRun0_A.sl.v689 (F := Ideal) c arg2 harg2 arg20 x0) (P.toks 0).v := fun t k => by
    pointwise [kernelRun0_A.sl.v689]
    rw [oV _ _ _ _ _ P h0]
    simp only [Nat.mul_zero, Nat.zero_add, Par.toks]
  rw [st1_0]
  refine (congrArg₂ (· + ·) (eh_zero _ _ (q0 _ _ _ _ _ _ _ _ _ _ _ _ _ _ _ _ _ _ _ _ _ _ _ _ _ _ _ _ _ _ _ _ _ _ _ z0 z2) i j) (stK_real ha hb hk hbh hkh hv i j)).trans ?_
  rw [Toks.chunk]
  exact zero_add _

theorem q1 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1228 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v1228
  unfold kernelRun0_A.sl.HS0_6
  rw [View.readCov_skip _ _ _ _ _ (by decide)]
  exact cov_zero _ (c5 _ _ _ _ _ _ _ _ _ _ _ _ _ _ _ _ _ _ _ _ _ _ _ _ _ _ _ _ _ _ _ _ _ _ _ z0 z2) _ _

theorem w1 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1241 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = ((blkR (P.toks 1) i.val j.val : ℝ) : EReal) := by
  have ha : Rr (kernelRun0_A.sl.v695 (F := Ideal) c arg2 harg2 arg3 harg3 arg5 harg5 arg6 harg6 arg10 harg10 arg21 arg23 x0 x1 x3 x4 x8) (P.toks 1).cA := fun t k => by
    pointwise [kernelRun0_A.sl.v695]
    rw [oA _ _ _ _ _ _ _ _ _ _ _ _ _ _ _ _ _ _ P h0 hz h8]
    rfl
  have hb : Rr (kernelRun0_A.sl.v703 (F := Ideal) c arg2 harg2 arg3 harg3 arg5 harg5 arg6 harg6 arg7 harg7 arg8 harg8 arg10 harg10 arg21 arg22 arg23 x0 x1 x3 x4 x5 x6 x8) (P.toks 1).cB := fun t k => by
    pointwise [kernelRun0_A.sl.v703]
    rw [oB _ _ _ _ _ _ _ _ _ _ _ _ _ _ _ _ _ _ _ _ _ _ _ _ _ P h0 hz hy h8]
    rfl
  have hk : Rr (kernelRun0_A.sl.v706 (F := Ideal) c arg2 harg2 arg3 harg3 arg5 harg5 arg6 harg6 arg7 harg7 arg8 harg8 arg11 harg11 arg19 arg23 x0 x1 x3 x4 x5 x6 x9) (P.toks 1).cK := fun t k => by
    pointwise [kernelRun0_A.sl.v706]
    rw [oK _ _ _ _ _ _ _ _ _ _ _ _ _ _ _ _ _ _ _ _ _ _ _ _ P h0 hz hy h9]
    rfl
  have hbh : Rr (kernelRun0_A.sl.v709 (F := Ideal) c arg2 harg2 arg3 harg3 arg5 harg5 arg6 harg6 arg7 harg7 arg8 harg8 arg10 harg10 arg21 arg22 arg23 x0 x1 x3 x4 x5 x6 x8) (P.toks 1).cBh := fun t k => by
    pointwise [kernelRun0_A.sl.v709]
    rw [oBh _ _ _ _ _ _ _ _ _ _ _ _ _ _ _ _ _ _ _ _ _ _ _ _ _ P h0 hz hy h8]
    rfl
  have hkh : Rr (kernelRun0_A.sl.v713 (F := Ideal) c arg2 harg2 arg3 harg3 arg5 harg5 arg6 harg6 arg7 harg7 arg8 harg8 arg11 harg11 arg19 arg23 x0 x1 x3 x4 x5 x6 x9) (P.toks 1).cKh := fun t k => by
    pointwise [kernelRun0_A.sl.v713]
    rw [oKh _ _ _ _ _ _ _ _ _ _ _ _ _ _ _ _ _ _ _ _ _ _ _ _ P h0 hz hy h9]
    rfl
  have hv : Rr (kernelRun0_A.sl.v717 (F := Ideal) c arg2 harg2 arg20 x0) (P.toks 1).v := fun t k => by
    pointwise [kernelRun0_A.sl.v717]
    rw [oV _ _ _ _ _ P h0]
    rfl
  rw [st1_1]
  refine (congrArg₂ (· + ·) (eh_zero _ _ (q1 _ _ _ _ _ _ _ _ _ _ _ _ _ _ _ _ _ _ _ _ _ _ _ _ _ _ _ _ _ _ _ _ _ _ _ z0 z2) i j) (stK_real ha hb hk hbh hkh hv i j)).trans ?_
  rw [Toks.chunk]
  exact zero_add _

theorem q2 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1255 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v1255
  unfold kernelRun0_A.sl.HS0_7
  rw [View.readCov_skip _ _ _ _ _ (by decide)]
  unfold kernelRun0_A.sl.HS0_6
  rw [View.readCov_skip _ _ _ _ _ (by decide)]
  exact cov_zero _ (c5 _ _ _ _ _ _ _ _ _ _ _ _ _ _ _ _ _ _ _ _ _ _ _ _ _ _ _ _ _ _ _ _ _ _ _ z0 z2) _ _

theorem w2 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1268 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = ((blkR (P.toks 2) i.val j.val : ℝ) : EReal) := by
  have ha : Rr (kernelRun0_A.sl.v723 (F := Ideal) c arg2 harg2 arg3 harg3 arg5 harg5 arg6 harg6 arg10 harg10 arg21 arg23 x0 x1 x3 x4 x8) (P.toks 2).cA := fun t k => by
    pointwise [kernelRun0_A.sl.v723]
    rw [oA _ _ _ _ _ _ _ _ _ _ _ _ _ _ _ _ _ _ P h0 hz h8]
    rfl
  have hb : Rr (kernelRun0_A.sl.v731 (F := Ideal) c arg2 harg2 arg3 harg3 arg5 harg5 arg6 harg6 arg7 harg7 arg8 harg8 arg10 harg10 arg21 arg22 arg23 x0 x1 x3 x4 x5 x6 x8) (P.toks 2).cB := fun t k => by
    pointwise [kernelRun0_A.sl.v731]
    rw [oB _ _ _ _ _ _ _ _ _ _ _ _ _ _ _ _ _ _ _ _ _ _ _ _ _ P h0 hz hy h8]
    rfl
  have hk : Rr (kernelRun0_A.sl.v734 (F := Ideal) c arg2 harg2 arg3 harg3 arg5 harg5 arg6 harg6 arg7 harg7 arg8 harg8 arg11 harg11 arg19 arg23 x0 x1 x3 x4 x5 x6 x9) (P.toks 2).cK := fun t k => by
    pointwise [kernelRun0_A.sl.v734]
    rw [oK _ _ _ _ _ _ _ _ _ _ _ _ _ _ _ _ _ _ _ _ _ _ _ _ P h0 hz hy h9]
    rfl
  have hbh : Rr (kernelRun0_A.sl.v737 (F := Ideal) c arg2 harg2 arg3 harg3 arg5 harg5 arg6 harg6 arg7 harg7 arg8 harg8 arg10 harg10 arg21 arg22 arg23 x0 x1 x3 x4 x5 x6 x8) (P.toks 2).cBh := fun t k => by
    pointwise [kernelRun0_A.sl.v737]
    rw [oBh _ _ _ _ _ _ _ _ _ _ _ _ _ _ _ _ _ _ _ _ _ _ _ _ _ P h0 hz hy h8]
    rfl
  have hkh : Rr (kernelRun0_A.sl.v741 (F := Ideal) c arg2 harg2 arg3 harg3 arg5 harg5 arg6 harg6 arg7 harg7 arg8 harg8 arg11 harg11 arg19 arg23 x0 x1 x3 x4 x5 x6 x9) (P.toks 2).cKh := fun t k => by
    pointwise [kernelRun0_A.sl.v741]
    rw [oKh _ _ _ _ _ _ _ _ _ _ _ _ _ _ _ _ _ _ _ _ _ _ _ _ P h0 hz hy h9]
    rfl
  have hv : Rr (kernelRun0_A.sl.v745 (F := Ideal) c arg2 harg2 arg20 x0) (P.toks 2).v := fun t k => by
    pointwise [kernelRun0_A.sl.v745]
    rw [oV _ _ _ _ _ P h0]
    rfl
  rw [st1_2]
  refine (congrArg₂ (· + ·) (eh_zero _ _ (q2 _ _ _ _ _ _ _ _ _ _ _ _ _ _ _ _ _ _ _ _ _ _ _ _ _ _ _ _ _ _ _ _ _ _ _ z0 z2) i j) (stK_real ha hb hk hbh hkh hv i j)).trans ?_
  rw [Toks.chunk]
  exact zero_add _

theorem q3 (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1282 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = (0 : EReal) := by
  unfold kernelRun0_A.sl.v1282
  unfold kernelRun0_A.sl.HS0_8
  rw [View.readCov_skip _ _ _ _ _ (by decide)]
  unfold kernelRun0_A.sl.HS0_7
  rw [View.readCov_skip _ _ _ _ _ (by decide)]
  unfold kernelRun0_A.sl.HS0_6
  rw [View.readCov_skip _ _ _ _ _ (by decide)]
  exact cov_zero _ (c5 _ _ _ _ _ _ _ _ _ _ _ _ _ _ _ _ _ _ _ _ _ _ _ _ _ _ _ _ _ _ _ _ _ _ _ z0 z2) _ _

theorem w3 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1295 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix2 i j) = ((blkR (P.toks 3) i.val j.val : ℝ) : EReal) := by
  have ha : Rr (kernelRun0_A.sl.v751 (F := Ideal) c arg2 harg2 arg3 harg3 arg5 harg5 arg6 harg6 arg10 harg10 arg21 arg23 x0 x1 x3 x4 x8) (P.toks 3).cA := fun t k => by
    pointwise [kernelRun0_A.sl.v751]
    rw [oA _ _ _ _ _ _ _ _ _ _ _ _ _ _ _ _ _ _ P h0 hz h8]
    rfl
  have hb : Rr (kernelRun0_A.sl.v759 (F := Ideal) c arg2 harg2 arg3 harg3 arg5 harg5 arg6 harg6 arg7 harg7 arg8 harg8 arg10 harg10 arg21 arg22 arg23 x0 x1 x3 x4 x5 x6 x8) (P.toks 3).cB := fun t k => by
    pointwise [kernelRun0_A.sl.v759]
    rw [oB _ _ _ _ _ _ _ _ _ _ _ _ _ _ _ _ _ _ _ _ _ _ _ _ _ P h0 hz hy h8]
    rfl
  have hk : Rr (kernelRun0_A.sl.v762 (F := Ideal) c arg2 harg2 arg3 harg3 arg5 harg5 arg6 harg6 arg7 harg7 arg8 harg8 arg11 harg11 arg19 arg23 x0 x1 x3 x4 x5 x6 x9) (P.toks 3).cK := fun t k => by
    pointwise [kernelRun0_A.sl.v762]
    rw [oK _ _ _ _ _ _ _ _ _ _ _ _ _ _ _ _ _ _ _ _ _ _ _ _ P h0 hz hy h9]
    rfl
  have hbh : Rr (kernelRun0_A.sl.v765 (F := Ideal) c arg2 harg2 arg3 harg3 arg5 harg5 arg6 harg6 arg7 harg7 arg8 harg8 arg10 harg10 arg21 arg22 arg23 x0 x1 x3 x4 x5 x6 x8) (P.toks 3).cBh := fun t k => by
    pointwise [kernelRun0_A.sl.v765]
    rw [oBh _ _ _ _ _ _ _ _ _ _ _ _ _ _ _ _ _ _ _ _ _ _ _ _ _ P h0 hz hy h8]
    rfl
  have hkh : Rr (kernelRun0_A.sl.v769 (F := Ideal) c arg2 harg2 arg3 harg3 arg5 harg5 arg6 harg6 arg7 harg7 arg8 harg8 arg11 harg11 arg19 arg23 x0 x1 x3 x4 x5 x6 x9) (P.toks 3).cKh := fun t k => by
    pointwise [kernelRun0_A.sl.v769]
    rw [oKh _ _ _ _ _ _ _ _ _ _ _ _ _ _ _ _ _ _ _ _ _ _ _ _ P h0 hz hy h9]
    rfl
  have hv : Rr (kernelRun0_A.sl.v773 (F := Ideal) c arg2 harg2 arg20 x0) (P.toks 3).v := fun t k => by
    pointwise [kernelRun0_A.sl.v773]
    rw [oV _ _ _ _ _ P h0]
    rfl
  rw [st1_3]
  refine (congrArg₂ (· + ·) (eh_zero _ _ (q3 _ _ _ _ _ _ _ _ _ _ _ _ _ _ _ _ _ _ _ _ _ _ _ _ _ _ _ _ _ _ _ _ _ _ _ z0 z2) i j) (stK_real ha hb hk hbh hkh hv i j)).trans ?_
  rw [Toks.chunk]
  exact zero_add _

theorem f0 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = ((blkR (P.toks 0) i.val j.val : ℝ) : EReal) := by
  have e : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 0 i j) = arg17.view.readCov (kernelRun0_A.sl.HS0_9 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) (Rect.unit (s := S4x128x128) ![0, 0, 0] S1x128x128.size inb_S4x128x128_S1x128x128_0_0_0).toLoadRect (ix3 0 i j) := by
    unfold kernelRun0_A.sl.v1363
    rw [View.readCov_eq_canon', View.readCov_eq_canon']
    refine congrArg _ ?_
    funext a
    refine Fin.cases ?_ (fun a => Fin.cases ?_ (fun a => Fin.cases ?_ (fun a => a.elim0) a) a) a
    · rfl
    · rfl
    · rfl
  rw [e]
  unfold kernelRun0_A.sl.HS0_9
  rw [View.readCov_skip _ _ _ _ _ (by decide)]
  unfold kernelRun0_A.sl.HS0_8
  rw [View.readCov_skip _ _ _ _ _ (by decide)]
  unfold kernelRun0_A.sl.HS0_7
  rw [View.readCov_skip _ _ _ _ _ (by decide)]
  unfold kernelRun0_A.sl.HS0_6
  rw [View.readCov_cons_toLoadRect]
  pointwise [kernelRun0_A.sl.v1217]
  exact w0 _ _ _ _ _ _ _ _ _ _ _ _ _ _ _ _ _ _ _ _ _ _ _ _ _ _ _ _ _ _ _ _ _ _ _ P h0 hz hy h8 h9 z0 z2 i j

theorem f1 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 1 i j) = ((blkR (P.toks 1) i.val j.val : ℝ) : EReal) := by
  have e : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 1 i j) = arg17.view.readCov (kernelRun0_A.sl.HS0_9 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) (Rect.unit (s := S4x128x128) ![1, 0, 0] S1x128x128.size inb_S4x128x128_S1x128x128_1_0_0).toLoadRect (ix3 0 i j) := by
    unfold kernelRun0_A.sl.v1363
    rw [View.readCov_eq_canon', View.readCov_eq_canon']
    refine congrArg _ ?_
    funext a
    refine Fin.cases ?_ (fun a => Fin.cases ?_ (fun a => Fin.cases ?_ (fun a => a.elim0) a) a) a
    · rfl
    · rfl
    · rfl
  rw [e]
  unfold kernelRun0_A.sl.HS0_9
  rw [View.readCov_skip _ _ _ _ _ (by decide)]
  unfold kernelRun0_A.sl.HS0_8
  rw [View.readCov_skip _ _ _ _ _ (by decide)]
  unfold kernelRun0_A.sl.HS0_7
  rw [View.readCov_cons_toLoadRect]
  pointwise [kernelRun0_A.sl.v1244]
  exact w1 _ _ _ _ _ _ _ _ _ _ _ _ _ _ _ _ _ _ _ _ _ _ _ _ _ _ _ _ _ _ _ _ _ _ _ P h0 hz hy h8 h9 z0 z2 i j

theorem f2 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 2 i j) = ((blkR (P.toks 2) i.val j.val : ℝ) : EReal) := by
  have e : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 2 i j) = arg17.view.readCov (kernelRun0_A.sl.HS0_9 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) (Rect.unit (s := S4x128x128) ![2, 0, 0] S1x128x128.size inb_S4x128x128_S1x128x128_2_0_0).toLoadRect (ix3 0 i j) := by
    unfold kernelRun0_A.sl.v1363
    rw [View.readCov_eq_canon', View.readCov_eq_canon']
    refine congrArg _ ?_
    funext a
    refine Fin.cases ?_ (fun a => Fin.cases ?_ (fun a => Fin.cases ?_ (fun a => a.elim0) a) a) a
    · rfl
    · rfl
    · rfl
  rw [e]
  unfold kernelRun0_A.sl.HS0_9
  rw [View.readCov_skip _ _ _ _ _ (by decide)]
  unfold kernelRun0_A.sl.HS0_8
  rw [View.readCov_cons_toLoadRect]
  pointwise [kernelRun0_A.sl.v1271]
  exact w2 _ _ _ _ _ _ _ _ _ _ _ _ _ _ _ _ _ _ _ _ _ _ _ _ _ _ _ _ _ _ _ _ _ _ _ P h0 hz hy h8 h9 z0 z2 i j

theorem f3 (h0 : ∀ (t : Fin 64) (k : Fin 512), x0 (ix3 0 ⟨64 + t.val, by omega⟩ ⟨512 + k.val, by omega⟩) = ((P.X t.val (512 + k.val) : ℝ) : EReal) ∧ x0 (ix3 0 ⟨64 + t.val, by omega⟩ ⟨1024 + k.val, by omega⟩) = ((P.X t.val (1024 + k.val) : ℝ) : EReal)) (hz : ∀ (t : Fin 64) (k : Fin 512), x3 (ix2 0 k) + ∑ q : Fin 256, Ideal.tanh (x1 (ix3 0 ⟨64 + t.val, by omega⟩ q)) * x4 (ix2 q k) = P.z t.val k.val) (hy : ∀ (t : Fin 64) (k : Fin 512), x5 (ix2 0 k) + ∑ q : Fin 256, x1 (ix3 0 ⟨64 + t.val, by omega⟩ q) * x6 (ix2 q k) = P.y t.val k.val) (h8 : ∀ k : Fin 512, x8 (ix2 0 k) = P.kk k.val) (h9 : ∀ k : Fin 512, x9 (ix2 0 k) = ((P.ka k.val : ℝ) : EReal)) (z0 : ∀ (t : Fin 64) (k : Fin 1536), x0 (ix3 0 ⟨t.val, by omega⟩ k) = (0 : EReal)) (z2 : ∀ (q : Fin 4) (i j : Fin 128), x2 (ix3 q i j) = (0 : EReal)) (i j : Fin 128) : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 3 i j) = ((blkR (P.toks 3) i.val j.val : ℝ) : EReal) := by
  have e : kernelRun0_A.sl.v1363 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9 (ix3 3 i j) = arg17.view.readCov (kernelRun0_A.sl.HS0_9 (F := Ideal) c arg2 harg2 arg3 harg3 arg4 harg4 arg5 harg5 arg6 harg6 arg7 harg7 arg8 harg8 arg10 harg10 arg11 harg11 arg17 arg18 arg19 arg20 arg21 arg22 arg23 x0 x1 x2 x3 x4 x5 x6 x8 x9) (Rect.unit (s := S4x128x128) ![3, 0, 0] S1x128x128.size inb_S4x128x128_S1x128x128_3_0_0).toLoadRect (ix3 0 i j) := by
    unfold kernelRun0_A.sl.v1363
    rw [View.readCov_eq_canon', View.readCov_eq_canon']
    refine congrArg _ ?_
    funext a
    refine Fin.cases ?_ (fun a => Fin.cases ?_ (fun a => Fin.cases ?_ (fun a => a.elim0) a) a) a
    · rfl
    · rfl
    · rfl
  rw [e]

  unfold kernelRun0_A.sl.HS0_9
  rw [View.readCov_cons_toLoadRect]
  pointwise [kernelRun0_A.sl.v1298]
  exact w3 _ _ _ _ _ _ _ _ _ _ _ _ _ _ _ _ _ _ _ _ _ _ _ _ _ _ _ _ _ _ _ _ _ _ _ P h0 hz hy h8 h9 z0 z2 i j

end Cert.MetaRec
-- ==== Proof.MetaRecHost.lean ====
/- What the recurrence's windows hold of the arguments: the meta tokens' rows after 112 rows of zeros, the low-rank
   weights filled up with zeros, the layer's gains, and a state of zeros. -/
module

public import proofs.«01_k».proof.Proof.Gen.Kernel7Ideal.Value
public import proofs.«01_k».proof.Proof.InProj
public import proofs.«01_k».proof.Proof.InProjRef
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MetaRecHost

open Cert.Kernel7Ideal Cert.Kernel7Ideal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem host0 (c : Dev nD) (l : Fin 16) (k : Fin 1536) :
    (show Vec Ideal S1x128x1536 .f32 from V m c main_v14) (ix3 0 ⟨112 + l.val, by omega⟩ k) = (show FVec Ideal S16x1696 .f32 from m ((c : Thread nD τ).loc main_arg0)) (ix2 l ⟨k.val, by omega⟩) := by
  unfold V
  after_reads_at

theorem read0 (c : Dev nD) (t : Fin cfg0.N) (l : Fin 16) (k : Fin 1536) :
    (show Vec Ideal S1x128x1536 .f32 from iblk m c 0 t) (ix3 0 ⟨112 + l.val, by omega⟩ k) = (show FVec Ideal S16x1696 .f32 from m ((c : Thread nD τ).loc main_arg0)) (ix2 l ⟨k.val, by omega⟩) := by
  refine Eq.trans ?_ (host0 m c l k)
  blk_point [iblk, idx t]

theorem host0z (c : Dev nD) (l : Fin 112) (k : Fin 1536) :
    (show Vec Ideal S1x128x1536 .f32 from V m c main_v14) (ix3 0 ⟨l.val, by omega⟩ k) = (0 : EReal) := by
  unfold V
  after_reads_at
  exact InProjRef.fill

theorem read0z (c : Dev nD) (t : Fin cfg0.N) (l : Fin 112) (k : Fin 1536) :
    (show Vec Ideal S1x128x1536 .f32 from iblk m c 0 t) (ix3 0 ⟨l.val, by omega⟩ k) = (0 : EReal) := by
  refine Eq.trans ?_ (host0z m c l k)
  blk_point [iblk, idx t]

theorem host1 (c : Dev nD) (l : Fin 16) (k : Fin 160) :
    (show Vec Ideal S1x128x256 .f32 from V m c main_v15) (ix3 0 ⟨112 + l.val, by omega⟩ ⟨k.val, by omega⟩) = (show FVec Ideal S16x1696 .f32 from m ((c : Thread nD τ).loc main_arg0)) (ix2 l ⟨1536 + k.val, by omega⟩) := by
  unfold V
  after_reads_at

theorem read1 (c : Dev nD) (t : Fin cfg0.N) (l : Fin 16) (k : Fin 160) :
    (show Vec Ideal S1x128x256 .f32 from iblk m c 1 t) (ix3 0 ⟨112 + l.val, by omega⟩ ⟨k.val, by omega⟩) = (show FVec Ideal S16x1696 .f32 from m ((c : Thread nD τ).loc main_arg0)) (ix2 l ⟨1536 + k.val, by omega⟩) := by
  refine Eq.trans ?_ (host1 m c l k)
  blk_point [iblk, idx t]

theorem host1z (c : Dev nD) (l : Fin 112) (k : Fin 256) :
    (show Vec Ideal S1x128x256 .f32 from V m c main_v15) (ix3 0 ⟨l.val, by omega⟩ k) = (0 : EReal) := by
  unfold V
  after_reads_at
  exact InProjRef.fill

theorem read1z (c : Dev nD) (t : Fin cfg0.N) (l : Fin 112) (k : Fin 256) :
    (show Vec Ideal S1x128x256 .f32 from iblk m c 1 t) (ix3 0 ⟨l.val, by omega⟩ k) = (0 : EReal) := by
  refine Eq.trans ?_ (host1z m c l k)
  blk_point [iblk, idx t]

theorem host2 (c : Dev nD) (q : Fin 4) (i j : Fin 128) :
    (show Vec Ideal S4x128x128 .f32 from V m c main_v16) (ix3 q i j) = (0 : EReal) := by
  unfold V
  after_reads_at

theorem read2 (c : Dev nD) (t : Fin cfg0.N) (q : Fin 4) (i j : Fin 128) :
    (show Vec Ideal S4x128x128 .f32 from iblk m c 2 t) (ix3 q i j) = (0 : EReal) := by
  refine Eq.trans ?_ (host2 m c q i j)
  blk_point [iblk, idx t]

theorem host3 (c : Dev nD) (k : Fin 512) :
    (show Vec Ideal S1x512 .f32 from V m c main_v4) (ix2 0 k) = (show FVec Ideal S512 .f32 from m ((c : Thread nD τ).loc main_arg1)) (ix1 k) := by
  unfold V
  after_reads_at

theorem read3 (c : Dev nD) (t : Fin cfg0.N) (k : Fin 512) :
    (show Vec Ideal S1x512 .f32 from iblk m c 3 t) (ix2 0 k) = (show FVec Ideal S512 .f32 from m ((c : Thread nD τ).loc main_arg1)) (ix1 k) := by
  refine Eq.trans ?_ (host3 m c k)
  blk_point [iblk, idx t]

theorem host4 (c : Dev nD) (q : Fin 32) (k : Fin 512) :
    (show Vec Ideal S256x512 .f32 from V m c main_v5) (ix2 ⟨q.val, by omega⟩ k) = (show FVec Ideal S32x512 .f32 from m ((c : Thread nD τ).loc main_arg2)) (ix2 q k) := by
  unfold V
  after_reads_at

theorem read4 (c : Dev nD) (t : Fin cfg0.N) (q : Fin 32) (k : Fin 512) :
    (show Vec Ideal S256x512 .f32 from iblk m c 4 t) (ix2 ⟨q.val, by omega⟩ k) = (show FVec Ideal S32x512 .f32 from m ((c : Thread nD τ).loc main_arg2)) (ix2 q k) := by
  refine Eq.trans ?_ (host4 m c q k)
  blk_point [iblk, idx t]

theorem host4z (c : Dev nD) (q : Fin 224) (k : Fin 512) :
    (show Vec Ideal S256x512 .f32 from V m c main_v5) (ix2 ⟨32 + q.val, by omega⟩ k) = (0 : EReal) := by
  unfold V
  after_reads_at
  exact InProjRef.fill

theorem read4z (c : Dev nD) (t : Fin cfg0.N) (q : Fin 224) (k : Fin 512) :
    (show Vec Ideal S256x512 .f32 from iblk m c 4 t) (ix2 ⟨32 + q.val, by omega⟩ k) = (0 : EReal) := by
  refine Eq.trans ?_ (host4z m c q k)
  blk_point [iblk, idx t]

theorem host5 (c : Dev nD) (k : Fin 512) :
    (show Vec Ideal S1x512 .f32 from V m c main_v6) (ix2 0 k) = (show FVec Ideal S512 .f32 from m ((c : Thread nD τ).loc main_arg3)) (ix1 k) := by
  unfold V
  after_reads_at

theorem read5 (c : Dev nD) (t : Fin cfg0.N) (k : Fin 512) :
    (show Vec Ideal S1x512 .f32 from iblk m c 5 t) (ix2 0 k) = (show FVec Ideal S512 .f32 from m ((c : Thread nD τ).loc main_arg3)) (ix1 k) := by
  refine Eq.trans ?_ (host5 m c k)
  blk_point [iblk, idx t]

theorem host6 (c : Dev nD) (q : Fin 32) (k : Fin 512) :
    (show Vec Ideal S256x512 .f32 from V m c main_v7) (ix2 ⟨32 + q.val, by omega⟩ k) = (show FVec Ideal S32x512 .f32 from m ((c : Thread nD τ).loc main_arg4)) (ix2 q k) := by
  unfold V
  after_reads_at

theorem read6 (c : Dev nD) (t : Fin cfg0.N) (q : Fin 32) (k : Fin 512) :
    (show Vec Ideal S256x512 .f32 from iblk m c 6 t) (ix2 ⟨32 + q.val, by omega⟩ k) = (show FVec Ideal S32x512 .f32 from m ((c : Thread nD τ).loc main_arg4)) (ix2 q k) := by
  refine Eq.trans ?_ (host6 m c q k)
  blk_point [iblk, idx t]

theorem host6z (c : Dev nD) (q : Fin 32) (k : Fin 512) :
    (show Vec Ideal S256x512 .f32 from V m c main_v7) (ix2 ⟨q.val, by omega⟩ k) = (0 : EReal) := by
  unfold V
  after_reads_at
  exact InProjRef.fill

theorem read6z (c : Dev nD) (t : Fin cfg0.N) (q : Fin 32) (k : Fin 512) :
    (show Vec Ideal S256x512 .f32 from iblk m c 6 t) (ix2 ⟨q.val, by omega⟩ k) = (0 : EReal) := by
  refine Eq.trans ?_ (host6z m c q k)
  blk_point [iblk, idx t]

theorem host6y (c : Dev nD) (q : Fin 192) (k : Fin 512) :
    (show Vec Ideal S256x512 .f32 from V m c main_v7) (ix2 ⟨64 + q.val, by omega⟩ k) = (0 : EReal) := by
  unfold V
  after_reads_at
  rw [dif_neg (by omega)]; exact InProjRef.fill

theorem read6y (c : Dev nD) (t : Fin cfg0.N) (q : Fin 192) (k : Fin 512) :
    (show Vec Ideal S256x512 .f32 from iblk m c 6 t) (ix2 ⟨64 + q.val, by omega⟩ k) = (0 : EReal) := by
  refine Eq.trans ?_ (host6y m c q k)
  blk_point [iblk, idx t]

theorem host8 (c : Dev nD) (k : Fin 512) :
    (show Vec Ideal S1x512 .f32 from V m c main_v9) (ix2 0 k) = (show FVec Ideal S512 .f32 from m ((c : Thread nD τ).loc main_arg6)) (ix1 k) := by
  unfold V
  after_reads_at

theorem read8 (c : Dev nD) (t : Fin cfg0.N) (k : Fin 512) :
    (show Vec Ideal S1x512 .f32 from iblk m c 8 t) (ix2 0 k) = (show FVec Ideal S512 .f32 from m ((c : Thread nD τ).loc main_arg6)) (ix1 k) := by
  refine Eq.trans ?_ (host8 m c k)
  blk_point [iblk, idx t]

theorem host9 (c : Dev nD) (k : Fin 512) :
    (show Vec Ideal S1x512 .f32 from V m c main_v10) (ix2 0 k) = (show FVec Ideal S512 .f32 from m ((c : Thread nD τ).loc main_arg7)) (ix1 k) := by
  unfold V
  after_reads_at

theorem read9 (c : Dev nD) (t : Fin cfg0.N) (k : Fin 512) :
    (show Vec Ideal S1x512 .f32 from iblk m c 9 t) (ix2 0 k) = (show FVec Ideal S512 .f32 from m ((c : Thread nD τ).loc main_arg7)) (ix1 k) := by
  refine Eq.trans ?_ (host9 m c k)
  blk_point [iblk, idx t]

end Cert.MetaRecHost
-- ==== Proof.MetaRecStep.lean ====
/- One step of the reference's recurrence over the meta tokens, entry by entry. -/
module

public import proofs.«01_k».proof.Proof.Gen.Reference7Ideal.Run
public import proofs.«01_k».proof.Proof.InProj
public import Idealize.ShloMosaic.Lib.DynamicIndex

@[expose] public section

set_option maxRecDepth 16384

noncomputable section

open Idealize.ShloMosaic Idealize.ShloMosaic.TcCoe Idealize.SL.Sem

namespace Cert.MetaRecStep

open Cert.Reference7Ideal Cert.Reference7Ideal.Gen Cert.Reference7Ideal.Value

/-- The counter's row of an array of sixteen. -/
theorem row (X : FVec Ideal S16x8x64 .f32) (ctr : (⟨S_, .i32⟩ : BufTy).Contents (Elt Ideal)) (n : Fin 16) (hc : ctr = fun _ => BitVec.ofNat 32 n.val) (h : Fin 8) (d : Fin 64) :
    (shapeCast S8x64 (Host.dynamicSlice S1x8x64 X (fun k => (((![ctr, constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 : FVec Ideal S8x64 .f32) (ix2 h d)
      = X (ix3 n h d) := by
  subst hc
  have hoff : Shape.Slices S16x8x64 ![n.val, 0, 0] S1x8x64 := by
    refine ⟨rfl, fun a => ?_⟩
    match a with
    | 0 => exact Nat.add_le_of_le_sub (by decide) (Nat.le_of_lt_succ n.isLt)
    | 1 => exact Nat.le_refl _
    | 2 => exact Nat.le_refl _
  rw [Host.dynamicSlice_eq_extractStridedSlice S1x8x64 X _ ![n.val, 0, 0] sliceFits_S16x8x64_S1x8x64 hoff ?_]
  · pointwise []
  · intro a
    match a with
    | 0 => exact toInt_ofNat_of_lt (lt_trans n.isLt (by decide))
    | 1 => rfl
    | 2 => rfl

theorem state (V0 : Valuation τ sig (Elt Ideal)) (n : Fin 16) (hc : V0 (Proc.devRef .tc main_v52_5) = fun _ => BitVec.ofNat 32 n.val) (h : Fin 8) (i j : Fin 64) :
    (show FVec Ideal S8x64x64 .f32 from step_main_v52_6 V0) (ix3 h i j)
      = (show FVec Ideal S8x64x64 .f32 from V0 (Proc.devRef .tc main_v52_6)) (ix3 h i j) * (show FVec Ideal S16x8x64 .f32 from V0 (Proc.devRef .tc main_v52_4)) (ix3 n h j)
        + (∑ l : Fin 64, (show FVec Ideal S8x64x64 .f32 from V0 (Proc.devRef .tc main_v52_6)) (ix3 h i l) * -(show FVec Ideal S16x8x64 .f32 from V0 (Proc.devRef .tc main_v52_2)) (ix3 n h l))
          * ((show FVec Ideal S16x8x64 .f32 from V0 (Proc.devRef .tc main_v52_2)) (ix3 n h j) * (show FVec Ideal S16x8x64 .f32 from V0 (Proc.devRef .tc main_v52_3)) (ix3 n h j))
        + (show FVec Ideal S16x8x64 .f32 from V0 (Proc.devRef .tc main_v52_1)) (ix3 n h i) * (show FVec Ideal S16x8x64 .f32 from V0 (Proc.devRef .tc main_v52_0)) (ix3 n h j) := by
  have r2 := row (V0 (Proc.devRef .tc main_v52_2)) _ n hc
  have r0 := row (V0 (Proc.devRef .tc main_v52_0)) _ n hc
  have r1 := row (V0 (Proc.devRef .tc main_v52_1)) _ n hc
  have r3 := row (V0 (Proc.devRef .tc main_v52_3)) _ n hc
  have r4 := row (V0 (Proc.devRef .tc main_v52_4)) _ n hc
  unfold step_main_v52_6
  unfold res_main_while0b_v66
  generalize shapeCast S8x64 (Host.dynamicSlice S1x8x64 (V0 (Proc.devRef .tc main_v52_2)) (fun k => (((![V0 (Proc.devRef .tc main_v52_5), constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 = y2 at r2 ⊢
  generalize shapeCast S8x64 (Host.dynamicSlice S1x8x64 (V0 (Proc.devRef .tc main_v52_0)) (fun k => (((![V0 (Proc.devRef .tc main_v52_5), constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 = y0 at r0 ⊢
  generalize shapeCast S8x64 (Host.dynamicSlice S1x8x64 (V0 (Proc.devRef .tc main_v52_1)) (fun k => (((![V0 (Proc.devRef .tc main_v52_5), constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 = y1 at r1 ⊢
  generalize shapeCast S8x64 (Host.dynamicSlice S1x8x64 (V0 (Proc.devRef .tc main_v52_3)) (fun k => (((![V0 (Proc.devRef .tc main_v52_5), constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 = y3 at r3 ⊢
  generalize shapeCast S8x64 (Host.dynamicSlice S1x8x64 (V0 (Proc.devRef .tc main_v52_4)) (fun k => (((![V0 (Proc.devRef .tc main_v52_5), constantI S_ 32 0#32, constantI S_ 32 0#32] : Fin 3 → (⟨S_, .i32⟩ : BufTy).Contents (Elt Ideal))) k (Shape.Idx.first h_S_)).toInt) sliceFits_S16x8x64_S1x8x64) shapeCasts_S1x8x64_S8x64 = y4 at r4 ⊢
  pointwise [id]
  simp only [r0, r1, r2, r3, r4]

end Cert.MetaRecStep
-- ==== Proof.MetaRecPar.lean ====
/- The recurrence's coefficients as the meta tokens' projection and the layer's weights give them. -/
module

public import proofs.«01_k».proof.Proof.MetaRecToks
public import proofs.«01_k».proof.Proof.InProj

@[expose] public section

noncomputable section

open Idealize.ShloMosaic Idealize.ShloMosaic.TcCoe Idealize.SL.Sem

namespace Cert.MetaRec

/-- An entry by its numbers, zero outside the array. -/
def at2 {a b : ℕ} (x : FVec Ideal ⟨2, ![a, b]⟩ .f32) (i j : ℕ) : EReal := if h : i < a ∧ j < b then x (ix2 ⟨i, h.1⟩ ⟨j, h.2⟩) else 0

def at1 {a : ℕ} (x : FVec Ideal ⟨1, ![a]⟩ .f32) (i : ℕ) : EReal := if h : i < a then x (ix1 ⟨i, h⟩) else 0

theorem at2_mk {a b : ℕ} (x : FVec Ideal ⟨2, ![a, b]⟩ .f32) (i : Fin a) (j : Fin b) : at2 x i.val j.val = x (ix2 i j) := dif_pos ⟨i.isLt, j.isLt⟩

theorem at1_mk {a : ℕ} (x : FVec Ideal ⟨1, ![a]⟩ .f32) (i : Fin a) : at1 x i.val = x (ix1 i) := dif_pos i.isLt

variable (p : FVec Ideal ⟨2, ![16, 1696]⟩ .f32) (w0 : FVec Ideal ⟨1, ![512]⟩ .f32) (wu : FVec Ideal ⟨2, ![32, 512]⟩ .f32) (a0 : FVec Ideal ⟨1, ![512]⟩ .f32) (au : FVec Ideal ⟨2, ![32, 512]⟩ .f32) (kk ka : FVec Ideal ⟨1, ![512]⟩ .f32)

/-- The features, the decay's and the rate's logits, and the two gains. -/
def par : Par where
  X t c := (at2 p t c).toReal
  z t c := at1 w0 c + ∑ q : Fin 32, Ideal.tanh (at2 p t (1536 + q.val)) * at2 wu q.val c
  y t c := at1 a0 c + ∑ q : Fin 32, at2 p t (1568 + q.val) * at2 au q.val c
  kk c := at1 kk c
  ka c := (at1 ka c).toReal

/-- What the precondition says: the keys, the values and the second gain are real numbers. -/
structure Reals : Prop where
  kv : ∀ (l : Fin 16) (k : Fin 1024), ∃ r : ℝ, p (ix2 l ⟨512 + k.val, by omega⟩) = (r : EReal)
  gain : ∀ k : Fin 512, ∃ r : ℝ, ka (ix1 k) = (r : EReal)

variable {p ka}

theorem Reals.key (H : Reals p ka) (l : Fin 16) (k : Fin 512) : p (ix2 l ⟨512 + k.val, by omega⟩) = (((par p w0 wu a0 au kk ka).X l.val (512 + k.val) : ℝ) : EReal) := by
  have e : at2 p l.val (512 + k.val) = p (ix2 l ⟨512 + k.val, by omega⟩) := at2_mk p l ⟨512 + k.val, by omega⟩
  obtain ⟨r, hr⟩ := H.kv l ⟨k.val, by omega⟩
  show _ = ((EReal.toReal (at2 p l.val (512 + k.val)) : ℝ) : EReal)
  rw [e, hr, EReal.toReal_coe]

theorem Reals.value (H : Reals p ka) (l : Fin 16) (k : Fin 512) : p (ix2 l ⟨1024 + k.val, by omega⟩) = (((par p w0 wu a0 au kk ka).X l.val (1024 + k.val) : ℝ) : EReal) := by
  have e : at2 p l.val (1024 + k.val) = p (ix2 l ⟨1024 + k.val, by omega⟩) := at2_mk p l ⟨1024 + k.val, by omega⟩
  obtain ⟨r, hr⟩ := H.kv l ⟨512 + k.val, by omega⟩
  have hr' : p (ix2 l ⟨1024 + k.val, by omega⟩) = (r : EReal) := by
    rw [← hr]; congr 2; exact Fin.ext (by show 1024 + k.val = 512 + (512 + k.val); omega)
  show _ = ((EReal.toReal (at2 p l.val (1024 + k.val)) : ℝ) : EReal)
  rw [e, hr', EReal.toReal_coe]

theorem Reals.gain_eq (H : Reals p ka) (k : Fin 512) : ka (ix1 k) = (((par p w0 wu a0 au kk ka).ka k.val : ℝ) : EReal) := by
  obtain ⟨r, hr⟩ := H.gain k
  show _ = ((EReal.toReal (at1 ka k.val) : ℝ) : EReal)
  rw [at1_mk, hr, EReal.toReal_coe]

end Cert.MetaRec
-- ==== Proof.MetaRecEntry.lean ====
/- What the reference's recurrence starts from, entry by entry. -/
module

public import proofs.«01_k».proof.Proof.Gen.Reference7Ideal.Run
public import proofs.«01_k».proof.Proof.MetaRecPar
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.MetaRecEntry

open Cert.Reference7Ideal Cert.Reference7Ideal.Gen Cert.Reference7Ideal.Value

variable (m : (ℓ : Loc nD τ sig) → Buf (Elt Ideal) ℓ) (c : Dev nD)

/-- The channel of head `h` at place `d`. -/
def ch (h : Fin 8) (d : Fin 64) : Fin 512 := ⟨h.val * 64 + d.val, by omega⟩

/-- The features. -/
abbrev A0 : FVec Ideal S16x1696 .f32 := m ((c.tc : Thread nD τ).loc main_arg0)
abbrev A1 : FVec Ideal S512 .f32 := m ((c.tc : Thread nD τ).loc main_arg1)
abbrev A2 : FVec Ideal S32x512 .f32 := m ((c.tc : Thread nD τ).loc main_arg2)
abbrev A3 : FVec Ideal S512 .f32 := m ((c.tc : Thread nD τ).loc main_arg3)
abbrev A4 : FVec Ideal S32x512 .f32 := m ((c.tc : Thread nD τ).loc main_arg4)
abbrev A6 : FVec Ideal S512 .f32 := m ((c.tc : Thread nD τ).loc main_arg6)
abbrev A7 : FVec Ideal S512 .f32 := m ((c.tc : Thread nD τ).loc main_arg7)

/-- A logit of the decay, and of the rate. -/
def zl (l : Fin 16) (k : Fin 512) : EReal := A1 m c (ix1 k) + ∑ q : Fin 32, Ideal.tanh (A0 m c (ix2 l ⟨1536 + q.val, by omega⟩)) * A2 m c (ix2 q k)
def yl (l : Fin 16) (k : Fin 512) : EReal := A3 m c (ix1 k) + ∑ q : Fin 32, A0 m c (ix2 l ⟨1568 + q.val, by omega⟩) * A4 m c (ix2 q k)

theorem values (l : Fin 16) (h : Fin 8) (d : Fin 64) : (show FVec Ideal S16x8x64 .f32 from entryContents preI m c (Proc.devRef .tc main_v52_1)) (ix3 l h d)
    = A0 m c (ix2 l ⟨1024 + (h.val * 64 + d.val), by omega⟩) := by
  simp only [entryContents, afterL_cons, afterL_nil]
  after_reads_at
  pointwise [id]

theorem rates (l : Fin 16) (h : Fin 8) (d : Fin 64) : (show FVec Ideal S16x8x64 .f32 from entryContents preI m c (Proc.devRef .tc main_v52_3)) (ix3 l h d)
    = Ideal.logistic (yl m c l (ch h d)) := by
  simp only [entryContents, afterL_cons, afterL_nil]
  after_reads_at
  pointwise [id]
  rfl

theorem decays (l : Fin 16) (h : Fin 8) (d : Fin 64) : (show FVec Ideal S16x8x64 .f32 from entryContents preI m c (Proc.devRef .tc main_v52_4)) (ix3 l h d)
    = Ideal.exp (MetaRec.lwE (zl m c l (ch h d))) := by
  simp only [entryContents, afterL_cons, afterL_nil]
  after_reads_at
  pointwise [id]
  rw [if_neg (fun h => h rfl)]
  unfold MetaRec.lwE
  simp only [zero_sub]
  rfl

theorem dirs (l : Fin 16) (h : Fin 8) (d : Fin 64) : (show FVec Ideal S16x8x64 .f32 from entryContents preI m c (Proc.devRef .tc main_v52_2)) (ix3 l h d)
    = Ideal.div (A0 m c (ix2 l ⟨512 + (h.val * 64 + d.val), by omega⟩) * A6 m c (ix1 (ch h d)))
        (max (Ideal.sqrt (∑ e : Fin 64, (A0 m c (ix2 l ⟨512 + (h.val * 64 + e.val), by omega⟩) * A6 m c (ix1 (ch h e))) * (A0 m c (ix2 l ⟨512 + (h.val * 64 + e.val), by omega⟩) * A6 m c (ix1 (ch h e))))) (Ideal.ofBits .f32 0x2B8CBCCC#32)) := by
  simp only [entryContents, afterL_cons, afterL_nil]
  after_reads_at
  pointwise [id]
  rfl

theorem keys (l : Fin 16) (h : Fin 8) (d : Fin 64) : (show FVec Ideal S16x8x64 .f32 from entryContents preI m c (Proc.devRef .tc main_v52_0)) (ix3 l h d)
    = A0 m c (ix2 l ⟨512 + (h.val * 64 + d.val), by omega⟩) * (1 + (Ideal.logistic (yl m c l (ch h d)) - 1) * A7 m c (ix1 (ch h d))) := by
  simp only [entryContents, afterL_cons, afterL_nil]
  after_reads_at
  pointwise [id]
  rfl

theorem start (h : Fin 8) (i j : Fin 64) : (show FVec Ideal S8x64x64 .f32 from entryContents preI m c (Proc.devRef .tc main_v52_6)) (ix3 h i j) = 0 := by
  simp only [entryContents, afterL_cons, afterL_nil]
  after_reads_at
  pointwise [id]

end Cert.MetaRecEntry
-- ==== Proof.MetaRecRef.lean ====
/- The reference's recurrence over the meta tokens in real numbers: the state after every step, and the last one laid out. -/
module

public import proofs.«01_k».proof.Proof.MetaRecStep
public import proofs.«01_k».proof.Proof.MetaRecEntry

@[expose] public section

set_option maxRecDepth 16384

noncomputable section

open Idealize.ShloMosaic Idealize.ShloMosaic.TcCoe Idealize.SL.Sem Idealize.ShloMosaic.StableHlo

namespace Cert.MetaRecRef

open Cert.Reference7Ideal Cert.Reference7Ideal.Gen Cert.Reference7Ideal.Value Cert.MetaRecEntry

variable (m : (ℓ : Loc nD τ sig) → Buf (Elt Ideal) ℓ) (c : Dev nD)

/-- The coefficients of the launch's arguments. -/
abbrev Q : MetaRec.Par := MetaRec.par (A0 m c) (A1 m c) (A2 m c) (A3 m c) (A4 m c) (A6 m c) (A7 m c)

variable {m c}
variable (H : MetaRec.Reals (A0 m c) (A7 m c))

theorem z_eq (l : Fin 16) (k : Fin 512) : (Q m c).z l.val k.val = zl m c l k := by
  unfold zl
  show MetaRec.at1 (A1 m c) k.val + ∑ q : Fin 32, Ideal.tanh (MetaRec.at2 (A0 m c) l.val (1536 + q.val)) * MetaRec.at2 (A2 m c) q.val k.val = _
  rw [MetaRec.at1_mk]
  refine congrArg (_ + ·) (Finset.sum_congr rfl fun q _ => ?_)
  rw [MetaRec.at2_mk]
  exact congrArg (fun x => Ideal.tanh x * _) (MetaRec.at2_mk (A0 m c) l ⟨1536 + q.val, by omega⟩)

theorem y_eq (l : Fin 16) (k : Fin 512) : (Q m c).y l.val k.val = yl m c l k := by
  unfold yl
  show MetaRec.at1 (A3 m c) k.val + ∑ q : Fin 32, MetaRec.at2 (A0 m c) l.val (1568 + q.val) * MetaRec.at2 (A4 m c) q.val k.val = _
  rw [MetaRec.at1_mk]
  refine congrArg (_ + ·) (Finset.sum_congr rfl fun q _ => ?_)
  rw [MetaRec.at2_mk]
  exact congrArg (fun x => x * _) (MetaRec.at2_mk (A0 m c) l ⟨1568 + q.val, by omega⟩)

theorem a_eq (l : Fin 16) (k : Fin 512) : Ideal.logistic (yl m c l k) = (((Q m c).a l.val k.val : ℝ) : EReal) := by
  unfold MetaRec.Par.a
  rw [y_eq, MetaRec.a_real]

theorem w_eq (l : Fin 16) (k : Fin 512) : Ideal.exp (MetaRec.lwE (zl m c l k)) = ((Real.exp ((Q m c).lw l.val k.val) : ℝ) : EReal) := by
  unfold MetaRec.Par.lw
  rw [z_eq, MetaRec.lw_real, Ideal.exp_coe]

include H

theorem kx_eq (l : Fin 16) (k : Fin 512) : A0 m c (ix2 l ⟨512 + k.val, by omega⟩) * A6 m c (ix1 k) = (Q m c).kx l.val k.val := by
  unfold MetaRec.Par.kx
  rw [H.key (A1 m c) (A2 m c) (A3 m c) (A4 m c) (A6 m c)]
  exact congrArg (_ * ·) (MetaRec.at1_mk (A6 m c) k).symm

theorem keys_eq (l : Fin 16) (h : Fin 8) (d : Fin 64) : (show FVec Ideal S16x8x64 .f32 from entryContents preI m c (Proc.devRef .tc main_v52_0)) (ix3 l h d)
    = (((Q m c).k l.val (ch h d).val : ℝ) : EReal) := by
  rw [keys, a_eq, H.gain_eq (A1 m c) (A2 m c) (A3 m c) (A4 m c) (A6 m c)]
  unfold MetaRec.Par.k
  rw [EReal.coe_mul, EReal.coe_add, EReal.coe_mul, EReal.coe_sub]
  exact congrArg (· * _) (H.key (A1 m c) (A2 m c) (A3 m c) (A4 m c) (A6 m c) l (ch h d))

theorem values_eq (l : Fin 16) (h : Fin 8) (d : Fin 64) : (show FVec Ideal S16x8x64 .f32 from entryContents preI m c (Proc.devRef .tc main_v52_1)) (ix3 l h d)
    = (((Q m c).v l.val (ch h d).val : ℝ) : EReal) := by
  rw [values]
  exact H.value (A1 m c) (A2 m c) (A3 m c) (A4 m c) (A6 m c) l (ch h d)

theorem dirs_eq (l : Fin 16) (h : Fin 8) (d : Fin 64) : (show FVec Ideal S16x8x64 .f32 from entryContents preI m c (Proc.devRef .tc main_v52_2)) (ix3 l h d)
    = (((Q m c).kn l.val (ch h d).val : ℝ) : EReal) := by
  rw [dirs, MetaRec.floor_word]
  have e : ∀ d : Fin 64, A0 m c (ix2 l ⟨512 + (h.val * 64 + d.val), by omega⟩) * A6 m c (ix1 (ch h d)) = (Q m c).kx l.val (64 * ((ch h d).val / 64) + d.val) := fun d => by
    have hc : 64 * ((ch h d).val / 64) + d.val = (ch h d).val := by show 64 * ((h.val * 64 + d.val) / 64) + d.val = h.val * 64 + d.val; omega
    rw [hc]; exact kx_eq H l (ch h d)
  have f : ∀ e : Fin 64, (ch h e).val / 64 = (ch h d).val / 64 := fun e => by show (h.val * 64 + e.val) / 64 = (h.val * 64 + d.val) / 64; omega
  simp only [e]
  unfold MetaRec.Par.kn
  have hd : (Q m c).kx l.val (ch h d).val = (Q m c).kx l.val (64 * ((ch h d).val / 64) + d.val) := by
    congr 1; show h.val * 64 + d.val = 64 * ((h.val * 64 + d.val) / 64) + d.val; omega
  rw [hd]
  simp only [f]
  exact (MetaRec.norm_key _ _ ⟨d, rfl⟩).2

/-- Before step `n` the arrays are as they were, the counter is `n`, and the state is the recurrence's. -/
structure Inv (V : Valuation τ sig (Elt Ideal)) (n : ℕ) : Prop where
  k : V (Proc.devRef .tc main_v52_0) = entryContents preI m c (Proc.devRef .tc main_v52_0)
  v : V (Proc.devRef .tc main_v52_1) = entryContents preI m c (Proc.devRef .tc main_v52_1)
  d : V (Proc.devRef .tc main_v52_2) = entryContents preI m c (Proc.devRef .tc main_v52_2)
  a : V (Proc.devRef .tc main_v52_3) = entryContents preI m c (Proc.devRef .tc main_v52_3)
  w : V (Proc.devRef .tc main_v52_4) = entryContents preI m c (Proc.devRef .tc main_v52_4)
  i : V (Proc.devRef .tc main_v52_5) = fun _ => BitVec.ofNat 32 n
  s : ∀ (h : Fin 8) (i j : Fin 64), (show FVec Ideal S8x64x64 .f32 from V (Proc.devRef .tc main_v52_6)) (ix3 h i j)
    = ((((Q m c).toks (h.val / 2)).st (h.val % 2) n i.val j.val : ℝ) : EReal)

theorem inv : ∀ n ≤ 16, Inv (m := m) (c := c) (STEP^[n] (entryContents preI m c)) n
  | 0, _ => ⟨rfl, rfl, rfl, rfl, rfl, ctr_entry m c, fun h i j => (start m c h i j).trans rfl⟩
  | n + 1, hn => by
    have I := inv n (by omega)
    rw [Function.iterate_succ_apply']
    refine ⟨(STEP_main_v52_0 _).trans I.k, (STEP_main_v52_1 _).trans I.v, (STEP_main_v52_2 _).trans I.d, (STEP_main_v52_3 _).trans I.a, (STEP_main_v52_4 _).trans I.w, ?_, fun h i j => ?_⟩
    · rw [STEP_main_v52_5]
      unfold step_main_v52_5
      rw [I.i]
      funext i
      show BitVec.ofNat 32 n + 1#32 = BitVec.ofNat 32 (n + 1)
      rw [BitVec.ofNat_add]
    · rw [STEP_main_v52_6]
      refine (MetaRecStep.state _ ⟨n, by omega⟩ I.i h i j).trans ?_
      rw [I.k, I.v, I.d, I.a, I.w]
      have cc : ∀ d : Fin 64, (ch h d).val = 128 * (h.val / 2) + (64 * (h.val % 2) + d.val) := fun d => by show h.val * 64 + d.val = _; omega
      simp only [I.s, keys_eq H, values_eq H, dirs_eq H, rates m c, decays m c, a_eq, w_eq, ← EReal.coe_neg, ← EReal.coe_mul, ← MetaRec.sum_coe, ← EReal.coe_add]
      rw [MetaRecMath.Toks.st, Finset.sum_range]
      simp only [cc]
      rfl

/-- The last state laid out, keys by values, each head in its own quarter of a pair's block. -/
theorem final (q : Fin 4) (i j : Fin 128) : (show FVec Ideal S1x4x128x128 .f32 from out_main_v63 (STEP^[16] (entryContents preI m c))) (ix4 0 q i j)
    = (((if i.val / 64 = j.val / 64 then ((Q m c).toks q.val).st (i.val / 64) 16 (j.val % 64) (i.val % 64) else 0 : ℝ)) : EReal) := by
  have I := (inv H 16 le_rfl).s
  generalize STEP^[16] (entryContents preI m c) = V at I ⊢
  unfold out_main_v63
  pointwise []
  by_cases hi : i.val < 64 <;> by_cases hj : j.val < 64
  · refine (dif_pos hi).trans ((dif_pos hj).trans ((I ⟨q.val * 2, by omega⟩ ⟨j.val, hj⟩ ⟨i.val, hi⟩).trans ?_))
    rw [if_pos (by omega)]
    simp only [show q.val * 2 / 2 = q.val by omega, show q.val * 2 % 2 = 0 by omega, show i.val / 64 = 0 by omega, show j.val % 64 = j.val by omega, show i.val % 64 = i.val by omega]
  · refine (dif_pos hi).trans ((dif_neg hj).trans ?_)
    rw [if_neg (by omega), EReal.coe_zero]
  · refine (dif_neg hi).trans ((dif_pos hj).trans ?_)
    rw [if_neg (by omega), EReal.coe_zero]
  · refine (dif_neg hi).trans ((dif_neg hj).trans ((I ⟨q.val * 2 + 1, by omega⟩ ⟨j.val - 64, by omega⟩ ⟨i.val - 64, by omega⟩).trans ?_))
    rw [if_pos (by omega)]
    simp only [show (q.val * 2 + 1) / 2 = q.val by omega, show (q.val * 2 + 1) % 2 = 1 by omega, show i.val / 64 = 1 by omega, show j.val % 64 = j.val - 64 by omega, show i.val % 64 = i.val - 64 by omega]

end Cert.MetaRecRef
-- ==== Proof.MetaRec.lean ====
/- The recurrence's kernel over the meta tokens leaves the last state its reference does. -/
module

public import proofs.«01_k».proof.Proof.MetaRecState
public import proofs.«01_k».proof.Proof.MetaRecHost
public import proofs.«01_k».proof.Proof.MetaRecRef

@[expose] public section

set_option maxRecDepth 16384

noncomputable section

open Idealize.ShloMosaic Idealize.ShloMosaic.TcCoe Idealize.SL.Sem
open Idealize.ShloMosaic.Pipeline (Dat)

namespace Cert.MetaRec

open Cert.Kernel7Ideal Cert.Kernel7Ideal.Gen Cert.MetaRecHost

variable (m : (ℓ : Loc nD τ sig) → Buf (Elt Ideal) ℓ) (c : Dev nD)

abbrev B0 : FVec Ideal S16x1696 .f32 := m ((c : Thread nD τ).loc main_arg0)
abbrev B1 : FVec Ideal S512 .f32 := m ((c : Thread nD τ).loc main_arg1)
abbrev B2 : FVec Ideal S32x512 .f32 := m ((c : Thread nD τ).loc main_arg2)
abbrev B3 : FVec Ideal S512 .f32 := m ((c : Thread nD τ).loc main_arg3)
abbrev B4 : FVec Ideal S32x512 .f32 := m ((c : Thread nD τ).loc main_arg4)
abbrev B6 : FVec Ideal S512 .f32 := m ((c : Thread nD τ).loc main_arg6)
abbrev B7 : FVec Ideal S512 .f32 := m ((c : Thread nD τ).loc main_arg7)

/-- The coefficients the arguments give the sixteen meta tokens. -/
abbrev K : Par := par (B0 m c) (B1 m c) (B2 m c) (B3 m c) (B4 m c) (B6 m c) (B7 m c)

/-- The kernel's rows: 48 rows of zeros, then the meta tokens. -/
abbrev K64 : Par := (K m c).late (fun k => at1 (B1 m c) k) (fun k => at1 (B3 m c) k)

/-- A sum that is zero outside a window of 32. -/
theorem sum_window (o : ℕ) (ho : o + 32 ≤ 256) (f : Fin 256 → EReal) (hz : ∀ q : Fin 256, (q.val < o ∨ o + 32 ≤ q.val) → f q = 0) :
    ∑ q, f q = ∑ q : Fin 32, f ⟨o + q.val, by omega⟩ := by
  symm
  refine Finset.sum_of_injOn (fun q : Fin 32 => (⟨o + q.val, by omega⟩ : Fin 256)) ?_ (fun _ _ => Finset.mem_coe.2 (Finset.mem_univ _)) ?_ fun _ _ => rfl
  · intro a _ b _ hab
    have := congrArg Fin.val hab
    exact Fin.ext (by simpa using this)
  · intro q _ hq
    refine hz q ?_
    by_contra hn
    refine hq ⟨⟨q.val - o, by omega⟩, Finset.mem_coe.2 (Finset.mem_univ _), Fin.ext ?_⟩
    show o + (q.val - o) = q.val
    omega

variable (H : Reals (B0 m c) (B7 m c)) (t : Fin cfg0.N)

include H in
theorem hyp0 (l : Fin 64) (k : Fin 512) : (show Vec Ideal S1x128x1536 .f32 from iblk m c 0 t) (ix3 0 ⟨64 + l.val, by omega⟩ ⟨512 + k.val, by omega⟩) = (((K64 m c).X l.val (512 + k.val) : ℝ) : EReal)
    ∧ (show Vec Ideal S1x128x1536 .f32 from iblk m c 0 t) (ix3 0 ⟨64 + l.val, by omega⟩ ⟨1024 + k.val, by omega⟩) = (((K64 m c).X l.val (1024 + k.val) : ℝ) : EReal) := by
  by_cases h : l.val < 48
  · have e : ∀ j, (K64 m c).X l.val j = 0 := fun j => if_pos h
    rw [e, e, EReal.coe_zero]
    exact ⟨read0z m c t ⟨64 + l.val, by omega⟩ _, read0z m c t ⟨64 + l.val, by omega⟩ _⟩
  · obtain ⟨n, rfl⟩ : ∃ n : Fin 16, l = ⟨48 + n.val, Nat.add_lt_add_left n.isLt 48⟩ := ⟨⟨l.val - 48, by omega⟩, Fin.ext (by show l.val = 48 + (l.val - 48); omega)⟩
    have e : ∀ j, (K64 m c).X (48 + n.val) j = (K m c).X n.val j := fun j => by
      show (if 48 + n.val < 48 then 0 else (K m c).X (48 + n.val - 48) j) = _
      rw [if_neg (by omega), Nat.add_sub_cancel_left]
    have r : (⟨64 + (48 + n.val), by omega⟩ : Fin 128) = ⟨112 + n.val, by omega⟩ := Fin.ext (by show 64 + (48 + n.val) = 112 + n.val; omega)
    show (show Vec Ideal S1x128x1536 .f32 from iblk m c 0 t) (ix3 0 ⟨64 + (48 + n.val), by omega⟩ _) = (((K64 m c).X (48 + n.val) _ : ℝ) : EReal) ∧ (show Vec Ideal S1x128x1536 .f32 from iblk m c 0 t) (ix3 0 ⟨64 + (48 + n.val), by omega⟩ _) = (((K64 m c).X (48 + n.val) _ : ℝ) : EReal)
    rw [e, e, r]
    exact ⟨(read0 m c t n ⟨512 + k.val, by omega⟩).trans (H.key _ _ _ _ _ n k), (read0 m c t n ⟨1024 + k.val, by omega⟩).trans (H.value _ _ _ _ _ n k)⟩

/-- The low-rank columns a row of the kernel reads. -/
theorem low (n : Fin 16) (q : Fin 160) : (show Vec Ideal S1x128x256 .f32 from iblk m c 1 t) (ix3 0 ⟨64 + (48 + n.val), by omega⟩ ⟨q.val, by omega⟩) = at2 (B0 m c) n.val (1536 + q.val) := by
  have r : (⟨64 + (48 + n.val), by omega⟩ : Fin 128) = ⟨112 + n.val, by omega⟩ := Fin.ext (by show 64 + (48 + n.val) = 112 + n.val; omega)
  rw [r]
  exact (read1 m c t n q).trans (at2_mk (B0 m c) n ⟨1536 + q.val, by omega⟩).symm

theorem hypz (l : Fin 64) (k : Fin 512) : (show Vec Ideal S1x512 .f32 from iblk m c 3 t) (ix2 0 k)
      + ∑ q : Fin 256, Ideal.tanh ((show Vec Ideal S1x128x256 .f32 from iblk m c 1 t) (ix3 0 ⟨64 + l.val, by omega⟩ q)) * (show Vec Ideal S256x512 .f32 from iblk m c 4 t) (ix2 q k)
    = (K64 m c).z l.val k.val := by
  rw [show (show Vec Ideal S1x512 .f32 from iblk m c 3 t) (ix2 0 k) = at1 (B1 m c) k.val from (read3 m c t k).trans (at1_mk (B1 m c) k).symm]
  by_cases h : l.val < 48
  · have e : (K64 m c).z l.val k.val = at1 (B1 m c) k.val := if_pos h
    rw [e]
    have z : ∀ q : Fin 256, Ideal.tanh ((show Vec Ideal S1x128x256 .f32 from iblk m c 1 t) (ix3 0 ⟨64 + l.val, by omega⟩ q)) * (show Vec Ideal S256x512 .f32 from iblk m c 4 t) (ix2 q k) = 0 := fun q => by
      rw [show (show Vec Ideal S1x128x256 .f32 from iblk m c 1 t) (ix3 0 ⟨64 + l.val, by omega⟩ q) = 0 from read1z m c t ⟨64 + l.val, by omega⟩ q,
        show Ideal.tanh 0 = 0 by rw [← EReal.coe_zero, Ideal.tanh_coe, Real.tanh_zero], zero_mul]
    rw [Finset.sum_eq_zero fun q _ => z q, add_zero]
  · obtain ⟨n, rfl⟩ : ∃ n : Fin 16, l = ⟨48 + n.val, Nat.add_lt_add_left n.isLt 48⟩ := ⟨⟨l.val - 48, by omega⟩, Fin.ext (by show l.val = 48 + (l.val - 48); omega)⟩
    have e : (K64 m c).z (48 + n.val) k.val = (K m c).z n.val k.val := by
      show (if 48 + n.val < 48 then _ else (K m c).z (48 + n.val - 48) k.val) = _
      rw [if_neg (by omega), Nat.add_sub_cancel_left]
    refine Eq.trans ?_ e.symm
    refine congrArg (at1 (B1 m c) k.val + ·) ?_
    refine (sum_window 0 (by omega) _ fun q hq => ?_).trans (Finset.sum_congr rfl fun q _ => ?_)
    · have w : (show Vec Ideal S256x512 .f32 from iblk m c 4 t) (ix2 q k) = 0 := by
        obtain ⟨q', rfl⟩ : ∃ q' : Fin 224, q = ⟨32 + q'.val, Nat.add_lt_add_left q'.isLt 32⟩ := ⟨⟨q.val - 32, by omega⟩, Fin.ext (by show q.val = 32 + (q.val - 32); omega)⟩
        exact read4z m c t q' k
      rw [w, mul_zero]
    · have r : (⟨0 + q.val, by omega⟩ : Fin 256) = ⟨q.val, by omega⟩ := Fin.ext (Nat.zero_add _)
      rw [r]
      have u := low m c t n ⟨q.val, by omega⟩
      have w : (show Vec Ideal S256x512 .f32 from iblk m c 4 t) (ix2 ⟨q.val, by omega⟩ k) = at2 (B2 m c) q.val k.val := (read4 m c t q k).trans (at2_mk (B2 m c) q k).symm
      rw [u, w]

theorem hypy (l : Fin 64) (k : Fin 512) : (show Vec Ideal S1x512 .f32 from iblk m c 5 t) (ix2 0 k)
      + ∑ q : Fin 256, (show Vec Ideal S1x128x256 .f32 from iblk m c 1 t) (ix3 0 ⟨64 + l.val, by omega⟩ q) * (show Vec Ideal S256x512 .f32 from iblk m c 6 t) (ix2 q k)
    = (K64 m c).y l.val k.val := by
  rw [show (show Vec Ideal S1x512 .f32 from iblk m c 5 t) (ix2 0 k) = at1 (B3 m c) k.val from (read5 m c t k).trans (at1_mk (B3 m c) k).symm]
  by_cases h : l.val < 48
  · have e : (K64 m c).y l.val k.val = at1 (B3 m c) k.val := if_pos h
    rw [e]
    have z : ∀ q : Fin 256, (show Vec Ideal S1x128x256 .f32 from iblk m c 1 t) (ix3 0 ⟨64 + l.val, by omega⟩ q) * (show Vec Ideal S256x512 .f32 from iblk m c 6 t) (ix2 q k) = 0 := fun q => by
      rw [show (show Vec Ideal S1x128x256 .f32 from iblk m c 1 t) (ix3 0 ⟨64 + l.val, by omega⟩ q) = 0 from read1z m c t ⟨64 + l.val, by omega⟩ q, zero_mul]
    rw [Finset.sum_eq_zero fun q _ => z q, add_zero]
  · obtain ⟨n, rfl⟩ : ∃ n : Fin 16, l = ⟨48 + n.val, Nat.add_lt_add_left n.isLt 48⟩ := ⟨⟨l.val - 48, by omega⟩, Fin.ext (by show l.val = 48 + (l.val - 48); omega)⟩
    have e : (K64 m c).y (48 + n.val) k.val = (K m c).y n.val k.val := by
      show (if 48 + n.val < 48 then _ else (K m c).y (48 + n.val - 48) k.val) = _
      rw [if_neg (by omega), Nat.add_sub_cancel_left]
    refine Eq.trans ?_ e.symm
    refine congrArg (at1 (B3 m c) k.val + ·) ?_
    refine (sum_window 32 (by omega) _ fun q hq => ?_).trans (Finset.sum_congr rfl fun q _ => ?_)
    · have w : (show Vec Ideal S256x512 .f32 from iblk m c 6 t) (ix2 q k) = 0 := by
        by_cases hl : q.val < 32
        · exact read6z m c t ⟨q.val, hl⟩ k
        · obtain ⟨q', rfl⟩ : ∃ q' : Fin 192, q = ⟨64 + q'.val, Nat.add_lt_add_left q'.isLt 64⟩ := ⟨⟨q.val - 64, by omega⟩, Fin.ext (by show q.val = 64 + (q.val - 64); omega)⟩
          exact read6y m c t q' k
      rw [w, mul_zero]
    · have u := low m c t n ⟨32 + q.val, by omega⟩
      have w : (show Vec Ideal S256x512 .f32 from iblk m c 6 t) (ix2 ⟨32 + q.val, by omega⟩ k) = at2 (B4 m c) q.val k.val := (read6 m c t q k).trans (at2_mk (B4 m c) q k).symm
      rw [u, w, show 1536 + (32 + q.val) = 1568 + q.val by omega]

theorem hyp8 (k : Fin 512) : (show Vec Ideal S1x512 .f32 from iblk m c 8 t) (ix2 0 k) = (K64 m c).kk k.val :=
  (read8 m c t k).trans (at1_mk (B6 m c) k).symm

include H in
theorem hyp9 (k : Fin 512) : (show Vec Ideal S1x512 .f32 from iblk m c 9 t) (ix2 0 k) = (((K64 m c).ka k.val : ℝ) : EReal) :=
  (read9 m c t k).trans (H.gain_eq (B1 m c) (B2 m c) (B3 m c) (B4 m c) (B6 m c) k)

theorem pay2 (v : Vec Ideal S4x128x128 .f32) (q : Fin 4) (i j : Fin 128) : k0_pay2 (F := Ideal) v (ix4 0 q i j) = v (ix3 q i j) := by
  pointwise [k0_pay2]

/-- A block of the kernel's rows is the recurrence's last state over the meta tokens. -/
theorem blk_late (q i j : ℕ) : blkR ((K64 m c).toks q) i j = if i / 64 = j / 64 then ((K m c).toks q).st (i / 64) 16 (j % 64) (i % 64) else 0 := by
  unfold blkR
  exact congrArg (fun x => if i / 64 = j / 64 then x else 0) ((K m c).late_st _ _ q (i / 64) 16 (j % 64) (i % 64))

include H in
theorem out (q : Fin 4) (i j : Fin 128) : (outsAt0 m c t).2 (ix4 0 q i j)
    = (((if i.val / 64 = j.val / 64 then ((K m c).toks q.val).st (i.val / 64) 16 (j.val % 64) (i.val % 64) else 0 : ℝ)) : EReal) := by
  rw [← blk_late]
  have z0 : ∀ (l : Fin 64) (k : Fin 1536), (show Vec Ideal S1x128x1536 .f32 from iblk m c 0 t) (ix3 0 ⟨l.val, by omega⟩ k) = (0 : EReal) := fun l k => read0z m c t ⟨l.val, by omega⟩ k
  have e : (outsAt0 m c t).2 = k0_pay2 (F := Ideal) (kernelRun0_A.sl.v1363 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_8 t) (hs0_8 t) (ms0_9 t) (hs0_9 t) scM0_0 scM0_1 scM0_2 scM0_3 scM0_4 scM0_5 scM0_6 (iblk m c 0 t) (iblk m c 1 t) (iblk m c 2 t) (iblk m c 3 t) (iblk m c 4 t) (iblk m c 5 t) (iblk m c 6 t) (iblk m c 8 t) (iblk m c 9 t)) := by
    unfold outsAt0
    frame_out
  rw [e, pay2]
  match q with
  | 0 => exact f0 _ _ _ _ _ _ _ _ _ _ _ _ _ _ _ _ _ _ _ _ _ _ _ _ _ _ _ _ _ _ _ _ _ _ _ (K64 m c) (hyp0 m c H t) (hypz m c t) (hypy m c t) (hyp8 m c t) (hyp9 m c H t) z0 (read2 m c t) i j
  | 1 => exact f1 _ _ _ _ _ _ _ _ _ _ _ _ _ _ _ _ _ _ _ _ _ _ _ _ _ _ _ _ _ _ _ _ _ _ _ (K64 m c) (hyp0 m c H t) (hypz m c t) (hypy m c t) (hyp8 m c t) (hyp9 m c H t) z0 (read2 m c t) i j
  | 2 => exact f2 _ _ _ _ _ _ _ _ _ _ _ _ _ _ _ _ _ _ _ _ _ _ _ _ _ _ _ _ _ _ _ _ _ _ _ (K64 m c) (hyp0 m c H t) (hypz m c t) (hypy m c t) (hyp8 m c t) (hyp9 m c H t) z0 (read2 m c t) i j
  | 3 => exact f3 _ _ _ _ _ _ _ _ _ _ _ _ _ _ _ _ _ _ _ _ _ _ _ _ _ _ _ _ _ _ _ _ _ _ _ (K64 m c) (hyp0 m c H t) (hypz m c t) (hypy m c t) (hyp8 m c t) (hyp9 m c H t) z0 (read2 m c t) i j

theorem idx14 : ∀ t : Fin cfg0.N, win0_14.index t = ![0, 0, 0, 0] :=
  (by decide +kernel : ∀ t : Fin grid0.N, _)

include H in
/-- The array of states after the kernel, against any that is the recurrence's. -/
theorem final (R : FVec Ideal S1x4x128x128 .f32)
    (hR : ∀ (q : Fin 4) (i j : Fin 128), R (ix4 0 q i j) = (((if i.val / 64 = j.val / 64 then ((K m c).toks q.val).st (i.val / 64) 16 (j.val % 64) (i.val % 64) else 0 : ℝ)) : EReal)) :
    (dats m 0 c).arrAt 14 (cfgs 0).N = R := by
  refine (dats m 0 c).arrAt_eq_of_covers 14 _ (by decide +kernel) fun t _ y => ?_
  blk_simp
  rw [after0_14]
  idx_vars y
  have e : (((cfg0.win 14).blk t).view.emb (ix4 y0 y1 y2 y3 : S1x4x128x128.Idx)) = (ix4 y0 y1 y2 y3 : S1x4x128x128.Idx) := by
    blk_ext [idx14 t]
  refine Eq.trans ?_ (congrArg R e).symm
  have z : y0 = 0 := Subsingleton.elim _ _
  subst z
  exact (out m c H t y1 y2 y3).trans (hR y1 y2 y3).symm

end Cert.MetaRec
-- ==== Proof.MetaRecPre.lean ====
/- What the recurrence's precondition says of its arguments: the keys, the values and the second gain are real numbers. -/
module

public import proofs.«01_k».proof.Pre_finite
public import proofs.«01_k».proof.Proof.MetaRecPar
public import Idealize.ShloMosaic.Lib.ReduceAll

@[expose] public section

set_option maxRecDepth 16384

noncomputable section

open Idealize.ShloMosaic Idealize.ShloMosaic.TcCoe Idealize.SL.Sem

namespace Cert.Pre_finite

instance facts : Facts where
  slices_S16x1696_S16x1024_0_512 := by decide
  bcast_S_S16x1024 := by decide
  reducesTo_S16x1024_S_d0_1 := by decide
  h_S_ := by decide
  bcast_S_S512 := by decide
  reducesTo_S512_S_d0 := by decide

/-- A number whose absolute value is below infinity is real. -/
theorem real_of_lt (x : EReal) (h : FloatOps.cmpf (F := Ideal) (φ := .f32) .olt (FloatOps.absf (F := Ideal) (φ := .f32) x) (Ideal.ofBits .f32 0x7F800000#32) = 1#1) : ∃ r : ℝ, x = (r : EReal) := by
  have top : Ideal.ofBits .f32 0x7F800000#32 = ⊤ := by simp [Ideal.ofBits, Ideal.ieee]
  rw [top] at h
  have hlt : max x (-x) < ⊤ := by
    by_contra hn
    have : FloatOps.cmpf (F := Ideal) (φ := .f32) .olt (FloatOps.absf (F := Ideal) (φ := .f32) x) (⊤ : EReal) = 0#1 := by
      show BitVec.ofBool (decide (max x (-x) < ⊤)) = 0#1
      rw [decide_eq_false hn]; rfl
    rw [this] at h
    exact absurd h (by decide)
  induction x with
  | bot => simp at hlt
  | top => simp at hlt
  | coe r => exact ⟨r, rfl⟩

theorem of_fn (x0 : FVec Ideal S16x1696 .f32) (x1 : FVec Ideal S512 .f32) (x2 : FVec Ideal S32x512 .f32) (x3 : FVec Ideal S512 .f32) (x4 : FVec Ideal S32x512 .f32) (x5 : FVec Ideal S96x512 .f32) (x6 x7 : FVec Ideal S512 .f32) (x8 : FVec Ideal S8x64 .f32) (x9 x10 : FVec Ideal S512 .f32) (j : S_.Idx)
    (h : fn (F := Ideal) x0 x1 x2 x3 x4 x5 x6 x7 x8 x9 x10 j = 1#1) : MetaRec.Reals x0 x7 := by
  unfold fn at h
  dsimp only at h
  have h' := IntOp.andi_eq_one.1 h
  refine ⟨fun l k => ?_, fun k => ?_⟩
  · refine real_of_lt _ ?_
    have e := Host.reduce_andi_all _ _ _ _ j h'.1 (ix2 l k)
    refine Eq.trans ?_ e
    pointwise []
  · refine real_of_lt _ ?_
    have e := Host.reduce_andi_all _ _ _ _ j h'.2 (ix1 k)
    refine Eq.trans ?_ e
    pointwise []

end Cert.Pre_finite
-- ==== Proof.Ffn1Ref.lean ====
/- What the first feed-forward's reference computes, token by token. -/
module

public import proofs.«01_k».proof.Proof.Gen.Reference2Ideal.Read
public import proofs.«01_k».proof.Proof.FfnRow

@[expose] public section

set_option maxRecDepth 16384

noncomputable section

open Idealize.ShloMosaic Idealize.ShloMosaic.TcCoe Idealize.SL.Sem
open Idealize.ShloMosaic.Pipeline (Dat)

namespace Cert.Ffn1Ref

open Cert.Reference2Ideal Cert.Reference2Ideal.Read

variable (x0 : FVec Ideal S8x4096x1024 .f32) (x1 : FVec Ideal S1x1024 .f32) (x2 x3 : FVec Ideal S1x1024x2816 .f32) (x4 : FVec Ideal S1x2816x1024 .f32)

/-- The normed features. -/
theorem norm (b : Fin 8) (l : Fin 4096) (k : Fin 1024) : val_main_v13 (F := Ideal) x0 x1 (ix3 b l k)
    = FfnRow.norm (fun k => x0 (ix3 b l k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

/-- The gate projection. -/
theorem gate (b : Fin 8) (l : Fin 4096) (f : Fin 2816) : val_main_v17 (F := Ideal) x0 x1 x2 (ix3 b l f)
    = FfnRow.proj (FfnRow.norm (fun k => x0 (ix3 b l k)) (fun k => x1 (ix2 0 k))) (fun k => x2 (ix3 0 k f)) := by
  pointwise [val_main_v17, val_main_v14]
  simp only [norm, FfnRow.proj]

/-- The up projection. -/
theorem up (b : Fin 8) (l : Fin 4096) (f : Fin 2816) : val_main_v19 (F := Ideal) x0 x1 x3 (ix3 b l f)
    = FfnRow.proj (FfnRow.norm (fun k => x0 (ix3 b l k)) (fun k => x1 (ix2 0 k))) (fun k => x3 (ix3 0 k f)) := by
  pointwise [val_main_v19, val_main_v15]
  simp only [norm, FfnRow.proj]

/-- The hidden units. -/
theorem hidden (b : Fin 8) (l : Fin 4096) (f : Fin 2816) : val_main_v20 (F := Ideal) x0 x1 x2 x3 (ix3 b l f)
    = FfnRow.hidden (FfnRow.norm (fun k => x0 (ix3 b l k)) (fun k => x1 (ix2 0 k))) (fun k => x2 (ix3 0 k f)) (fun k => x3 (ix3 0 k f)) := by
  pointwise [val_main_v20, val_main_v18, val_main_call0_v0, val_main_call0_v1, val_main_call0_cst, val_main_call0_v2, val_main_call0_v3, val_main_call0_cst_0, val_main_call0_v4, val_main_call0_v5]
  simp only [gate, up, FfnRow.hidden, Ideal.logistic]

/-- The whole half step. -/
theorem half (b : Fin 8) (l : Fin 4096) (j : Fin 1024) : val_main_v24 (F := Ideal) x0 x1 x2 x3 x4 (ix3 b l j)
    = FfnRow.half (fun k => x0 (ix3 b l k)) (fun k => x1 (ix2 0 k)) (fun k f => x2 (ix3 0 k f)) (fun k f => x3 (ix3 0 k f))
        (fun f j => x4 (ix3 0 f j)) j := by
  pointwise [val_main_v24, val_main_v23, val_main_v22, val_main_cst_2, val_main_v21, val_main_v16]
  simp only [hidden, FfnRow.half]

/-- The result, whose rows are the tokens of all sequences one after another. -/
theorem result (r : Fin 32768) (j : Fin 1024) : val_main_v25 (F := Ideal) x0 x1 x2 x3 x4 (ix2 r j)
    = FfnRow.half (fun k => x0 (ix3 ⟨r.val / 4096, by omega⟩ ⟨r.val % 4096, by omega⟩ k)) (fun k => x1 (ix2 0 k))
        (fun k f => x2 (ix3 0 k f)) (fun k f => x3 (ix3 0 k f)) (fun f j => x4 (ix3 0 f j)) j := by
  pointwise [val_main_v25]
  exact half x0 x1 x2 x3 x4 _ _ j

end Cert.Ffn1Ref

end
-- ==== Proof.Ffn1.lean ====
/- The first half-step feed-forward: the row-tiled kernel leaves the array of the plain formula over all tokens. -/
module

public import proofs.«01_k».proof.Proof.Gen.Kernel2Ideal.Value
public import proofs.«01_k».proof.Proof.Ffn1Ref
public import proofs.«01_k».proof.Proof.FfnRow

@[expose] public section

set_option maxRecDepth 16384

noncomputable section

open Idealize.ShloMosaic Idealize.ShloMosaic.TcCoe Idealize.SL.Sem
open Idealize.ShloMosaic.Pipeline (Dat)

namespace Cert.Ffn1

open Cert.Kernel2Ideal Cert.Kernel2Ideal.Gen

/-- One element of what the kernel computes of its blocks, row by row. -/
theorem pay (v0 : Vec Ideal S512x1024 .f32) (v2 : Vec Ideal S1x1024 .f32) (v17 v20 : Vec Ideal S1024x2816 .bf16) (v27 : Vec Ideal S2816x1024 .bf16)
    (r : Fin 512) (j : Fin 1024) : k0_pay1 (F := Ideal) v0 v2 v17 v20 v27 (ix2 r j)
      = FfnRow.half (fun k => v0 (ix2 r k)) (fun k => v2 (ix2 0 k)) (fun k f => v17 (ix2 k f)) (fun k f => v20 (ix2 k f)) (fun f j => v27 (ix2 f j)) j := by
  pointwise [k0_pay1]
  rfl

variable (m : (ℓ : Loc nD τ sig) → Buf (Elt Ideal) ℓ)

/-- The block every window stages at grid point `t`: the token windows take row block `t`, the others their whole array. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

/-- Row `r` of token block `t` is row `512 t + r` of all tokens. -/
theorem read0 (c : Dev nD) (t : Fin cfg0.N) (ht : t.val < 64) (r : Fin 512) (k : Fin 1024) :
    (show Vec Ideal S512x1024 .f32 from iblk m c 0 t) (ix2 r k) = (show FVec Ideal S8x4096x1024 .f32 from m ((c : Thread nD τ).loc main_arg0))
      (ix3 ⟨(t.val * 512 + r.val) / 4096, by omega⟩ ⟨(t.val * 512 + r.val) % 4096, by omega⟩ k) := by
  blk_point [iblk, V, idx t]

theorem read1 (c : Dev nD) (t : Fin cfg0.N) (k : Fin 1024) :
    (show Vec Ideal S1x1024 .f32 from iblk m c 1 t) (ix2 0 k) = (show FVec Ideal S1x1024 .f32 from m ((c : Thread nD τ).loc main_arg1)) (ix2 0 k) := by
  blk_point [iblk, V, idx t]

theorem read2 (c : Dev nD) (t : Fin cfg0.N) (k : Fin 1024) (f : Fin 2816) :
    (show Vec Ideal S1024x2816 .bf16 from iblk m c 2 t) (ix2 k f) = (show FVec Ideal S1x1024x2816 .f32 from m ((c : Thread nD τ).loc main_arg2)) (ix3 0 k f) := by
  blk_point [iblk, V, idx t]

theorem read3 (c : Dev nD) (t : Fin cfg0.N) (k : Fin 1024) (f : Fin 2816) :
    (show Vec Ideal S1024x2816 .bf16 from iblk m c 3 t) (ix2 k f) = (show FVec Ideal S1x1024x2816 .f32 from m ((c : Thread nD τ).loc main_arg3)) (ix3 0 k f) := by
  blk_point [iblk, V, idx t]

theorem read4 (c : Dev nD) (t : Fin cfg0.N) (f : Fin 2816) (j : Fin 1024) :
    (show Vec Ideal S2816x1024 .bf16 from iblk m c 4 t) (ix2 f j) = (show FVec Ideal S1x2816x1024 .f32 from m ((c : Thread nD τ).loc main_arg4)) (ix3 0 f j) := by
  blk_point [iblk, V, idx t]

/-- What the kernel stores at place `y` of row block `t` is the reference's result at the place of the whole array where
    `y` sits. -/
theorem point (c : Dev nD) (t : Fin cfg0.N) (y : S512x1024.Idx) :
    k0_pay1 (F := Ideal) (iblk m c 0 t) (iblk m c 1 t) (iblk m c 2 t) (iblk m c 3 t) (iblk m c 4 t) y
      = Cert.Reference2Ideal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  idx_vars y
  refine (pay _ _ _ _ _ y0 y1).trans ?_
  have ht : t.val < 64 := lt_of_lt_of_eq t.isLt N_0
  have e : (((cfg0.win 5).blk t).view.emb (ix2 y0 y1 : S512x1024.Idx)) = (ix2 (⟨t.val * 512 + y0.val, by omega⟩ : Fin 32768) y1 : S32768x1024.Idx) := by
    blk_ext [idx t]
  refine Eq.trans ?_ ((congrArg _ e).trans (Cert.Ffn1Ref.result _ _ _ _ _ _ y1)).symm
  exact FfnRow.half_congr (read0 m c t ht y0) (read1 m c t) (read2 m c t) (read3 m c t) (read4 m c t) y1

/-- The kernel's result array is the reference's result. -/
theorem final (c : Dev nD) : (dats m 0 c).arrAt 5 (cfgs 0).N
    = Cert.Reference2Ideal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.Ffn1

end
-- ==== Proof.Ffn2Ref.lean ====
/- What the second feed-forward's reference computes, token by token. -/
module

public import proofs.«01_k».proof.Proof.Gen.Reference3Ideal.Read
public import proofs.«01_k».proof.Proof.FfnRow

@[expose] public section

set_option maxRecDepth 16384

noncomputable section

open Idealize.ShloMosaic Idealize.ShloMosaic.TcCoe Idealize.SL.Sem
open Idealize.ShloMosaic.Pipeline (Dat)

namespace Cert.Ffn2Ref

open Cert.Reference3Ideal Cert.Reference3Ideal.Read

variable (x0 : FVec Ideal S8x4096x1024 .f32) (x1 x2 : FVec Ideal S8x4096x512 .f32) (x3 : FVec Ideal S1x1024x1024 .f32) (x4 : FVec Ideal S1x1024 .f32)
  (x5 x6 : FVec Ideal S1x1024x2816 .f32) (x7 : FVec Ideal S1x2816x1024 .f32) (x8 : FVec Ideal S1024 .f32)

/-- The two mixers' outputs laid side by side: the first one's features. -/
theorem left (b : Fin 8) (l : Fin 4096) (k : Fin 512) : val_main_v0 (F := Ideal) x1 x2 (ix3 b l (⟨k.val, by omega⟩ : Fin 1024)) = x1 (ix3 b l k) := by
  pointwise [val_main_v0]

/-- The two mixers' outputs laid side by side: the second one's features. -/
theorem right (b : Fin 8) (l : Fin 4096) (k : Fin 512) : val_main_v0 (F := Ideal) x1 x2 (ix3 b l (⟨512 + k.val, by omega⟩ : Fin 1024)) = x2 (ix3 b l k) := by
  pointwise [val_main_v0]

/-- The residual stream of one token after the output projection. -/
def stream (b : Fin 8) (l : Fin 4096) : Fin 1024 → EReal :=
  FfnRow.mid (fun k => x0 (ix3 b l k)) (fun k => x1 (ix3 b l k)) (fun k => x2 (ix3 b l k)) (fun k j => x3 (ix3 0 k j))

theorem mid (b : Fin 8) (l : Fin 4096) (j : Fin 1024) : val_main_v3 (F := Ideal) x0 x1 x2 x3 (ix3 b l j) = stream x0 x1 x2 x3 b l j := by
  pointwise [val_main_v3, val_main_v2, val_main_v1]
  rw [FfnRow.sum_halves]
  simp only [left, right]
  rfl

/-- The normed features. -/
theorem norm (b : Fin 8) (l : Fin 4096) (k : Fin 1024) : val_main_v17 (F := Ideal) x0 x1 x2 x3 x4 (ix3 b l k)
    = FfnRow.norm (stream x0 x1 x2 x3 b l) (fun k => x4 (ix2 0 k)) k := by
  pointwise [val_main_v4, val_main_v5, val_main_cst, val_main_v6, val_main_v7, val_main_cst_0, val_main_v8, val_main_v9, val_main_cst_1, val_main_v10, val_main_v11, val_main_v12, val_main_v13, val_main_v14, val_main_v15, val_main_v16, val_main_v17]
  simp only [mid]
  rfl

/-- The gate projection. -/
theorem gate (b : Fin 8) (l : Fin 4096) (f : Fin 2816) : val_main_v21 (F := Ideal) x0 x1 x2 x3 x4 x5 (ix3 b l f)
    = FfnRow.proj (FfnRow.norm (stream x0 x1 x2 x3 b l) (fun k => x4 (ix2 0 k))) (fun k => x5 (ix3 0 k f)) := by
  pointwise [val_main_v21, val_main_v18]
  simp only [norm, FfnRow.proj]

/-- The up projection. -/
theorem up (b : Fin 8) (l : Fin 4096) (f : Fin 2816) : val_main_v23 (F := Ideal) x0 x1 x2 x3 x4 x6 (ix3 b l f)
    = FfnRow.proj (FfnRow.norm (stream x0 x1 x2 x3 b l) (fun k => x4 (ix2 0 k))) (fun k => x6 (ix3 0 k f)) := by
  pointwise [val_main_v23, val_main_v19]
  simp only [norm, FfnRow.proj]

/-- The hidden units. -/
theorem hidden (b : Fin 8) (l : Fin 4096) (f : Fin 2816) : val_main_v24 (F := Ideal) x0 x1 x2 x3 x4 x5 x6 (ix3 b l f)
    = FfnRow.hidden (FfnRow.norm (stream x0 x1 x2 x3 b l) (fun k => x4 (ix2 0 k))) (fun k => x5 (ix3 0 k f)) (fun k => x6 (ix3 0 k f)) := by
  pointwise [val_main_v24, val_main_v22, val_main_call0_v0, val_main_call0_v1, val_main_call0_cst, val_main_call0_v2, val_main_call0_v3, val_main_call0_cst_0, val_main_call0_v4, val_main_call0_v5]
  simp only [gate, up, FfnRow.hidden, Ideal.logistic]

/-- The whole half step. -/
theorem half (b : Fin 8) (l : Fin 4096) (j : Fin 1024) : val_main_v28 (F := Ideal) x0 x1 x2 x3 x4 x5 x6 x7 (ix3 b l j)
    = FfnRow.half (stream x0 x1 x2 x3 b l) (fun k => x4 (ix2 0 k)) (fun k f => x5 (ix3 0 k f)) (fun k f => x6 (ix3 0 k f))
        (fun f j => x7 (ix3 0 f j)) j := by
  pointwise [val_main_v28, val_main_v27, val_main_v26, val_main_cst_2, val_main_v25, val_main_v20]
  simp only [hidden, mid, FfnRow.half]

/-- The final norm. -/
theorem last (b : Fin 8) (l : Fin 4096) (j : Fin 1024) : val_main_v41 (F := Ideal) x0 x1 x2 x3 x4 x5 x6 x7 x8 (ix3 b l j)
    = FfnRow.norm (FfnRow.half (stream x0 x1 x2 x3 b l) (fun k => x4 (ix2 0 k)) (fun k f => x5 (ix3 0 k f)) (fun k f => x6 (ix3 0 k f))
        (fun f j => x7 (ix3 0 f j))) (fun k => x8 (ix1 k)) j := by
  pointwise [val_main_v29, val_main_cst_3, val_main_v30, val_main_v31, val_main_cst_4, val_main_v32, val_main_v33, val_main_cst_5, val_main_v34, val_main_v35, val_main_v36, val_main_v37, val_main_v38, val_main_v39, val_main_v40, val_main_v41]
  simp only [half]
  rfl

/-- The result, whose rows are the tokens of all sequences one after another. -/
theorem result (r : Fin 32768) (j : Fin 1024) : val_main_v42 (F := Ideal) x0 x1 x2 x3 x4 x5 x6 x7 x8 (ix2 r j)
    = FfnRow.norm (FfnRow.half (stream x0 x1 x2 x3 ⟨r.val / 4096, by omega⟩ ⟨r.val % 4096, by omega⟩) (fun k => x4 (ix2 0 k))
        (fun k f => x5 (ix3 0 k f)) (fun k f => x6 (ix3 0 k f)) (fun f j => x7 (ix3 0 f j))) (fun k => x8 (ix1 k)) j := by
  pointwise [val_main_v42]
  exact last x0 x1 x2 x3 x4 x5 x6 x7 x8 _ _ j

end Cert.Ffn2Ref

end
-- ==== Proof.Ffn2.lean ====
/- The output projection, second half-step feed-forward and final norm: the row-tiled kernel leaves the array of the plain formula over all tokens. -/
module

public import proofs.«01_k».proof.Proof.Gen.Kernel3Ideal.Value
public import proofs.«01_k».proof.Proof.Ffn2Ref
public import proofs.«01_k».proof.Proof.FfnRow

@[expose] public section

set_option maxRecDepth 16384

noncomputable section

open Idealize.ShloMosaic Idealize.ShloMosaic.TcCoe Idealize.SL.Sem
open Idealize.ShloMosaic.Pipeline (Dat)

namespace Cert.Ffn2

open Cert.Kernel3Ideal Cert.Kernel3Ideal.Gen

/-- The residual stream the kernel forms for row `r` of its blocks: the token plus the two projections, added one after the other. -/
def rowMid (x0 : Vec Ideal S512x1024 .f32) (x1 x2 : Vec Ideal S512x512 .bf16) (x3 x4 : Vec Ideal S512x1024 .bf16) (r : Fin 512) (j : Fin 1024) : EReal :=
  x0 (ix2 r j) + ∑ k : Fin 512, x1 (ix2 r k) * x3 (ix2 k j) + ∑ k : Fin 512, x2 (ix2 r k) * x4 (ix2 k j)

theorem pay2 (x0 : Vec Ideal S512x1024 .f32) (x1 x2 : Vec Ideal S512x512 .bf16) (x3 x4 : Vec Ideal S512x1024 .bf16) (r : Fin 512) (j : Fin 1024) :
    k0_pay2 (F := Ideal) x0 x1 x3 x2 x4 (ix2 r j) = rowMid x0 x1 x2 x3 x4 r j := by
  pointwise [k0_pay2]
  rfl

/-- The kernel's whole block computation. -/
def outBlock (x0 : Vec Ideal S512x1024 .f32) (x1 x2 : Vec Ideal S512x512 .bf16) (x3 x4 : Vec Ideal S512x1024 .bf16) (x5 : Vec Ideal S1x1024 .f32) (x6 x7 : Vec Ideal S1024x2816 .bf16) (x8 : Vec Ideal S2816x1024 .bf16) (x9 : Vec Ideal S1x1024 .f32) : Vec Ideal S512x1024 .f32 :=
  k0_pay1 (F := Ideal) (k0_pay2 x0 x1 x3 x2 x4) (k0_pay4 x0 x1 x3 x2 x4 x5 x6) (k0_pay5 x0 x1 x3 x2 x4 x5 x7) (k0_pay6 x0 x1 x3 x2 x4 x5 x6) x8 x9

variable (x0 : Vec Ideal S512x1024 .f32) (x1 x2 : Vec Ideal S512x512 .bf16) (x3 x4 : Vec Ideal S512x1024 .bf16) (x5 : Vec Ideal S1x1024 .f32) (x6 x7 : Vec Ideal S1024x2816 .bf16) (x8 : Vec Ideal S2816x1024 .bf16) (x9 : Vec Ideal S1x1024 .f32)

theorem pay3 (r : Fin 512) (j : Fin 1024) : k0_pay3 (F := Ideal) x0 x1 x3 x2 x4 x5 (ix2 r j)
    = FfnRow.norm (rowMid x0 x1 x2 x3 x4 r) (fun k => x5 (ix2 0 k)) j := by
  unfold k0_pay3
  pointwise []
  simp only [pay2]
  rfl

theorem pay4 (r : Fin 512) (f : Fin 2816) : k0_pay4 (F := Ideal) x0 x1 x3 x2 x4 x5 x6 (ix2 r f)
    = FfnRow.proj (FfnRow.norm (rowMid x0 x1 x2 x3 x4 r) (fun k => x5 (ix2 0 k))) (fun k => x6 (ix2 k f)) := by
  unfold k0_pay4
  pointwise []
  simp only [pay3]
  rfl

theorem pay5 (r : Fin 512) (f : Fin 2816) : k0_pay5 (F := Ideal) x0 x1 x3 x2 x4 x5 x7 (ix2 r f)
    = FfnRow.proj (FfnRow.norm (rowMid x0 x1 x2 x3 x4 r) (fun k => x5 (ix2 0 k))) (fun k => x7 (ix2 k f)) := by
  unfold k0_pay5
  pointwise []
  simp only [pay3]
  rfl

/-- The block's last step, on any stream `v`, gate `a`, up projection `b` and sigmoid `c`. -/
theorem pay1 (v : FVec Ideal S512x1024 .f32) (a b c : FVec Ideal S512x2816 .f32) (x8 : Vec Ideal S2816x1024 .bf16) (x9 : Vec Ideal S1x1024 .f32) (r : Fin 512) (j : Fin 1024) :
    k0_pay1 (F := Ideal) v a b c x8 x9 (ix2 r j)
      = FfnRow.norm (fun k => v (ix2 r k) + Ideal.ofBits .f32 0x3F000000#32 * ∑ f, a (ix2 r f) * c (ix2 r f) * b (ix2 r f) * x8 (ix2 f k)) (fun k => x9 (ix2 0 k)) j := by
  pointwise [k0_pay1]
  rfl

/-- One element of what the kernel computes of its blocks, row by row. -/
theorem pay (r : Fin 512) (j : Fin 1024) : outBlock x0 x1 x2 x3 x4 x5 x6 x7 x8 x9 (ix2 r j)
    = FfnRow.norm (FfnRow.half (rowMid x0 x1 x2 x3 x4 r) (fun k => x5 (ix2 0 k)) (fun k f => x6 (ix2 k f)) (fun k f => x7 (ix2 k f)) (fun f j => x8 (ix2 f j)))
        (fun k => x9 (ix2 0 k)) j := by
  unfold outBlock
  rw [pay1]
  refine FfnRow.norm_congr (fun k => ?_) (fun _ => rfl) j
  have e6 : ∀ f, k0_pay6 (F := Ideal) x0 x1 x3 x2 x4 x5 x6 (ix2 r f) = Ideal.logistic (k0_pay4 (F := Ideal) x0 x1 x3 x2 x4 x5 x6 (ix2 r f)) := fun f => by
    unfold k0_pay6
    pointwise []
  simp only [pay2, e6, pay4, pay5]
  rfl

variable (m : (ℓ : Loc nD τ sig) → Buf (Elt Ideal) ℓ)

/-- The block every window stages at grid point `t`: the token windows take row block `t`, the others their whole array. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

/-- Row `r` of token block `t` is row `512 t + r` of all tokens. -/
theorem read0 (c : Dev nD) (t : Fin cfg0.N) (ht : t.val < 64) (r : Fin 512) (k : Fin 1024) :
    (show Vec Ideal S512x1024 .f32 from iblk m c 0 t) (ix2 r k) = (show FVec Ideal S8x4096x1024 .f32 from m ((c : Thread nD τ).loc main_arg0))
      (ix3 ⟨(t.val * 512 + r.val) / 4096, by omega⟩ ⟨(t.val * 512 + r.val) % 4096, by omega⟩ k) := by
  blk_point [iblk, V, idx t]

theorem read1 (c : Dev nD) (t : Fin cfg0.N) (ht : t.val < 64) (r : Fin 512) (k : Fin 512) :
    (show Vec Ideal S512x512 .bf16 from iblk m c 1 t) (ix2 r k) = (show FVec Ideal S8x4096x512 .f32 from m ((c : Thread nD τ).loc main_arg1))
      (ix3 ⟨(t.val * 512 + r.val) / 4096, by omega⟩ ⟨(t.val * 512 + r.val) % 4096, by omega⟩ k) := by
  blk_point [iblk, V, idx t]

theorem read2 (c : Dev nD) (t : Fin cfg0.N) (ht : t.val < 64) (r : Fin 512) (k : Fin 512) :
    (show Vec Ideal S512x512 .bf16 from iblk m c 2 t) (ix2 r k) = (show FVec Ideal S8x4096x512 .f32 from m ((c : Thread nD τ).loc main_arg2))
      (ix3 ⟨(t.val * 512 + r.val) / 4096, by omega⟩ ⟨(t.val * 512 + r.val) % 4096, by omega⟩ k) := by
  blk_point [iblk, V, idx t]

/-- The first mixer's half of the output projection. -/
theorem read3 (c : Dev nD) (t : Fin cfg0.N) (k : Fin 512) (j : Fin 1024) :
    (show Vec Ideal S512x1024 .bf16 from iblk m c 3 t) (ix2 k j) = (show FVec Ideal S1x1024x1024 .f32 from m ((c : Thread nD τ).loc main_arg3))
      (ix3 0 ⟨k.val, by omega⟩ j) := by
  blk_point [iblk, V, idx t]

/-- The second mixer's half of the output projection. -/
theorem read4 (c : Dev nD) (t : Fin cfg0.N) (k : Fin 512) (j : Fin 1024) :
    (show Vec Ideal S512x1024 .bf16 from iblk m c 4 t) (ix2 k j) = (show FVec Ideal S1x1024x1024 .f32 from m ((c : Thread nD τ).loc main_arg3))
      (ix3 0 ⟨512 + k.val, by omega⟩ j) := by
  blk_point [iblk, V, idx t]

theorem read5 (c : Dev nD) (t : Fin cfg0.N) (k : Fin 1024) :
    (show Vec Ideal S1x1024 .f32 from iblk m c 5 t) (ix2 0 k) = (show FVec Ideal S1x1024 .f32 from m ((c : Thread nD τ).loc main_arg4))
      (ix2 0 k) := by
  blk_point [iblk, V, idx t]

theorem read6 (c : Dev nD) (t : Fin cfg0.N) (k : Fin 1024) (f : Fin 2816) :
    (show Vec Ideal S1024x2816 .bf16 from iblk m c 6 t) (ix2 k f) = (show FVec Ideal S1x1024x2816 .f32 from m ((c : Thread nD τ).loc main_arg5))
      (ix3 0 k f) := by
  blk_point [iblk, V, idx t]

theorem read7 (c : Dev nD) (t : Fin cfg0.N) (k : Fin 1024) (f : Fin 2816) :
    (show Vec Ideal S1024x2816 .bf16 from iblk m c 7 t) (ix2 k f) = (show FVec Ideal S1x1024x2816 .f32 from m ((c : Thread nD τ).loc main_arg6))
      (ix3 0 k f) := by
  blk_point [iblk, V, idx t]

theorem read8 (c : Dev nD) (t : Fin cfg0.N) (f : Fin 2816) (j : Fin 1024) :
    (show Vec Ideal S2816x1024 .bf16 from iblk m c 8 t) (ix2 f j) = (show FVec Ideal S1x2816x1024 .f32 from m ((c : Thread nD τ).loc main_arg7))
      (ix3 0 f j) := by
  blk_point [iblk, V, idx t]

theorem read9 (c : Dev nD) (t : Fin cfg0.N) (k : Fin 1024) :
    (show Vec Ideal S1x1024 .f32 from iblk m c 9 t) (ix2 0 k) = (show FVec Ideal S1024 .f32 from m ((c : Thread nD τ).loc main_arg8))
      (ix1 k) := by
  blk_point [iblk, V, idx t]

/-- What the kernel stores at place `y` of row block `t` is the reference's result at the place of the whole array where
    `y` sits. -/
theorem point (c : Dev nD) (t : Fin cfg0.N) (y : S512x1024.Idx) :
    outBlock (iblk m c 0 t) (iblk m c 1 t) (iblk m c 2 t) (iblk m c 3 t) (iblk m c 4 t) (iblk m c 5 t) (iblk m c 6 t) (iblk m c 7 t) (iblk m c 8 t) (iblk m c 9 t) y
      = Cert.Reference3Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (((cfg0.win 10).blk t).view.emb y) := by
  idx_vars y
  refine (pay _ _ _ _ _ _ _ _ _ _ y0 y1).trans ?_
  have ht : t.val < 64 := lt_of_lt_of_eq t.isLt N_0
  have e : (((cfg0.win 10).blk t).view.emb (ix2 y0 y1 : S512x1024.Idx)) = (ix2 (⟨t.val * 512 + y0.val, by omega⟩ : Fin 32768) y1 : S32768x1024.Idx) := by
    blk_ext [idx t]
  refine Eq.trans ?_ ((congrArg _ e).trans (Cert.Ffn2Ref.result _ _ _ _ _ _ _ _ _ _ y1)).symm
  refine FfnRow.norm_congr (FfnRow.half_congr (fun j => ?_) (read5 m c t) (read6 m c t) (read7 m c t) (read8 m c t)) (read9 m c t) y1
  exact FfnRow.mid_congr (read0 m c t ht y0) (read1 m c t ht y0) (read2 m c t ht y0) (read3 m c t) (read4 m c t) j

/-- The kernel's result array is the reference's result. -/
theorem final (c : Dev nD) : (dats m 0 c).arrAt 10 (cfgs 0).N
    = Cert.Reference3Ideal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]; frame_out
  exact point m c t y

end Cert.Ffn2

end
-- ==== Proof.MetaRow.lean ====
/- The rows of zeros that stand before the meta tokens: a feed-forward and a projection leave them zero. -/
module

public import proofs.«01_k».proof.Proof.FfnRow
public import proofs.«01_k».proof.Proof.InProjRef

@[expose] public section

noncomputable section

open Idealize.ShloMosaic

namespace Cert.MetaRow

theorem norm_zero (g : Fin 1024 → EReal) (k : Fin 1024) : FfnRow.norm (fun _ => 0) g k = 0 := by
  simp only [FfnRow.norm, zero_mul]

theorem proj_zero (w : Fin 1024 → EReal) : FfnRow.proj (fun _ => 0) w = 0 := by
  simp only [FfnRow.proj, zero_mul, Finset.sum_const_zero]

theorem proj_norm_zero (g w : Fin 1024 → EReal) : FfnRow.proj (FfnRow.norm (fun _ => 0) g) w = 0 :=
  (congrArg (fun n => FfnRow.proj n w) (funext (norm_zero g))).trans (proj_zero w)

/-- The half step of a row of zeros is zero, whatever the weights. -/
theorem half_zero (g : Fin 1024 → EReal) (wg wu : Fin 1024 → Fin 2816 → EReal) (wd : Fin 2816 → Fin 1024 → EReal) (j : Fin 1024) :
    FfnRow.half (fun _ => 0) g wg wu wd j = 0 := by
  simp only [FfnRow.half, FfnRow.hidden, proj_norm_zero, zero_mul, Finset.sum_const_zero, mul_zero, add_zero]

/-- A zero shifted towards a zero is zero. -/
theorem shift_zero (s : EReal) : InProjRef.shift 0 0 s = 0 := by
  simp only [InProjRef.shift, sub_zero, zero_mul, add_zero]

end Cert.MetaRow

end
-- ==== Proof.MetaFfnRef.lean ====
/- What the reference of the meta tokens' feed-forward computes, row by row. -/
module

public import proofs.«01_k».proof.Proof.Gen.Reference5Ideal.Read
public import proofs.«01_k».proof.Proof.MetaRow

@[expose] public section

set_option maxRecDepth 16384

noncomputable section

open Idealize.ShloMosaic Idealize.ShloMosaic.TcCoe Idealize.SL.Sem
open Idealize.ShloMosaic.Pipeline (Dat)

namespace Cert.MetaFfnRef

open Cert.Reference5Ideal Cert.Reference5Ideal.Read

variable (x0 : FVec Ideal S16x1024 .f32) (x1 : FVec Ideal S1x1024 .f32) (x2 x3 : FVec Ideal S1x1024x2816 .f32) (x4 : FVec Ideal S1x2816x1024 .f32)

/-- The normed features. -/
theorem norm (l : Fin 16) (k : Fin 1024) : val_main_v13 (F := Ideal) x0 x1 (ix2 l k)
    = FfnRow.norm (fun k => x0 (ix2 l k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

/-- The gate projection. -/
theorem gate (l : Fin 16) (f : Fin 2816) : val_main_v17 (F := Ideal) x0 x1 x2 (ix2 l f)
    = FfnRow.proj (FfnRow.norm (fun k => x0 (ix2 l k)) (fun k => x1 (ix2 0 k))) (fun k => x2 (ix3 0 k f)) := by
  pointwise [val_main_v17, val_main_v14]
  simp only [norm, FfnRow.proj]

/-- The up projection. -/
theorem up (l : Fin 16) (f : Fin 2816) : val_main_v19 (F := Ideal) x0 x1 x3 (ix2 l f)
    = FfnRow.proj (FfnRow.norm (fun k => x0 (ix2 l k)) (fun k => x1 (ix2 0 k))) (fun k => x3 (ix3 0 k f)) := by
  pointwise [val_main_v19, val_main_v15]
  simp only [norm, FfnRow.proj]

/-- The hidden units. -/
theorem hidden (l : Fin 16) (f : Fin 2816) : val_main_v20 (F := Ideal) x0 x1 x2 x3 (ix2 l f)
    = FfnRow.hidden (FfnRow.norm (fun k => x0 (ix2 l k)) (fun k => x1 (ix2 0 k))) (fun k => x2 (ix3 0 k f)) (fun k => x3 (ix3 0 k f)) := by
  pointwise [val_main_v20, val_main_v18, val_main_call0_v0, val_main_call0_v1, val_main_call0_cst, val_main_call0_v2, val_main_call0_v3, val_main_call0_cst_0, val_main_call0_v4, val_main_call0_v5]
  simp only [gate, up, FfnRow.hidden, Ideal.logistic]

/-- The whole half step. -/
theorem half (l : Fin 16) (j : Fin 1024) : val_main_v24 (F := Ideal) x0 x1 x2 x3 x4 (ix2 l j)
    = FfnRow.half (fun k => x0 (ix2 l k)) (fun k => x1 (ix2 0 k)) (fun k f => x2 (ix3 0 k f)) (fun k f => x3 (ix3 0 k f))
        (fun f j => x4 (ix3 0 f j)) j := by
  pointwise [val_main_v24, val_main_v23, val_main_v22, val_main_cst_2, val_main_v21, val_main_v16]
  simp only [hidden, FfnRow.half]

/-- The result's last sixteen rows are the meta tokens. -/
theorem token (l : Fin 16) (j : Fin 1024) : val_main_v25 (F := Ideal) x0 x1 x2 x3 x4 (ix2 ⟨112 + l.val, by omega⟩ j)
    = FfnRow.half (fun k => x0 (ix2 l k)) (fun k => x1 (ix2 0 k)) (fun k f => x2 (ix3 0 k f)) (fun k f => x3 (ix3 0 k f))
        (fun f j => x4 (ix3 0 f j)) j := by
  refine Eq.trans ?_ (half x0 x1 x2 x3 x4 l j)
  pointwise [val_main_v25]

/-- The rows before them are zero. -/
theorem before (l : Fin 112) (j : Fin 1024) : val_main_v25 (F := Ideal) x0 x1 x2 x3 x4 (ix2 ⟨l.val, by omega⟩ j) = 0 := by
  pointwise [val_main_v25, val_main_call1_v0, val_main_c]
  exact InProjRef.fill

end Cert.MetaFfnRef

end
-- ==== Proof.MetaFfn.lean ====
/- The meta tokens' feed-forward: the one block of rows the kernel works on is the plain formula's, under rows of zeros. -/
module

public import proofs.«01_k».proof.Proof.Gen.Kernel5Ideal.Value
public import proofs.«01_k».proof.Proof.MetaFfnRef
public import proofs.«01_k».proof.Proof.MetaRow
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MetaFfn

open Cert.Kernel5Ideal Cert.Kernel5Ideal.Gen

/-- One element of what the kernel computes of its blocks, row by row. -/
theorem pay (v0 : Vec Ideal S128x1024 .f32) (v2 : Vec Ideal S1x1024 .f32) (v17 v20 : Vec Ideal S1024x2816 .bf16) (v27 : Vec Ideal S2816x1024 .bf16)
    (r : Fin 128) (j : Fin 1024) : k0_pay1 (F := Ideal) v0 v2 v17 v20 v27 (ix2 r j)
      = FfnRow.half (fun k => v0 (ix2 r k)) (fun k => v2 (ix2 0 k)) (fun k f => v17 (ix2 k f)) (fun k f => v20 (ix2 k f)) (fun f j => v27 (ix2 f j)) j := by
  pointwise [k0_pay1]
  rfl

variable (m : (ℓ : Loc nD τ sig) → Buf (Elt Ideal) ℓ)

/-- The block every window stages at grid point `t`: its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The last sixteen rows of the array the kernel reads are the meta tokens. -/
theorem host0 (c : Dev nD) (l : Fin 16) (k : Fin 1024) :
    (show Vec Ideal S128x1024 .f32 from V m c main_v0) (ix2 ⟨112 + l.val, by omega⟩ k)
      = (show FVec Ideal S16x1024 .f32 from m ((c : Thread nD τ).loc main_arg0)) (ix2 l k) := by
  unfold V
  after_reads_at

theorem read0 (c : Dev nD) (t : Fin cfg0.N) (l : Fin 16) (k : Fin 1024) :
    (show Vec Ideal S128x1024 .f32 from iblk m c 0 t) (ix2 ⟨112 + l.val, by omega⟩ k)
      = (show FVec Ideal S16x1024 .f32 from m ((c : Thread nD τ).loc main_arg0)) (ix2 l k) := by
  refine Eq.trans ?_ (host0 m c l k)
  blk_point [iblk, idx t]

/-- The rows before them are zero. -/
theorem host0z (c : Dev nD) (l : Fin 112) (k : Fin 1024) :
    (show Vec Ideal S128x1024 .f32 from V m c main_v0) (ix2 ⟨l.val, by omega⟩ k) = 0 := by
  unfold V
  after_reads_at
  exact InProjRef.fill

theorem read0z (c : Dev nD) (t : Fin cfg0.N) (l : Fin 112) (k : Fin 1024) :
    (show Vec Ideal S128x1024 .f32 from iblk m c 0 t) (ix2 ⟨l.val, by omega⟩ k) = 0 := by
  refine Eq.trans ?_ (host0z m c l k)
  blk_point [iblk, idx t]

theorem host1 (c : Dev nD) (k : Fin 1024) :
    (show Vec Ideal S1x1024 .f32 from V m c main_v2) (ix2 0 k) = (show FVec Ideal S1x1024 .f32 from m ((c : Thread nD τ).loc main_arg1)) (ix2 0 k) := by
  unfold V
  after_reads_at

theorem read1 (c : Dev nD) (t : Fin cfg0.N) (k : Fin 1024) :
    (show Vec Ideal S1x1024 .f32 from iblk m c 1 t) (ix2 0 k) = (show FVec Ideal S1x1024 .f32 from m ((c : Thread nD τ).loc main_arg1)) (ix2 0 k) := by
  refine Eq.trans ?_ (host1 m c k)
  blk_point [iblk, idx t]

theorem host2 (c : Dev nD) (k : Fin 1024) (f : Fin 2816) :
    (show Vec Ideal S1024x2816 .bf16 from V m c main_v4) (ix2 k f) = (show FVec Ideal S1x1024x2816 .f32 from m ((c : Thread nD τ).loc main_arg2)) (ix3 0 k f) := by
  unfold V
  after_reads_at

theorem read2 (c : Dev nD) (t : Fin cfg0.N) (k : Fin 1024) (f : Fin 2816) :
    (show Vec Ideal S1024x2816 .bf16 from iblk m c 2 t) (ix2 k f) = (show FVec Ideal S1x1024x2816 .f32 from m ((c : Thread nD τ).loc main_arg2)) (ix3 0 k f) := by
  refine Eq.trans ?_ (host2 m c k f)
  blk_point [iblk, idx t]

theorem host3 (c : Dev nD) (k : Fin 1024) (f : Fin 2816) :
    (show Vec Ideal S1024x2816 .bf16 from V m c main_v6) (ix2 k f) = (show FVec Ideal S1x1024x2816 .f32 from m ((c : Thread nD τ).loc main_arg3)) (ix3 0 k f) := by
  unfold V
  after_reads_at

theorem read3 (c : Dev nD) (t : Fin cfg0.N) (k : Fin 1024) (f : Fin 2816) :
    (show Vec Ideal S1024x2816 .bf16 from iblk m c 3 t) (ix2 k f) = (show FVec Ideal S1x1024x2816 .f32 from m ((c : Thread nD τ).loc main_arg3)) (ix3 0 k f) := by
  refine Eq.trans ?_ (host3 m c k f)
  blk_point [iblk, idx t]

theorem host4 (c : Dev nD) (f : Fin 2816) (j : Fin 1024) :
    (show Vec Ideal S2816x1024 .bf16 from V m c main_v8) (ix2 f j) = (show FVec Ideal S1x2816x1024 .f32 from m ((c : Thread nD τ).loc main_arg4)) (ix3 0 f j) := by
  unfold V
  after_reads_at

theorem read4 (c : Dev nD) (t : Fin cfg0.N) (f : Fin 2816) (j : Fin 1024) :
    (show Vec Ideal S2816x1024 .bf16 from iblk m c 4 t) (ix2 f j) = (show FVec Ideal S1x2816x1024 .f32 from m ((c : Thread nD τ).loc main_arg4)) (ix3 0 f j) := by
  refine Eq.trans ?_ (host4 m c f j)
  blk_point [iblk, idx t]

/-- What the kernel stores is the reference's result at the same place. -/
theorem point (c : Dev nD) (t : Fin cfg0.N) (r : Fin 128) (j : Fin 1024) :
    k0_pay1 (F := Ideal) (iblk m c 0 t) (iblk m c 1 t) (iblk m c 2 t) (iblk m c 3 t) (iblk m c 4 t) (ix2 r j)
      = Cert.Reference5Ideal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 r j) := by
  refine (pay _ _ _ _ _ r j).trans ?_
  by_cases h : r.val < 112
  · obtain ⟨l, rfl⟩ : ∃ l : Fin 112, r = ⟨l.val, l.isLt.trans (by decide)⟩ := ⟨⟨r.val, h⟩, rfl⟩
    refine Eq.trans ?_ (Cert.MetaFfnRef.before _ _ _ _ _ l j).symm
    refine (FfnRow.half_congr (read0z m c t l) (fun _ => rfl) (fun _ _ => rfl) (fun _ _ => rfl) (fun _ _ => rfl) j).trans ?_
    exact MetaRow.half_zero _ _ _ _ j
  · obtain ⟨l, rfl⟩ : ∃ l : Fin 16, r = ⟨112 + l.val, Nat.add_lt_add_left l.isLt 112⟩ := ⟨⟨r.val - 112, by omega⟩, Fin.ext (by show r.val = 112 + (r.val - 112); omega)⟩
    refine Eq.trans ?_ (Cert.MetaFfnRef.token _ _ _ _ _ l j).symm
    exact FfnRow.half_congr (read0 m c t l) (read1 m c t) (read2 m c t) (read3 m c t) (read4 m c t) j

/-- The kernel's result array is the reference's result. -/
theorem final (c : Dev nD) : (dats m 0 c).arrAt 5 (cfgs 0).N
    = Cert.Reference5Ideal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  idx_vars y
  have e : (((cfg0.win 5).blk t).view.emb (ix2 y0 y1 : S128x1024.Idx)) = (ix2 y0 y1 : S128x1024.Idx) := by
    blk_ext [idx t]
  exact (point m c t y0 y1).trans (congrArg (Cert.Reference5Ideal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4))) e).symm

end Cert.MetaFfn

end
-- ==== Proof.MetaInProjRef.lean ====
/- What the reference of the meta tokens' projection computes, row by row. -/
module

public import proofs.«01_k».proof.Proof.Gen.Reference6Ideal.Run
public import proofs.«01_k».proof.Proof.Gen.Reference6Ideal.Read
public import proofs.«01_k».proof.Proof.MetaRow

@[expose] public section

set_option maxRecDepth 16384

noncomputable section

open Idealize.ShloMosaic Idealize.ShloMosaic.TcCoe Idealize.SL.Sem
open Idealize.ShloMosaic.Pipeline (Dat)

namespace Cert.MetaInProjRef

open Cert.Reference6Ideal Cert.Reference6Ideal.Read

variable (x0 : FVec Ideal S16x1024 .f32) (x1 : FVec Ideal S1x1024 .f32) (x2 : FVec Ideal S1x1024x3232 .f32) (x3 : FVec Ideal S1x1696 .f32)

/-- Column `j` of the projection of meta token `l`. -/
def col (l : Fin 16) (j : Fin 3232) : EReal := FfnRow.proj (FfnRow.norm (fun k => x0 (ix2 l k)) (fun k => x1 (ix2 0 k))) (fun k => x2 (ix3 0 k j))

/-- The same of the token before, which the first token doesn't have: zero. -/
def prev (l : Fin 16) (j : Fin 3232) : EReal := if h : l.val = 0 then 0 else col x0 x1 x2 ⟨l.val - 1, by omega⟩ j

/-- The integer zero arrays are filled up with, as a half-width number. -/
theorem fill16 : (FloatOps.sitofp FTy.bf16 0#32 : Ideal .bf16) = 0 := by
  show ((((0#32 : BitVec 32).toInt : ℤ) : ℝ) : EReal) = 0
  simp

/-- The normed features. -/
theorem norm (l : Fin 16) (k : Fin 1024) : val_main_v13 (F := Ideal) x0 x1 (ix2 l k)
    = FfnRow.norm (fun k => x0 (ix2 l k)) (fun k => x1 (ix2 0 k)) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  rfl

theorem proj (l : Fin 16) (j : Fin 3232) : val_main_v15 (F := Ideal) x0 x1 x2 (ix2 l j) = col x0 x1 x2 l j := by
  pointwise [val_main_v15, val_main_v14]
  simp only [norm, col, FfnRow.proj]

/-- A token's features shifted towards those of the token before. -/
theorem shifted (l : Fin 16) (j : Fin 1696) : val_main_v27 (F := Ideal) x0 x1 x2 x3 (ix2 l j)
    = InProjRef.shift (col x0 x1 x2 l ⟨1536 + j.val, by omega⟩) (prev x0 x1 x2 l ⟨1536 + j.val, by omega⟩) (x3 (ix2 0 j)) := by
  have e : val_main_v21 (F := Ideal) x0 x1 x2 (ix2 l j) = prev x0 x1 x2 l ⟨1536 + j.val, by omega⟩ := by
    unfold prev
    simp only [← proj]
    pointwise [val_main_v21, val_main_v20, val_main_v19, val_main_call0_v0, val_main_c]
    by_cases h : l.val = 0
    · rw [dif_pos h, dif_neg (by omega)]
      exact InProjRef.fill
    · rw [dif_neg h, dif_pos (by omega)]
  simp only [← proj]
  pointwise [val_main_v27, val_main_v26, val_main_v25, val_main_v24, val_main_v23, val_main_v22]
  rw [e]
  pointwise [val_main_v19]
  rfl

/-- The queries of a meta token. -/
theorem query (l : Fin 16) (j : Fin 512) : val_main_v31 (F := Ideal) x0 x1 x2 (ix2 ⟨112 + l.val, by omega⟩ ⟨j.val, by omega⟩)
    = col x0 x1 x2 l ⟨j.val, by omega⟩ * Ideal.ofBits .f32 0x3E38AA3B#32 := by
  rw [← proj]
  pointwise [val_main_v31, val_main_v30, val_main_v29, val_main_v18, val_main_v17, val_main_v16, val_main_cst_2]
  exact dif_pos (by omega)

/-- Its keys and values. -/
theorem key_value (l : Fin 16) (j : Fin 1024) : val_main_v31 (F := Ideal) x0 x1 x2 (ix2 ⟨112 + l.val, by omega⟩ ⟨512 + j.val, by omega⟩)
    = col x0 x1 x2 l ⟨512 + j.val, by omega⟩ := by
  rw [← proj]
  pointwise [val_main_v31, val_main_v30, val_main_v29, val_main_v28]
  exact dif_pos (by omega)

/-- The rows before the meta tokens. -/
theorem before9 (l : Fin 112) (j : Fin 1536) : val_main_v31 (F := Ideal) x0 x1 x2 (ix2 ⟨l.val, by omega⟩ j) = 0 := by
  pointwise [val_main_v31, val_main_call1_v0, val_main_c_3]
  exact fill16

/-- The recurrence's wide columns. -/
theorem wide (l : Fin 16) (j : Fin 1536) : val_main_v33 (F := Ideal) x0 x1 x2 x3 (ix2 ⟨112 + l.val, by omega⟩ j)
    = InProjRef.shift (col x0 x1 x2 l ⟨1536 + j.val, by omega⟩) (prev x0 x1 x2 l ⟨1536 + j.val, by omega⟩) (x3 (ix2 0 ⟨j.val, by omega⟩)) := by
  refine Eq.trans ?_ (shifted x0 x1 x2 x3 l ⟨j.val, by omega⟩)
  pointwise [val_main_v33, val_main_v32]

theorem before10 (l : Fin 112) (j : Fin 1536) : val_main_v33 (F := Ideal) x0 x1 x2 x3 (ix2 ⟨l.val, by omega⟩ j) = 0 := by
  pointwise [val_main_v33, val_main_call2_v0, val_main_c_4]
  exact InProjRef.fill

/-- Its low-rank columns, and the columns that fill them up. -/
theorem narrow (l : Fin 16) (j : Fin 160) : val_main_v36 (F := Ideal) x0 x1 x2 x3 (ix2 ⟨112 + l.val, by omega⟩ ⟨j.val, by omega⟩)
    = InProjRef.shift (col x0 x1 x2 l ⟨3072 + j.val, by omega⟩) (prev x0 x1 x2 l ⟨3072 + j.val, by omega⟩) (x3 (ix2 0 ⟨1536 + j.val, by omega⟩)) := by
  have h := shifted x0 x1 x2 x3 l ⟨1536 + j.val, by omega⟩
  simp only [← Nat.add_assoc, Nat.reduceAdd] at h
  refine Eq.trans ?_ h
  pointwise [val_main_v36, val_main_v35, val_main_v34]
  exact dif_pos (by omega)

theorem filled (l : Fin 16) (j : Fin 96) : val_main_v36 (F := Ideal) x0 x1 x2 x3 (ix2 ⟨112 + l.val, by omega⟩ ⟨160 + j.val, by omega⟩) = 0 := by
  pointwise [val_main_v36, val_main_v35, val_main_call3_v0, val_main_c_5]
  rw [dif_pos (by omega)]
  exact InProjRef.fill

theorem before11 (l : Fin 112) (j : Fin 256) : val_main_v36 (F := Ideal) x0 x1 x2 x3 (ix2 ⟨l.val, by omega⟩ j) = 0 := by
  pointwise [val_main_v36, val_main_call4_v0, val_main_c_6]
  exact InProjRef.fill

/-- The last token's columns, unshifted. -/
theorem last_wide (j : Fin 1536) : val_main_v37 (F := Ideal) x0 x1 x2 (ix2 0 j) = col x0 x1 x2 15 ⟨1536 + j.val, by omega⟩ := by
  rw [← proj]
  pointwise [val_main_v37, val_main_v19]

theorem last_narrow (j : Fin 160) : val_main_v40 (F := Ideal) x0 x1 x2 (ix2 0 ⟨j.val, by omega⟩) = col x0 x1 x2 15 ⟨3072 + j.val, by omega⟩ := by
  rw [← proj]
  pointwise [val_main_v40, val_main_v39, val_main_v38, val_main_v19]
  simp only [← Nat.add_assoc, Nat.reduceAdd]

theorem last_filled (j : Fin 96) : val_main_v40 (F := Ideal) x0 x1 x2 (ix2 0 ⟨160 + j.val, by omega⟩) = 0 := by
  pointwise [val_main_v40, val_main_call5_v0, val_main_c_7]
  exact InProjRef.fill

/-- The reference runs and leaves its five results, named as above, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = val_main_v31 (F := Ideal) (m ((c.tc : Thread nD τ).loc main_arg0)) (m ((c.tc : Thread nD τ).loc main_arg1)) (m ((c.tc : Thread nD τ).loc main_arg2))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v31_eq (m ((c.tc : Thread nD τ).loc main_arg0)) (m ((c.tc : Thread nD τ).loc main_arg1)) (m ((c.tc : Thread nD τ).loc main_arg2))),
      (h c).2.1.trans (val_main_v33_eq (m ((c.tc : Thread nD τ).loc main_arg0)) (m ((c.tc : Thread nD τ).loc main_arg1)) (m ((c.tc : Thread nD τ).loc main_arg2)) (m ((c.tc : Thread nD τ).loc main_arg3))),
      (h c).2.2.1.trans (val_main_v36_eq (m ((c.tc : Thread nD τ).loc main_arg0)) (m ((c.tc : Thread nD τ).loc main_arg1)) (m ((c.tc : Thread nD τ).loc main_arg2)) (m ((c.tc : Thread nD τ).loc main_arg3))),
      (h c).2.2.2.1.trans (val_main_v37_eq (m ((c.tc : Thread nD τ).loc main_arg0)) (m ((c.tc : Thread nD τ).loc main_arg1)) (m ((c.tc : Thread nD τ).loc main_arg2))),
      (h c).2.2.2.2.1.trans (val_main_v40_eq (m ((c.tc : Thread nD τ).loc main_arg0)) (m ((c.tc : Thread nD τ).loc main_arg1)) (m ((c.tc : Thread nD τ).loc main_arg2))),
      (h c).2.2.2.2.2⟩)
    (Cert.Reference6Ideal.Value.run m ρ)

end Cert.MetaInProjRef

end
-- ==== Proof.MetaInProj.lean ====
/- The meta tokens' projection with its token shift: one block of rows, the first 112 of them zero. -/
module

public import proofs.«01_k».proof.Proof.Gen.Kernel6Ideal.Value
public import proofs.«01_k».proof.Proof.MetaInProjRef
public import proofs.«01_k».proof.Proof.InProj
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MetaInProj

open Cert.Kernel6Ideal Cert.Kernel6Ideal.Gen

theorem pay6 (x0 : Vec Ideal S128x1024 .f32) (x1 : Vec Ideal S1x1024 .f32) (r : Fin 128) (k : Fin 1024) :
    k0_pay6 (F := Ideal) x0 x1 (ix2 r k) = FfnRow.norm (fun k => x0 (ix2 r k)) (fun k => x1 (ix2 0 k)) k := by
  pointwise [k0_pay6]
  rfl

theorem pay7 (x0 : Vec Ideal S128x1024 .f32) (x1 : Vec Ideal S1x1024 .f32) (w : Vec Ideal S1024x1536 .bf16) (r : Fin 128) (j : Fin 1536) :
    k0_pay7 (F := Ideal) x0 x1 w (ix2 r j)
      = FfnRow.proj (FfnRow.norm (fun k => x0 (ix2 r k)) (fun k => x1 (ix2 0 k))) (fun k => w (ix2 k j)) := by
  unfold k0_pay7
  pointwise []
  simp only [pay6]
  rfl

/-- The block computation marks row 0, and only it, to take the stored row instead of the one before. -/
theorem marked (r : Fin 128) (a b : EReal) :
    Scalar.select (IntOp.cmpi .eq (BitVec.ofNat 32 r.val) 0#32) a b = if r.val = 0 then a else b := by
  have h : ∀ r : Fin 128, IntOp.cmpi .eq (BitVec.ofNat 32 r.val) 0#32 = if r.val = 0 then 1#1 else 0#1 := by decide +kernel
  refine (congrArg (fun q => Scalar.select q a b) (h r)).trans ?_
  by_cases h0 : r.val = 0
  · rw [if_pos h0, if_pos h0]; rfl
  · rw [if_neg h0, if_neg h0]; rfl

/-- One element of the wide shifted block: row 0 is shifted towards the stored row `s`, every other towards the row before it. -/
theorem pay10 (n : FVec Ideal S128x1024 .bf16) (w : Vec Ideal S1024x1536 .bf16) (s mu : Vec Ideal S1x1536 .f32) (r : Fin 128) (j : Fin 1536) :
    k0_pay10 (F := Ideal) n (iota Kind.tc S128x1 32 [0] iota_S128x1_d0_w32) 0#32 w s mu (ix2 r j)
      = InProjRef.shift (FfnRow.proj (fun k => n (ix2 r k)) (fun k => w (ix2 k j)))
          (if r.val = 0 then s (ix2 0 j) else FfnRow.proj (fun k => n (ix2 ⟨(r.val + 128 - 1) % 128, by omega⟩ k)) (fun k => w (ix2 k j))) (mu (ix2 0 j)) := by
  pointwise [k0_pay10, k0_pay9, k0_pay8]
  rw [marked]
  rfl

/-- The same for the low-rank block. -/
theorem pay1 (n : FVec Ideal S128x1024 .bf16) (w : Vec Ideal S1024x256 .bf16) (s mu : Vec Ideal S1x256 .f32) (r : Fin 128) (j : Fin 256) :
    k0_pay1 (F := Ideal) (k0_pay13 n w) (k0_pay14 n (iota Kind.tc S128x1 32 [0] iota_S128x1_d0_w32) 0#32 w s) mu (ix2 r j)
      = InProjRef.shift (FfnRow.proj (fun k => n (ix2 r k)) (fun k => w (ix2 k j)))
          (if r.val = 0 then s (ix2 0 j) else FfnRow.proj (fun k => n (ix2 ⟨(r.val + 128 - 1) % 128, by omega⟩ k)) (fun k => w (ix2 k j))) (mu (ix2 0 j)) := by
  pointwise [k0_pay1, k0_pay13, k0_pay14, k0_pay8]
  rw [marked]
  rfl

/-- The last row, unshifted, as a result. -/
theorem pay12 (n : FVec Ideal S128x1024 .bf16) (w : Vec Ideal S1024x1536 .bf16) (j : Fin 1536) :
    k0_pay12 (F := Ideal) n w (ix2 0 j) = FfnRow.proj (fun k => n (ix2 ⟨127, by omega⟩ k)) (fun k => w (ix2 k j)) := by
  pointwise [k0_pay12, k0_pay9]
  rfl

theorem pay3 (n : FVec Ideal S128x1024 .bf16) (w : Vec Ideal S1024x256 .bf16) (j : Fin 256) :
    k0_pay3 (F := Ideal) (k0_pay13 n w) (ix2 0 j) = FfnRow.proj (fun k => n (ix2 ⟨127, by omega⟩ k)) (fun k => w (ix2 k j)) := by
  pointwise [k0_pay3, k0_pay13]
  rfl

theorem pay4 (s : Vec Ideal S1x1536 .f32) (j : Fin 1536) : k0_pay4 (F := Ideal) s (ix2 0 j) = s (ix2 0 j) := by
  pointwise [k0_pay4]

theorem pay5 (s : Vec Ideal S1x256 .f32) (j : Fin 256) : k0_pay5 (F := Ideal) s (ix2 0 j) = s (ix2 0 j) := by
  pointwise [k0_pay5]

variable (m : (ℓ : Loc nD τ sig) → Buf (Elt Ideal) ℓ)

/-- What the one grid point leaves of each of the five results. -/
theorem out9 (c : Dev nD) (t : Fin cfg0.N) : (outsAt0 m c t).1 = k0_pay7 (F := Ideal) (iblk m c 0 t) (iblk m c 1 t) (iblk m c 2 t) := by
  unfold outsAt0; frame_out

theorem out10 (c : Dev nD) (t : Fin cfg0.N) : (outsAt0 m c t).2.1
    = k0_pay10 (F := Ideal) (k0_pay6 (iblk m c 0 t) (iblk m c 1 t)) (iota Kind.tc S128x1 32 [0] iota_S128x1_d0_w32) 0#32 (iblk m c 3 t) (k0_pay4 (iblk m c 7 t)) (iblk m c 5 t) := by
  unfold outsAt0; frame_out

theorem out11 (c : Dev nD) (t : Fin cfg0.N) : (outsAt0 m c t).2.2.1
    = k0_pay1 (F := Ideal) (k0_pay13 (k0_pay6 (iblk m c 0 t) (iblk m c 1 t)) (iblk m c 4 t))
        (k0_pay14 (k0_pay6 (iblk m c 0 t) (iblk m c 1 t)) (iota Kind.tc S128x1 32 [0] iota_S128x1_d0_w32) 0#32 (iblk m c 4 t) (k0_pay5 (iblk m c 8 t))) (iblk m c 6 t) := by
  unfold outsAt0; frame_out

theorem out12 (c : Dev nD) (t : Fin cfg0.N) : (outsAt0 m c t).2.2.2.1 = k0_pay12 (F := Ideal) (k0_pay6 (iblk m c 0 t) (iblk m c 1 t)) (iblk m c 3 t) := by
  unfold outsAt0; frame_out

theorem out13 (c : Dev nD) (t : Fin cfg0.N) : (outsAt0 m c t).2.2.2.2 = k0_pay3 (F := Ideal) (k0_pay13 (k0_pay6 (iblk m c 0 t) (iblk m c 1 t)) (iblk m c 4 t)) := by
  unfold outsAt0; frame_out

/-- Every window stages its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-- The last sixteen rows of the array the kernel reads are the meta tokens' features. -/
theorem host0 (c : Dev nD) (l : Fin 16) (k : Fin 1024) :
    (show Vec Ideal S128x1024 .f32 from V m c main_v24) (ix2 ⟨112 + l.val, by omega⟩ k) = (show FVec Ideal S16x1024 .f32 from m ((c : Thread nD τ).loc main_arg0)) (ix2 l k) := by
  unfold V
  after_reads_at

theorem read0 (c : Dev nD) (t : Fin cfg0.N) (l : Fin 16) (k : Fin 1024) :
    (show Vec Ideal S128x1024 .f32 from iblk m c 0 t) (ix2 ⟨112 + l.val, by omega⟩ k) = (show FVec Ideal S16x1024 .f32 from m ((c : Thread nD τ).loc main_arg0)) (ix2 l k) := by
  refine Eq.trans ?_ (host0 m c l k)
  blk_point [iblk, idx t]

/-- The rows before them are zero. -/
theorem host0z (c : Dev nD) (l : Fin 112) (k : Fin 1024) :
    (show Vec Ideal S128x1024 .f32 from V m c main_v24) (ix2 ⟨l.val, by omega⟩ k) = 0 := by
  unfold V
  after_reads_at
  exact InProjRef.fill

theorem read0z (c : Dev nD) (t : Fin cfg0.N) (l : Fin 112) (k : Fin 1024) :
    (show Vec Ideal S128x1024 .f32 from iblk m c 0 t) (ix2 ⟨l.val, by omega⟩ k) = 0 := by
  refine Eq.trans ?_ (host0z m c l k)
  blk_point [iblk, idx t]

/-- The norm's gain. -/
theorem host1 (c : Dev nD) (k : Fin 1024) :
    (show Vec Ideal S1x1024 .f32 from V m c main_v23) (ix2 0 k)
      = (show FVec Ideal S1x1024 .f32 from m ((c : Thread nD τ).loc main_arg1)) (ix2 0 k) := by
  unfold V
  after_reads_at

theorem read1 (c : Dev nD) (t : Fin cfg0.N) (k : Fin 1024) :
    (show Vec Ideal S1x1024 .f32 from iblk m c 1 t) (ix2 0 k)
      = (show FVec Ideal S1x1024 .f32 from m ((c : Thread nD τ).loc main_arg1)) (ix2 0 k) := by
  refine Eq.trans ?_ (host1 m c k)
  blk_point [iblk, idx t]

/-- The query columns come scaled. -/
theorem host2q (c : Dev nD) (k : Fin 1024) (j : Fin 512) :
    (show Vec Ideal S1024x1536 .bf16 from V m c main_v7) (ix2 k ⟨j.val, by omega⟩)
      = (show FVec Ideal S1x1024x3232 .f32 from m ((c : Thread nD τ).loc main_arg2)) (ix3 0 k ⟨j.val, by omega⟩) * Ideal.ofBits .f32 0x3E38AA3B#32 := by
  unfold V
  after_reads_at
  after_reads_at

theorem read2q (c : Dev nD) (t : Fin cfg0.N) (k : Fin 1024) (j : Fin 512) :
    (show Vec Ideal S1024x1536 .bf16 from iblk m c 2 t) (ix2 k ⟨j.val, by omega⟩)
      = (show FVec Ideal S1x1024x3232 .f32 from m ((c : Thread nD τ).loc main_arg2)) (ix3 0 k ⟨j.val, by omega⟩) * Ideal.ofBits .f32 0x3E38AA3B#32 := by
  refine Eq.trans ?_ (host2q m c k j)
  blk_point [iblk, idx t]

/-- The key and value columns. -/
theorem host2 (c : Dev nD) (k : Fin 1024) (j : Fin 1024) :
    (show Vec Ideal S1024x1536 .bf16 from V m c main_v7) (ix2 k ⟨512 + j.val, by omega⟩)
      = (show FVec Ideal S1x1024x3232 .f32 from m ((c : Thread nD τ).loc main_arg2)) (ix3 0 k ⟨512 + j.val, by omega⟩) := by
  unfold V
  after_reads_at
  after_reads_at

theorem read2 (c : Dev nD) (t : Fin cfg0.N) (k : Fin 1024) (j : Fin 1024) :
    (show Vec Ideal S1024x1536 .bf16 from iblk m c 2 t) (ix2 k ⟨512 + j.val, by omega⟩)
      = (show FVec Ideal S1x1024x3232 .f32 from m ((c : Thread nD τ).loc main_arg2)) (ix3 0 k ⟨512 + j.val, by omega⟩) := by
  refine Eq.trans ?_ (host2 m c k j)
  blk_point [iblk, idx t]

/-- The recurrence's wide columns. -/
theorem host3 (c : Dev nD) (k : Fin 1024) (j : Fin 1536) :
    (show Vec Ideal S1024x1536 .bf16 from V m c main_v10) (ix2 k j)
      = (show FVec Ideal S1x1024x3232 .f32 from m ((c : Thread nD τ).loc main_arg2)) (ix3 0 k ⟨1536 + j.val, by omega⟩) := by
  unfold V
  after_reads_at

theorem read3 (c : Dev nD) (t : Fin cfg0.N) (k : Fin 1024) (j : Fin 1536) :
    (show Vec Ideal S1024x1536 .bf16 from iblk m c 3 t) (ix2 k j)
      = (show FVec Ideal S1x1024x3232 .f32 from m ((c : Thread nD τ).loc main_arg2)) (ix3 0 k ⟨1536 + j.val, by omega⟩) := by
  refine Eq.trans ?_ (host3 m c k j)
  blk_point [iblk, idx t]

/-- The low-rank columns, filled up with zeros. -/
theorem host4 (c : Dev nD) (k : Fin 1024) (j : Fin 160) :
    (show Vec Ideal S1024x256 .bf16 from V m c main_v14) (ix2 k ⟨j.val, by omega⟩)
      = (show FVec Ideal S1x1024x3232 .f32 from m ((c : Thread nD τ).loc main_arg2)) (ix3 0 k ⟨3072 + j.val, by omega⟩) := by
  unfold V
  after_reads_at

theorem read4 (c : Dev nD) (t : Fin cfg0.N) (k : Fin 1024) (j : Fin 160) :
    (show Vec Ideal S1024x256 .bf16 from iblk m c 4 t) (ix2 k ⟨j.val, by omega⟩)
      = (show FVec Ideal S1x1024x3232 .f32 from m ((c : Thread nD τ).loc main_arg2)) (ix3 0 k ⟨3072 + j.val, by omega⟩) := by
  refine Eq.trans ?_ (host4 m c k j)
  blk_point [iblk, idx t]

theorem host4z (c : Dev nD) (k : Fin 1024) (j : Fin 96) :
    (show Vec Ideal S1024x256 .bf16 from V m c main_v14) (ix2 k ⟨160 + j.val, by omega⟩)
      = 0 := by
  unfold V
  after_reads_at
  exact InProjRef.fill

theorem read4z (c : Dev nD) (t : Fin cfg0.N) (k : Fin 1024) (j : Fin 96) :
    (show Vec Ideal S1024x256 .bf16 from iblk m c 4 t) (ix2 k ⟨160 + j.val, by omega⟩)
      = 0 := by
  refine Eq.trans ?_ (host4z m c k j)
  blk_point [iblk, idx t]

theorem host5 (c : Dev nD) (j : Fin 1536) :
    (show Vec Ideal S1x1536 .f32 from V m c main_v17) (ix2 0 j)
      = (show FVec Ideal S1x1696 .f32 from m ((c : Thread nD τ).loc main_arg3)) (ix2 0 ⟨j.val, by omega⟩) := by
  unfold V
  after_reads_at

theorem read5 (c : Dev nD) (t : Fin cfg0.N) (j : Fin 1536) :
    (show Vec Ideal S1x1536 .f32 from iblk m c 5 t) (ix2 0 j)
      = (show FVec Ideal S1x1696 .f32 from m ((c : Thread nD τ).loc main_arg3)) (ix2 0 ⟨j.val, by omega⟩) := by
  refine Eq.trans ?_ (host5 m c j)
  blk_point [iblk, idx t]

theorem host6 (c : Dev nD) (j : Fin 160) :
    (show Vec Ideal S1x256 .f32 from V m c main_v21) (ix2 0 ⟨j.val, by omega⟩)
      = (show FVec Ideal S1x1696 .f32 from m ((c : Thread nD τ).loc main_arg3)) (ix2 0 ⟨1536 + j.val, by omega⟩) := by
  unfold V
  after_reads_at

theorem read6 (c : Dev nD) (t : Fin cfg0.N) (j : Fin 160) :
    (show Vec Ideal S1x256 .f32 from iblk m c 6 t) (ix2 0 ⟨j.val, by omega⟩)
      = (show FVec Ideal S1x1696 .f32 from m ((c : Thread nD τ).loc main_arg3)) (ix2 0 ⟨1536 + j.val, by omega⟩) := by
  refine Eq.trans ?_ (host6 m c j)
  blk_point [iblk, idx t]

theorem host6z (c : Dev nD) (j : Fin 96) :
    (show Vec Ideal S1x256 .f32 from V m c main_v21) (ix2 0 ⟨160 + j.val, by omega⟩)
      = 0 := by
  unfold V
  after_reads_at
  exact InProjRef.fill

theorem read6z (c : Dev nD) (t : Fin cfg0.N) (j : Fin 96) :
    (show Vec Ideal S1x256 .f32 from iblk m c 6 t) (ix2 0 ⟨160 + j.val, by omega⟩)
      = 0 := by
  refine Eq.trans ?_ (host6z m c j)
  blk_point [iblk, idx t]

/-- The row the shift starts from is zero. -/
theorem host7 (c : Dev nD) (j : Fin 1536) : (show Vec Ideal S1x1536 .f32 from V m c main_v25) (ix2 0 j) = 0 := by
  unfold V
  after_reads_at

theorem read7 (c : Dev nD) (t : Fin cfg0.N) (j : Fin 1536) : (show Vec Ideal S1x1536 .f32 from iblk m c 7 t) (ix2 0 j) = 0 := by
  refine Eq.trans ?_ (host7 m c j)
  blk_point [iblk, idx t]

theorem host8 (c : Dev nD) (j : Fin 256) : (show Vec Ideal S1x256 .f32 from V m c main_v26) (ix2 0 j) = 0 := by
  unfold V
  after_reads_at

theorem read8 (c : Dev nD) (t : Fin cfg0.N) (j : Fin 256) : (show Vec Ideal S1x256 .f32 from iblk m c 8 t) (ix2 0 j) = 0 := by
  refine Eq.trans ?_ (host8 m c j)
  blk_point [iblk, idx t]

/-- A row before the meta tokens projects to zero, whatever the weights. -/
theorem before_col (c : Dev nD) (t : Fin cfg0.N) (l : Fin 112) (w : Fin 1024 → EReal) :
    FfnRow.proj (fun k => k0_pay6 (F := Ideal) (iblk m c 0 t) (iblk m c 1 t) (ix2 ⟨l.val, by omega⟩ k)) w = 0 := by
  refine (congrArg (fun n => FfnRow.proj n w) (funext fun k => ?_)).trans (MetaRow.proj_zero w)
  exact ((pay6 _ _ _ k).trans (FfnRow.norm_congr (read0z m c t l) (fun _ => rfl) k)).trans (MetaRow.norm_zero _ k)

/-- A meta token's normed features. -/
theorem token_norm (c : Dev nD) (t : Fin cfg0.N) (l : Fin 16) (k : Fin 1024) :
    k0_pay6 (F := Ideal) (iblk m c 0 t) (iblk m c 1 t) (ix2 ⟨112 + l.val, by omega⟩ k)
      = FfnRow.norm (fun k => (show FVec Ideal S16x1024 .f32 from m ((c : Thread nD τ).loc main_arg0)) (ix2 l k)) (fun k => (show FVec Ideal S1x1024 .f32 from m ((c : Thread nD τ).loc main_arg1)) (ix2 0 k)) k :=
  (pay6 _ _ _ k).trans (FfnRow.norm_congr (read0 m c t l) (read1 m c t) k)

/-- Its wide and its low-rank columns, before the shift. -/
theorem wide_col (c : Dev nD) (t : Fin cfg0.N) (l : Fin 16) (j : Fin 1536) :
    FfnRow.proj (fun k => k0_pay6 (F := Ideal) (iblk m c 0 t) (iblk m c 1 t) (ix2 ⟨112 + l.val, by omega⟩ k)) (fun k => (show Vec Ideal S1024x1536 .bf16 from iblk m c 3 t) (ix2 k j))
      = MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨1536 + j.val, by omega⟩ :=
  congrArg₂ FfnRow.proj (funext (token_norm m c t l)) (funext fun k => read3 m c t k j)

theorem narrow_col (c : Dev nD) (t : Fin cfg0.N) (l : Fin 16) (j : Fin 160) :
    FfnRow.proj (fun k => k0_pay6 (F := Ideal) (iblk m c 0 t) (iblk m c 1 t) (ix2 ⟨112 + l.val, by omega⟩ k)) (fun k => (show Vec Ideal S1024x256 .bf16 from iblk m c 4 t) (ix2 k ⟨j.val, by omega⟩))
      = MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨3072 + j.val, by omega⟩ :=
  congrArg₂ FfnRow.proj (funext (token_norm m c t l)) (funext fun k => read4 m c t k j)

/-- The filled-up columns are zero. -/
theorem filled_col (c : Dev nD) (t : Fin cfg0.N) (r : Fin 128) (j : Fin 96) :
    FfnRow.proj (fun k => k0_pay6 (F := Ideal) (iblk m c 0 t) (iblk m c 1 t) (ix2 r k)) (fun k => (show Vec Ideal S1024x256 .bf16 from iblk m c 4 t) (ix2 k ⟨160 + j.val, by omega⟩)) = 0 :=
  Finset.sum_eq_zero fun k _ => (congrArg _ (read4z m c t k j)).trans (mul_zero _)

/-- What a column is shifted towards: zero in the rows before the meta tokens and at the first of them, then the token
    before. `p` is the projection of the block's rows by one column, `q` that of the meta tokens. -/
theorem towards_before (p : Fin 128 → EReal) (hp : ∀ l : Fin 112, p ⟨l.val, by omega⟩ = 0) (s : EReal) (hs : s = 0) (l : Fin 112) :
    (if l.val = 0 then s else p ⟨(l.val + 128 - 1) % 128, by omega⟩) = 0 := by
  by_cases h : l.val = 0
  · rw [if_pos h, hs]
  · rw [if_neg h]
    have e : (⟨(l.val + 128 - 1) % 128, by omega⟩ : Fin 128) = ⟨(⟨l.val - 1, by omega⟩ : Fin 112).val, by show l.val - 1 < 128; omega⟩ :=
      Fin.ext (by show (l.val + 128 - 1) % 128 = l.val - 1; omega)
    rw [e]; exact hp _

theorem towards_token (p : Fin 128 → EReal) (hp : ∀ l : Fin 112, p ⟨l.val, by omega⟩ = 0) (q : Fin 16 → EReal)
    (hq : ∀ l : Fin 16, p ⟨112 + l.val, by omega⟩ = q l) (s : EReal) (l : Fin 16) :
    (if 112 + l.val = 0 then s else p ⟨(112 + l.val + 128 - 1) % 128, by omega⟩) = if h : l.val = 0 then 0 else q ⟨l.val - 1, by omega⟩ := by
  rw [if_neg (by omega)]
  by_cases h : l.val = 0
  · rw [dif_pos h]
    have e : (⟨(112 + l.val + 128 - 1) % 128, by omega⟩ : Fin 128) = ⟨(⟨111, by omega⟩ : Fin 112).val, by show 111 < 128; omega⟩ :=
      Fin.ext (by show (112 + l.val + 128 - 1) % 128 = 111; omega)
    rw [e]; exact hp _
  · rw [dif_neg h, ← hq]
    exact congrArg p (Fin.ext (by show (112 + l.val + 128 - 1) % 128 = 112 + (l.val - 1); omega))

/-- The queries of a meta token. -/
theorem point9q (c : Dev nD) (t : Fin cfg0.N) (l : Fin 16) (j : Fin 512) :
    (show Vec Ideal S128x1536 .bf16 from (outsAt0 m c t).1) (ix2 ⟨112 + l.val, by omega⟩ ⟨j.val, by omega⟩)
      = MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨j.val, by omega⟩ * Ideal.ofBits .f32 0x3E38AA3B#32 := by
  rw [out9]
  refine (pay7 _ _ _ _ _).trans ((congrArg₂ FfnRow.proj ?_ ?_).trans (InProj.proj_scale _ _ _ InProj.factor.1 InProj.factor.2))
  · exact funext (FfnRow.norm_congr (read0 m c t l) (read1 m c t))
  · exact funext fun k => read2q m c t k j

/-- Its keys and values. -/
theorem point9 (c : Dev nD) (t : Fin cfg0.N) (l : Fin 16) (j : Fin 1024) :
    (show Vec Ideal S128x1536 .bf16 from (outsAt0 m c t).1) (ix2 ⟨112 + l.val, by omega⟩ ⟨512 + j.val, by omega⟩)
      = MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨512 + j.val, by omega⟩ := by
  rw [out9]
  refine (pay7 _ _ _ _ _).trans (congrArg₂ FfnRow.proj ?_ ?_)
  · exact funext (FfnRow.norm_congr (read0 m c t l) (read1 m c t))
  · exact funext fun k => read2 m c t k j

/-- The rows before the meta tokens. -/
theorem point9z (c : Dev nD) (t : Fin cfg0.N) (l : Fin 112) (j : Fin 1536) :
    (show Vec Ideal S128x1536 .bf16 from (outsAt0 m c t).1) (ix2 ⟨l.val, by omega⟩ j) = 0 := by
  rw [out9]
  refine (pay7 _ _ _ _ _).trans ((congrArg (fun n => FfnRow.proj n _) (funext fun k => ?_)).trans (MetaRow.proj_zero _))
  exact (FfnRow.norm_congr (read0z m c t l) (fun _ => rfl) k).trans (MetaRow.norm_zero _ k)

/-- The wide columns of a meta token. -/
theorem point10 (c : Dev nD) (t : Fin cfg0.N) (l : Fin 16) (j : Fin 1536) :
    (show Vec Ideal S128x1536 .f32 from (outsAt0 m c t).2.1) (ix2 ⟨112 + l.val, by omega⟩ j)
      = InProjRef.shift (MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨1536 + j.val, by omega⟩) (MetaInProjRef.prev (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨1536 + j.val, by omega⟩)
          ((show FVec Ideal S1x1696 .f32 from m ((c : Thread nD τ).loc main_arg3)) (ix2 0 ⟨j.val, by omega⟩)) := by
  rw [out10]
  refine (pay10 _ _ _ _ _ j).trans ?_
  refine (congrArg₂ (fun p q => InProjRef.shift p _ q) (wide_col m c t l j) (read5 m c t j)).trans ?_
  exact congrArg (fun q => InProjRef.shift _ q _) (towards_token
    (fun r => FfnRow.proj (fun k => k0_pay6 (F := Ideal) (iblk m c 0 t) (iblk m c 1 t) (ix2 r k)) (fun k => (show Vec Ideal S1024x1536 .bf16 from iblk m c 3 t) (ix2 k j)))
    (fun l => before_col m c t l _) _ (fun l => wide_col m c t l j) _ l)

theorem point10z (c : Dev nD) (t : Fin cfg0.N) (l : Fin 112) (j : Fin 1536) :
    (show Vec Ideal S128x1536 .f32 from (outsAt0 m c t).2.1) (ix2 ⟨l.val, by omega⟩ j) = 0 := by
  rw [out10]
  refine (pay10 _ _ _ _ _ j).trans ?_
  refine (congrArg₂ (fun p q => InProjRef.shift p q _) (before_col m c t l _) (towards_before
    (fun r => FfnRow.proj (fun k => k0_pay6 (F := Ideal) (iblk m c 0 t) (iblk m c 1 t) (ix2 r k)) (fun k => (show Vec Ideal S1024x1536 .bf16 from iblk m c 3 t) (ix2 k j)))
    (fun l => before_col m c t l _) _ ((pay4 _ j).trans (read7 m c t j)) l)).trans ?_
  exact MetaRow.shift_zero _

/-- The low-rank columns of a meta token. -/
theorem point11 (c : Dev nD) (t : Fin cfg0.N) (l : Fin 16) (j : Fin 160) :
    (show Vec Ideal S128x256 .f32 from (outsAt0 m c t).2.2.1) (ix2 ⟨112 + l.val, by omega⟩ ⟨j.val, by omega⟩)
      = InProjRef.shift (MetaInProjRef.col (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨3072 + j.val, by omega⟩) (MetaInProjRef.prev (show FVec Ideal S16x1024 .f32 from m ((c : Thread nD τ).loc main_arg0)) (show FVec Ideal S1x1024 .f32 from m ((c : Thread nD τ).loc main_arg1)) (show FVec Ideal S1x1024x3232 .f32 from m ((c : Thread nD τ).loc main_arg2)) l ⟨3072 + j.val, by omega⟩)
          ((show FVec Ideal S1x1696 .f32 from m ((c : Thread nD τ).loc main_arg3)) (ix2 0 ⟨1536 + j.val, by omega⟩)) := by
  rw [out11]
  refine (pay1 _ _ _ _ _ _).trans ?_
  refine (congrArg₂ (fun p q => InProjRef.shift p _ q) (narrow_col m c t l j) (read6 m c t j)).trans ?_
  exact congrArg (fun q => InProjRef.shift _ q _) (towards_token
    (fun r => FfnRow.proj (fun k => k0_pay6 (F := Ideal) (iblk m c 0 t) (iblk m c 1 t) (ix2 r k)) (fun k => (show Vec Ideal S1024x256 .bf16 from iblk m c 4 t) (ix2 k ⟨j.val, by omega⟩)))
    (fun l => before_col m c t l _) _ (fun l => narrow_col m c t l j) _ l)

/-- The filled-up columns stay zero: their share of the row before is zero. -/
theorem point11f (c : Dev nD) (t : Fin cfg0.N) (r : Fin 128) (j : Fin 96) :
    (show Vec Ideal S128x256 .f32 from (outsAt0 m c t).2.2.1) (ix2 r ⟨160 + j.val, by omega⟩) = 0 := by
  have h : ∀ q, InProjRef.shift 0 q 0 = 0 := fun q => by unfold InProjRef.shift; rw [mul_zero, add_zero]
  rw [out11]
  refine (pay1 _ _ _ _ r _).trans ?_
  exact (congrArg₂ (fun p q => InProjRef.shift p _ q) (filled_col m c t r j) (read6z m c t j)).trans (h _)

theorem point11z (c : Dev nD) (t : Fin cfg0.N) (l : Fin 112) (j : Fin 256) :
    (show Vec Ideal S128x256 .f32 from (outsAt0 m c t).2.2.1) (ix2 ⟨l.val, by omega⟩ j) = 0 := by
  rw [out11]
  refine (pay1 _ _ _ _ _ j).trans ?_
  refine (congrArg₂ (fun p q => InProjRef.shift p q _) (before_col m c t l _) (towards_before
    (fun r => FfnRow.proj (fun k => k0_pay6 (F := Ideal) (iblk m c 0 t) (iblk m c 1 t) (ix2 r k)) (fun k => (show Vec Ideal S1024x256 .bf16 from iblk m c 4 t) (ix2 k j)))
    (fun l => before_col m c t l _) _ ((pay5 _ j).trans (read8 m c t j)) l)).trans ?_
  exact MetaRow.shift_zero _

/-- Every row of the block is one before the meta tokens or one of theirs. -/
theorem rows (P : Fin 128 → Prop) (h0 : ∀ l : Fin 112, P ⟨l.val, by omega⟩) (h1 : ∀ l : Fin 16, P ⟨112 + l.val, by omega⟩) (r : Fin 128) : P r := by
  by_cases h : r.val < 112
  · exact h0 ⟨r.val, h⟩
  · have e : r = ⟨112 + (⟨r.val - 112, by omega⟩ : Fin 16).val, by show 112 + (r.val - 112) < 128; omega⟩ := Fin.ext (by show r.val = 112 + (r.val - 112); omega)
    rw [e]; exact h1 _

/-- The kernel's first array is the reference's first result. -/
theorem final9 (c : Dev nD) : (dats m 0 c).arrAt 9 (cfgs 0).N
    = Cert.Reference6Ideal.Read.val_main_v31 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  have e : (((cfg0.win 9).blk t).view.emb (ix2 y0 y1 : S128x1536.Idx)) = (ix2 y0 y1 : S128x1536.Idx) := by
    blk_ext [idx t]
  refine Eq.trans ?_ (congrArg (Cert.Reference6Ideal.Read.val_main_v31 (F := Ideal) (m ((c : Thread nD τ).loc main_arg0)) (m ((c : Thread nD τ).loc main_arg1)) (m ((c : Thread nD τ).loc main_arg2))) e).symm
  revert y0
  refine rows _ (fun l => ?_) (fun l => ?_)
  · exact fun _ => (point9z m c t l y1).trans (Cert.MetaInProjRef.before9 _ _ _ l y1).symm
  · intro _
    by_cases h : y1.val < 512
    · exact (point9q m c t l ⟨y1.val, h⟩).trans (Cert.MetaInProjRef.query _ _ _ l ⟨y1.val, h⟩).symm
    · obtain ⟨j, rfl⟩ : ∃ j : Fin 1024, y1 = ⟨512 + j.val, Nat.add_lt_add_left j.isLt 512⟩ := ⟨⟨y1.val - 512, by omega⟩, Fin.ext (by show y1.val = 512 + (y1.val - 512); omega)⟩
      exact (point9 m c t l j).trans (Cert.MetaInProjRef.key_value _ _ _ l j).symm

/-- The second. -/
theorem final10 (c : Dev nD) : (dats m 0 c).arrAt 10 (cfgs 0).N
    = Cert.Reference6Ideal.Read.val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  idx_vars y
  have e : (((cfg0.win 10).blk t).view.emb (ix2 y0 y1 : S128x1536.Idx)) = (ix2 y0 y1 : S128x1536.Idx) := by
    blk_ext [idx t]
  refine Eq.trans ?_ (congrArg (Cert.Reference6Ideal.Read.val_main_v33 (F := Ideal) (m ((c : Thread nD τ).loc main_arg0)) (m ((c : Thread nD τ).loc main_arg1)) (m ((c : Thread nD τ).loc main_arg2)) (m ((c : Thread nD τ).loc main_arg3))) e).symm
  revert y0
  refine rows _ (fun l => ?_) (fun l => ?_)
  · exact fun _ => (point10z m c t l y1).trans (Cert.MetaInProjRef.before10 _ _ _ _ l y1).symm
  · exact fun _ => (point10 m c t l y1).trans (Cert.MetaInProjRef.wide _ _ _ _ l y1).symm

/-- The third. -/
theorem final11 (c : Dev nD) : (dats m 0 c).arrAt 11 (cfgs 0).N
    = Cert.Reference6Ideal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  idx_vars y
  have e : (((cfg0.win 11).blk t).view.emb (ix2 y0 y1 : S128x256.Idx)) = (ix2 y0 y1 : S128x256.Idx) := by
    blk_ext [idx t]
  refine Eq.trans ?_ (congrArg (Cert.Reference6Ideal.Read.val_main_v36 (F := Ideal) (m ((c : Thread nD τ).loc main_arg0)) (m ((c : Thread nD τ).loc main_arg1)) (m ((c : Thread nD τ).loc main_arg2)) (m ((c : Thread nD τ).loc main_arg3))) e).symm
  revert y0
  refine rows _ (fun l => ?_) (fun l => ?_)
  · exact fun _ => (point11z m c t l y1).trans (Cert.MetaInProjRef.before11 _ _ _ _ l y1).symm
  · intro _
    by_cases h : y1.val < 160
    · exact (point11 m c t l ⟨y1.val, h⟩).trans (Cert.MetaInProjRef.narrow _ _ _ _ l ⟨y1.val, h⟩).symm
    · obtain ⟨j, rfl⟩ : ∃ j : Fin 96, y1 = ⟨160 + j.val, Nat.add_lt_add_left j.isLt 160⟩ := ⟨⟨y1.val - 160, by omega⟩, Fin.ext (by show y1.val = 160 + (y1.val - 160); omega)⟩
      exact (point11f m c t _ j).trans (Cert.MetaInProjRef.filled _ _ _ _ l j).symm

/-- The fourth: the last meta token's wide columns, unshifted. -/
theorem final12 (c : Dev nD) : (dats m 0 c).arrAt 12 (cfgs 0).N
    = Cert.Reference6Ideal.Read.val_main_v37 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  idx_vars y
  have e : (((cfg0.win 12).blk t).view.emb (ix2 y0 y1 : S1x1536.Idx)) = (ix2 y0 y1 : S1x1536.Idx) := by
    blk_ext [idx t]
  refine Eq.trans ?_ (congrArg (Cert.Reference6Ideal.Read.val_main_v37 (F := Ideal) (m ((c : Thread nD τ).loc main_arg0)) (m ((c : Thread nD τ).loc main_arg1)) (m ((c : Thread nD τ).loc main_arg2))) e).symm
  have z : y0 = 0 := Subsingleton.elim _ _
  subst z
  rw [out12]
  exact ((pay12 _ _ y1).trans (wide_col m c t 15 y1)).trans (Cert.MetaInProjRef.last_wide _ _ _ y1).symm

/-- The fifth: its low-rank columns. -/
theorem final13 (c : Dev nD) : (dats m 0 c).arrAt 13 (cfgs 0).N
    = Cert.Reference6Ideal.Read.val_main_v40 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  idx_vars y
  have e : (((cfg0.win 13).blk t).view.emb (ix2 y0 y1 : S1x256.Idx)) = (ix2 y0 y1 : S1x256.Idx) := by
    blk_ext [idx t]
  refine Eq.trans ?_ (congrArg (Cert.Reference6Ideal.Read.val_main_v40 (F := Ideal) (m ((c : Thread nD τ).loc main_arg0)) (m ((c : Thread nD τ).loc main_arg1)) (m ((c : Thread nD τ).loc main_arg2))) e).symm
  have z : y0 = 0 := Subsingleton.elim _ _
  subst z
  rw [out13]
  by_cases h : y1.val < 160
  · exact ((pay3 _ _ _).trans (narrow_col m c t 15 ⟨y1.val, h⟩)).trans (Cert.MetaInProjRef.last_narrow _ _ _ ⟨y1.val, h⟩).symm
  · obtain ⟨j, rfl⟩ : ∃ j : Fin 96, y1 = ⟨160 + j.val, Nat.add_lt_add_left j.isLt 160⟩ := ⟨⟨y1.val - 160, by omega⟩, Fin.ext (by show y1.val = 160 + (y1.val - 160); omega)⟩
    exact ((pay3 _ _ _).trans (filled_col m c t _ j)).trans (Cert.MetaInProjRef.last_filled _ _ _ j).symm

end Cert.MetaInProj

end
-- ==== Proof.lean ====
/- The certificate: the frames of the seven calls and of their references, the one rewrite each idealization states, and the value
   claims, assembled from the modules that prove them. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel3.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.MetaRec
public import proofs.«01_k».proof.Proof.MetaRecPre
public import proofs.«01_k».proof.Proof.Gen.Reference7Ideal.Run
public import proofs.«01_k».proof.Proof.Ffn1
public import proofs.«01_k».proof.Proof.Ffn2
public import proofs.«01_k».proof.Proof.InProj
public import proofs.«01_k».proof.Proof.MetaFfn
public import proofs.«01_k».proof.Proof.MetaInProj
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts

/-- The recurrence's reference runs, ends quiescent and leaves its arguments unchanged. -/
theorem frame_reference : Cert.quiescent_ReferenceIdeal := fun m g _ =>
  θ_run_mono (Cert.ReferenceIdeal.Value.run m g) fun r h =>
    ⟨fun c => (h c).2.2, sem_eq_zero_of_no_sems (by decide) r.2⟩

/-- The first feed-forward's reference runs, ends quiescent and leaves its arguments unchanged. -/
theorem frame_reference2 : Cert.quiescent_Reference2Ideal := fun m g _ =>
  θ_run_mono (Cert.Reference2Ideal.Value.run m g) fun r h =>
    ⟨fun c => (h c).2, sem_eq_zero_of_no_sems (by decide) r.2⟩

/-- The second feed-forward's reference runs, ends quiescent and leaves its arguments unchanged. -/
theorem frame_reference3 : Cert.quiescent_Reference3Ideal := fun m g _ =>
  θ_run_mono (Cert.Reference3Ideal.Value.run m g) fun r h =>
    ⟨fun c => (h c).2, sem_eq_zero_of_no_sems (by decide) r.2⟩

/-- The projection's reference runs, ends quiescent and leaves its arguments unchanged. -/
theorem frame_reference4 : Cert.quiescent_Reference4Ideal := fun m g _ =>
  θ_run_mono (Cert.Reference4Ideal.Value.run m g) fun r h =>
    ⟨fun c => (h c).2.2.2, sem_eq_zero_of_no_sems (by decide) r.2⟩

/-- The reference of the meta tokens' feed-forward runs, ends quiescent and leaves its arguments unchanged. -/
theorem frame_reference5 : Cert.quiescent_Reference5Ideal := fun m g _ =>
  θ_run_mono (Cert.Reference5Ideal.Value.run m g) fun r h =>
    ⟨fun c => (h c).2, sem_eq_zero_of_no_sems (by decide) r.2⟩

/-- The reference of the meta tokens' projection runs, ends quiescent and leaves its arguments unchanged. -/
theorem frame_reference6 : Cert.quiescent_Reference6Ideal := fun m g _ =>
  θ_run_mono (Cert.Reference6Ideal.Value.run m g) fun r h =>
    ⟨fun c => (h c).2.2.2.2.2, sem_eq_zero_of_no_sems (by decide) r.2⟩

/-- The reference of the meta tokens' recurrence runs, ends quiescent and leaves its arguments unchanged. -/
theorem frame_reference7 : Cert.quiescent_Reference7Ideal := fun m g _ =>
  θ_run_mono (Cert.Reference7Ideal.Value.run m g) fun r h =>
    ⟨fun c => (h c).2, sem_eq_zero_of_no_sems (by decide) r.2⟩

/-- The first feed-forward's kernel computes its reference's result. -/
theorem algebraic2 : Cert.algebraic_Kernel2Ideal_Reference2Ideal := by
  pair_intro
  · run_from Cert.Kernel2Ideal.Value.run_blocks m g
  · run_from Cert.Reference2Ideal.Value.run m' g'
    exact (Cert.Reference2Ideal.Read.val_main_v25_eq _ _ _ _ _).trans (Cert.Ffn1.final m c).symm

/-- The second feed-forward's kernel computes its reference's result. -/
theorem algebraic3 : Cert.algebraic_Kernel3Ideal_Reference3Ideal := by
  pair_intro
  · run_from Cert.Kernel3Ideal.Value.run_blocks m g
  · run_from Cert.Reference3Ideal.Value.run m' g'
    refine (Cert.Reference3Ideal.Read.val_main_v42_eq _ _).trans ?_
    obtain ⟨h0, h1, h2, h3, h4, h5, h6, h7, h8⟩ := hagree c
    rw [h0, h1, h2, h3, h4, h5, h6, h7, h8]
    exact (Cert.Ffn2.final m c).symm

/-- The projection's kernel computes its reference's three results. -/
theorem algebraic4 : Cert.algebraic_Kernel4Ideal_Reference4Ideal := by
  pair_intro
  · run_from Cert.Kernel4Ideal.Value.run_blocks m g
  · run_from Cert.InProjRef.run m' g'
    · exact (Cert.InProj.final9 m c).symm
    · exact (Cert.InProj.final10 m c).symm
    · exact (Cert.InProj.final11 m c).symm

/-- The meta tokens' feed-forward computes its reference's result. -/
theorem algebraic5 : Cert.algebraic_Kernel5Ideal_Reference5Ideal := by
  pair_intro
  · run_from Cert.Kernel5Ideal.Value.run_blocks m g
  · run_from Cert.Reference5Ideal.Value.run m' g'
    exact (Cert.Reference5Ideal.Read.val_main_v25_eq _ _ _ _ _).trans (Cert.MetaFfn.final m c).symm

/-- The meta tokens' projection computes its reference's five results. -/
theorem algebraic6 : Cert.algebraic_Kernel6Ideal_Reference6Ideal := by
  pair_intro
  · run_from Cert.Kernel6Ideal.Value.run_blocks m g
  · run_from Cert.MetaInProjRef.run m' g'
    · exact (Cert.MetaInProj.final9 m c).symm
    · exact (Cert.MetaInProj.final10 m c).symm
    · exact (Cert.MetaInProj.final11 m c).symm
    · exact (Cert.MetaInProj.final12 m c).symm
    · exact (Cert.MetaInProj.final13 m c).symm

/-- The one named constant: the kernel's floor stands for the square of the reference's. -/
theorem floor_named : Cert.preserves_Kernel_KernelIdeal :=
  IdealRules.named_const.statement _ _ _ _ _ rfl

/-- The same constant in the meta tokens' recurrence. -/
theorem floor_named7 : Cert.preserves_Kernel7_Kernel7Ideal :=
  IdealRules.named_const.statement _ _ _ _ _ rfl

/-- The meta tokens' recurrence computes its reference's last state where the keys, the values and the keys' second gain
    are real numbers. -/
theorem algebraic7 : Cert.algebraic_Kernel7Ideal_Reference7Ideal_pre_finite := by
  intro m g m' g' hpre hagree
  have H : ∀ c, Cert.MetaRec.Reals (Cert.MetaRec.B0 m c) (Cert.MetaRec.B7 m c) := fun c =>
    Cert.Pre_finite.of_fn _ _ _ _ _ _ _ _ _ _ _ (Shape.Idx.first Cert.Pre_finite.Facts.h_S_) (congrFun (hpre c) _)
  refine ⟨fun c => (Cert.Kernel7Ideal.Gen.dats m 0 c).arrAt 14 Cert.Kernel7Ideal.cfg0.N, ?_, ?_⟩
  · run_from Cert.Kernel7Ideal.Value.run_blocks m g
  · run_from Cert.Reference7Ideal.Value.run m' g'
    obtain ⟨h0, h1, h2, h3, h4, h5, h6, h7, h8, h9, h10⟩ := hagree c
    refine (Cert.MetaRec.final m c (H c) _ fun q i j => ?_).symm
    have H' : Cert.MetaRec.Reals (Cert.MetaRecEntry.A0 m' c) (Cert.MetaRecEntry.A7 m' c) := by
      have e0 : Cert.MetaRecEntry.A0 m' c = Cert.MetaRec.B0 m c := h0
      have e7 : Cert.MetaRecEntry.A7 m' c = Cert.MetaRec.B7 m c := h7
      rw [e0, e7]
      exact H c
    have e : Cert.MetaRecRef.Q m' c = Cert.MetaRec.K m c := by
      have e0 : Cert.MetaRecEntry.A0 m' c = Cert.MetaRec.B0 m c := h0
      have e1 : Cert.MetaRecEntry.A1 m' c = Cert.MetaRec.B1 m c := h1
      have e2 : Cert.MetaRecEntry.A2 m' c = Cert.MetaRec.B2 m c := h2
      have e3 : Cert.MetaRecEntry.A3 m' c = Cert.MetaRec.B3 m c := h3
      have e4 : Cert.MetaRecEntry.A4 m' c = Cert.MetaRec.B4 m c := h4
      have e6 : Cert.MetaRecEntry.A6 m' c = Cert.MetaRec.B6 m c := h6
      have e7 : Cert.MetaRecEntry.A7 m' c = Cert.MetaRec.B7 m c := h7
      unfold Cert.MetaRecRef.Q
      rw [e0, e1, e2, e3, e4, e6, e7]
    exact (Cert.MetaRecRef.final H' q i j).trans (by rw [e])

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ,
    fun m ρ _ => Cert.Kernel7Ideal.Gen.frame m ρ, frame_reference7, fun m g _ => frame_reference7 m g trivial,
    floor_named, trivial, algebraic2, trivial, algebraic3, trivial, algebraic4, trivial, algebraic5, trivial, algebraic6, floor_named7, algebraic7⟩

end Cert.Proof

end
